-- ==== Defs.lean ====
def Pre_Natten (m : (ℓ : Loc Cert.Natten.nD Cert.Natten.τ Cert.Natten.sig) → Buf (Elt Bits) ℓ) : Prop :=
  True

def Pre_NattenIdeal (m : (ℓ : Loc Cert.NattenIdeal.nD Cert.NattenIdeal.τ Cert.NattenIdeal.sig) → Buf (Elt Ideal) ℓ) : Prop :=
  True

def Pre_NattenIdeal_finite [hPre_finite : Cert.Pre_finite.Facts] (m : (ℓ : Loc Cert.NattenIdeal.nD Cert.NattenIdeal.τ Cert.NattenIdeal.sig) → Buf (Elt Ideal) ℓ) : Prop :=
  ∀ c : Dev Cert.NattenIdeal.nD,
    (Cert.Pre_finite.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1)) (m ((c.tc : Thread Cert.NattenIdeal.nD Cert.NattenIdeal.τ).loc Cert.NattenIdeal.main_arg2))) = (fun _ => 1#1)

def Pre_NattenRefIdeal (m : (ℓ : Loc Cert.NattenRefIdeal.nD Cert.NattenRefIdeal.τ Cert.NattenRefIdeal.sig) → Buf (Elt Ideal) ℓ) : Prop :=
  True

def Pre_NattenRefIdeal_finite [hPre_finite : Cert.Pre_finite.Facts] (m : (ℓ : Loc Cert.NattenRefIdeal.nD Cert.NattenRefIdeal.τ Cert.NattenRefIdeal.sig) → Buf (Elt Ideal) ℓ) : Prop :=
  ∀ c : Dev Cert.NattenRefIdeal.nD,
    (Cert.Pre_finite.fn (F := Ideal) (m ((c.tc : Thread Cert.NattenRefIdeal.nD Cert.NattenRefIdeal.τ).loc Cert.NattenRefIdeal.main_arg0)) (m ((c.tc : Thread Cert.NattenRefIdeal.nD Cert.NattenRefIdeal.τ).loc Cert.NattenRefIdeal.main_arg1)) (m ((c.tc : Thread Cert.NattenRefIdeal.nD Cert.NattenRefIdeal.τ).loc Cert.NattenRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Channels (m : (ℓ : Loc Cert.Channels.nD Cert.Channels.τ Cert.Channels.sig) → Buf (Elt Bits) ℓ) : Prop :=
  True

def Pre_ChannelsIdeal (m : (ℓ : Loc Cert.ChannelsIdeal.nD Cert.ChannelsIdeal.τ Cert.ChannelsIdeal.sig) → Buf (Elt Ideal) ℓ) : Prop :=
  True

def Pre_ChannelsRefIdeal (m : (ℓ : Loc Cert.ChannelsRefIdeal.nD Cert.ChannelsRefIdeal.τ Cert.ChannelsRefIdeal.sig) → Buf (Elt Ideal) ℓ) : Prop :=
  True

def Pre_Positions (m : (ℓ : Loc Cert.Positions.nD Cert.Positions.τ Cert.Positions.sig) → Buf (Elt Bits) ℓ) : Prop :=
  True

def Pre_PositionsIdeal (m : (ℓ : Loc Cert.PositionsIdeal.nD Cert.PositionsIdeal.τ Cert.PositionsIdeal.sig) → Buf (Elt Ideal) ℓ) : Prop :=
  True

def Pre_PositionsRefIdeal (m : (ℓ : Loc Cert.PositionsRefIdeal.nD Cert.PositionsRefIdeal.τ Cert.PositionsRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Natten [hNatten : Cert.Natten.Facts] : Prop :=
  ∀ (m : (ℓ : Loc Cert.Natten.nD Cert.Natten.τ Cert.Natten.sig) → Buf (Elt Bits) ℓ) (g : Dev Cert.Natten.nD → PrngReg), Pre_Natten m →
    θ_run (Cert.Natten.defs (F := Bits)) (onTc (τ := Cert.Natten.τ) (Cert.Natten.main (F := Bits))) ⟨m, fun _ => 0, g⟩ (fun r => (∀ c : Dev Cert.Natten.nD,
      r.2.mem ((c.tc : Thread Cert.Natten.nD Cert.Natten.τ).loc Cert.Natten.main_arg0) = m ((c.tc : Thread Cert.Natten.nD Cert.Natten.τ).loc Cert.Natten.main_arg0)
      ∧ r.2.mem ((c.tc : Thread Cert.Natten.nD Cert.Natten.τ).loc Cert.Natten.main_arg1) = m ((c.tc : Thread Cert.Natten.nD Cert.Natten.τ).loc Cert.Natten.main_arg1)
      ∧ r.2.mem ((c.tc : Thread Cert.Natten.nD Cert.Natten.τ).loc Cert.Natten.main_arg2) = m ((c.tc : Thread Cert.Natten.nD Cert.Natten.τ).loc Cert.Natten.main_arg2))
      ∧ r.2.sem = fun _ => 0)

def quiescent_NattenIdeal [hNattenIdeal : Cert.NattenIdeal.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ r.2.sem = fun _ => 0)

def quiescent_NattenIdeal_pre_finite [hNattenIdeal : Cert.NattenIdeal.Facts] [hPre_finite : Cert.Pre_finite.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal_finite m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ r.2.sem = fun _ => 0)

def quiescent_NattenRefIdeal [hNattenRefIdeal : Cert.NattenRefIdeal.Facts] : Prop :=
  ∀ (m : (ℓ : Loc Cert.NattenRefIdeal.nD Cert.NattenRefIdeal.τ Cert.NattenRefIdeal.sig) → Buf (Elt Ideal) ℓ) (g : Dev Cert.NattenRefIdeal.nD → PrngReg), Pre_NattenRefIdeal m →
    θ_run (Cert.NattenRefIdeal.defs (F := Ideal)) (onTc (τ := Cert.NattenRefIdeal.τ) (Cert.NattenRefIdeal.main (F := Ideal))) ⟨m, fun _ => 0, g⟩ (fun r => (∀ c : Dev Cert.NattenRefIdeal.nD,
      r.2.mem ((c.tc : Thread Cert.NattenRefIdeal.nD Cert.NattenRefIdeal.τ).loc Cert.NattenRefIdeal.main_arg0) = m ((c.tc : Thread Cert.NattenRefIdeal.nD Cert.NattenRefIdeal.τ).loc Cert.NattenRefIdeal.main_arg0)
      ∧ r.2.mem ((c.tc : Thread Cert.NattenRefIdeal.nD Cert.NattenRefIdeal.τ).loc Cert.NattenRefIdeal.main_arg1) = m ((c.tc : Thread Cert.NattenRefIdeal.nD Cert.NattenRefIdeal.τ).loc Cert.NattenRefIdeal.main_arg1)
      ∧ r.2.mem ((c.tc : Thread Cert.NattenRefIdeal.nD Cert.NattenRefIdeal.τ).loc Cert.NattenRefIdeal.main_arg2) = m ((c.tc : Thread Cert.NattenRefIdeal.nD Cert.NattenRefIdeal.τ).loc Cert.NattenRefIdeal.main_arg2))
      ∧ r.2.sem = fun _ => 0)

def quiescent_NattenRefIdeal_pre_finite [hNattenRefIdeal : Cert.NattenRefIdeal.Facts] [hPre_finite : Cert.Pre_finite.Facts] : Prop :=
  ∀ (m : (ℓ : Loc Cert.NattenRefIdeal.nD Cert.NattenRefIdeal.τ Cert.NattenRefIdeal.sig) → Buf (Elt Ideal) ℓ) (g : Dev Cert.NattenRefIdeal.nD → PrngReg), Pre_NattenRefIdeal_finite m →
    θ_run (Cert.NattenRefIdeal.defs (F := Ideal)) (onTc (τ := Cert.NattenRefIdeal.τ) (Cert.NattenRefIdeal.main (F := Ideal))) ⟨m, fun _ => 0, g⟩ (fun r => (∀ c : Dev Cert.NattenRefIdeal.nD,
      r.2.mem ((c.tc : Thread Cert.NattenRefIdeal.nD Cert.NattenRefIdeal.τ).loc Cert.NattenRefIdeal.main_arg0) = m ((c.tc : Thread Cert.NattenRefIdeal.nD Cert.NattenRefIdeal.τ).loc Cert.NattenRefIdeal.main_arg0)
      ∧ r.2.mem ((c.tc : Thread Cert.NattenRefIdeal.nD Cert.NattenRefIdeal.τ).loc Cert.NattenRefIdeal.main_arg1) = m ((c.tc : Thread Cert.NattenRefIdeal.nD Cert.NattenRefIdeal.τ).loc Cert.NattenRefIdeal.main_arg1)
      ∧ r.2.mem ((c.tc : Thread Cert.NattenRefIdeal.nD Cert.NattenRefIdeal.τ).loc Cert.NattenRefIdeal.main_arg2) = m ((c.tc : Thread Cert.NattenRefIdeal.nD Cert.NattenRefIdeal.τ).loc Cert.NattenRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Channels [hChannels : Cert.Channels.Facts] : Prop :=
  ∀ (m : (ℓ : Loc Cert.Channels.nD Cert.Channels.τ Cert.Channels.sig) → Buf (Elt Bits) ℓ) (g : Dev Cert.Channels.nD → PrngReg), Pre_Channels m →
    θ_run (Cert.Channels.defs (F := Bits)) (onTc (τ := Cert.Channels.τ) (Cert.Channels.main (F := Bits))) ⟨m, fun _ => 0, g⟩ (fun r => (∀ c : Dev Cert.Channels.nD,
      r.2.mem ((c.tc : Thread Cert.Channels.nD Cert.Channels.τ).loc Cert.Channels.main_arg0) = m ((c.tc : Thread Cert.Channels.nD Cert.Channels.τ).loc Cert.Channels.main_arg0)
      ∧ r.2.mem ((c.tc : Thread Cert.Channels.nD Cert.Channels.τ).loc Cert.Channels.main_arg1) = m ((c.tc : Thread Cert.Channels.nD Cert.Channels.τ).loc Cert.Channels.main_arg1)
      ∧ r.2.mem ((c.tc : Thread Cert.Channels.nD Cert.Channels.τ).loc Cert.Channels.main_arg2) = m ((c.tc : Thread Cert.Channels.nD Cert.Channels.τ).loc Cert.Channels.main_arg2))
      ∧ r.2.sem = fun _ => 0)

def quiescent_ChannelsIdeal [hChannelsIdeal : Cert.ChannelsIdeal.Facts] : Prop :=
  ∀ (m : (ℓ : Loc Cert.ChannelsIdeal.nD Cert.ChannelsIdeal.τ Cert.ChannelsIdeal.sig) → Buf (Elt Ideal) ℓ) (g : Dev Cert.ChannelsIdeal.nD → PrngReg), Pre_ChannelsIdeal m →
    θ_run (Cert.ChannelsIdeal.defs (F := Ideal)) (onTc (τ := Cert.ChannelsIdeal.τ) (Cert.ChannelsIdeal.main (F := Ideal))) ⟨m, fun _ => 0, g⟩ (fun r => (∀ c : Dev Cert.ChannelsIdeal.nD,
      r.2.mem ((c.tc : Thread Cert.ChannelsIdeal.nD Cert.ChannelsIdeal.τ).loc Cert.ChannelsIdeal.main_arg0) = m ((c.tc : Thread Cert.ChannelsIdeal.nD Cert.ChannelsIdeal.τ).loc Cert.ChannelsIdeal.main_arg0)
      ∧ r.2.mem ((c.tc : Thread Cert.ChannelsIdeal.nD Cert.ChannelsIdeal.τ).loc Cert.ChannelsIdeal.main_arg1) = m ((c.tc : Thread Cert.ChannelsIdeal.nD Cert.ChannelsIdeal.τ).loc Cert.ChannelsIdeal.main_arg1)
      ∧ r.2.mem ((c.tc : Thread Cert.ChannelsIdeal.nD Cert.ChannelsIdeal.τ).loc Cert.ChannelsIdeal.main_arg2) = m ((c.tc : Thread Cert.ChannelsIdeal.nD Cert.ChannelsIdeal.τ).loc Cert.ChannelsIdeal.main_arg2))
      ∧ r.2.sem = fun _ => 0)

def quiescent_ChannelsRefIdeal [hChannelsRefIdeal : Cert.ChannelsRefIdeal.Facts] : Prop :=
  ∀ (m : (ℓ : Loc Cert.ChannelsRefIdeal.nD Cert.ChannelsRefIdeal.τ Cert.ChannelsRefIdeal.sig) → Buf (Elt Ideal) ℓ) (g : Dev Cert.ChannelsRefIdeal.nD → PrngReg), Pre_ChannelsRefIdeal m →
    θ_run (Cert.ChannelsRefIdeal.defs (F := Ideal)) (onTc (τ := Cert.ChannelsRefIdeal.τ) (Cert.ChannelsRefIdeal.main (F := Ideal))) ⟨m, fun _ => 0, g⟩ (fun r => (∀ c : Dev Cert.ChannelsRefIdeal.nD,
      r.2.mem ((c.tc : Thread Cert.ChannelsRefIdeal.nD Cert.ChannelsRefIdeal.τ).loc Cert.ChannelsRefIdeal.main_arg0) = m ((c.tc : Thread Cert.ChannelsRefIdeal.nD Cert.ChannelsRefIdeal.τ).loc Cert.ChannelsRefIdeal.main_arg0)
      ∧ r.2.mem ((c.tc : Thread Cert.ChannelsRefIdeal.nD Cert.ChannelsRefIdeal.τ).loc Cert.ChannelsRefIdeal.main_arg1) = m ((c.tc : Thread Cert.ChannelsRefIdeal.nD Cert.ChannelsRefIdeal.τ).loc Cert.ChannelsRefIdeal.main_arg1)
      ∧ r.2.mem ((c.tc : Thread Cert.ChannelsRefIdeal.nD Cert.ChannelsRefIdeal.τ).loc Cert.ChannelsRefIdeal.main_arg2) = m ((c.tc : Thread Cert.ChannelsRefIdeal.nD Cert.ChannelsRefIdeal.τ).loc Cert.ChannelsRefIdeal.main_arg2))
      ∧ r.2.sem = fun _ => 0)

def quiescent_Positions [hPositions : Cert.Positions.Facts] : Prop :=
  ∀ (m : (ℓ : Loc Cert.Positions.nD Cert.Positions.τ Cert.Positions.sig) → Buf (Elt Bits) ℓ) (g : Dev Cert.Positions.nD → PrngReg), Pre_Positions m →
    θ_run (Cert.Positions.defs (F := Bits)) (onTc (τ := Cert.Positions.τ) (Cert.Positions.main (F := Bits))) ⟨m, fun _ => 0, g⟩ (fun r => (∀ c : Dev Cert.Positions.nD,
      r.2.mem ((c.tc : Thread Cert.Positions.nD Cert.Positions.τ).loc Cert.Positions.main_arg0) = m ((c.tc : Thread Cert.Positions.nD Cert.Positions.τ).loc Cert.Positions.main_arg0)
      ∧ r.2.mem ((c.tc : Thread Cert.Positions.nD Cert.Positions.τ).loc Cert.Positions.main_arg1) = m ((c.tc : Thread Cert.Positions.nD Cert.Positions.τ).loc Cert.Positions.main_arg1)
      ∧ r.2.mem ((c.tc : Thread Cert.Positions.nD Cert.Positions.τ).loc Cert.Positions.main_arg2) = m ((c.tc : Thread Cert.Positions.nD Cert.Positions.τ).loc Cert.Positions.main_arg2)
      ∧ r.2.mem ((c.tc : Thread Cert.Positions.nD Cert.Positions.τ).loc Cert.Positions.main_arg3) = m ((c.tc : Thread Cert.Positions.nD Cert.Positions.τ).loc Cert.Positions.main_arg3)
      ∧ r.2.mem ((c.tc : Thread Cert.Positions.nD Cert.Positions.τ).loc Cert.Positions.main_arg4) = m ((c.tc : Thread Cert.Positions.nD Cert.Positions.τ).loc Cert.Positions.main_arg4)
      ∧ r.2.mem ((c.tc : Thread Cert.Positions.nD Cert.Positions.τ).loc Cert.Positions.main_arg5) = m ((c.tc : Thread Cert.Positions.nD Cert.Positions.τ).loc Cert.Positions.main_arg5))
      ∧ r.2.sem = fun _ => 0)

def quiescent_PositionsIdeal [hPositionsIdeal : Cert.PositionsIdeal.Facts] : Prop :=
  ∀ (m : (ℓ : Loc Cert.PositionsIdeal.nD Cert.PositionsIdeal.τ Cert.PositionsIdeal.sig) → Buf (Elt Ideal) ℓ) (g : Dev Cert.PositionsIdeal.nD → PrngReg), Pre_PositionsIdeal m →
    θ_run (Cert.PositionsIdeal.defs (F := Ideal)) (onTc (τ := Cert.PositionsIdeal.τ) (Cert.PositionsIdeal.main (F := Ideal))) ⟨m, fun _ => 0, g⟩ (fun r => (∀ c : Dev Cert.PositionsIdeal.nD,
      r.2.mem ((c.tc : Thread Cert.PositionsIdeal.nD Cert.PositionsIdeal.τ).loc Cert.PositionsIdeal.main_arg0) = m ((c.tc : Thread Cert.PositionsIdeal.nD Cert.PositionsIdeal.τ).loc Cert.PositionsIdeal.main_arg0)
      ∧ r.2.mem ((c.tc : Thread Cert.PositionsIdeal.nD Cert.PositionsIdeal.τ).loc Cert.PositionsIdeal.main_arg1) = m ((c.tc : Thread Cert.PositionsIdeal.nD Cert.PositionsIdeal.τ).loc Cert.PositionsIdeal.main_arg1)
      ∧ r.2.mem ((c.tc : Thread Cert.PositionsIdeal.nD Cert.PositionsIdeal.τ).loc Cert.PositionsIdeal.main_arg2) = m ((c.tc : Thread Cert.PositionsIdeal.nD Cert.PositionsIdeal.τ).loc Cert.PositionsIdeal.main_arg2)
      ∧ r.2.mem ((c.tc : Thread Cert.PositionsIdeal.nD Cert.PositionsIdeal.τ).loc Cert.PositionsIdeal.main_arg3) = m ((c.tc : Thread Cert.PositionsIdeal.nD Cert.PositionsIdeal.τ).loc Cert.PositionsIdeal.main_arg3)
      ∧ r.2.mem ((c.tc : Thread Cert.PositionsIdeal.nD Cert.PositionsIdeal.τ).loc Cert.PositionsIdeal.main_arg4) = m ((c.tc : Thread Cert.PositionsIdeal.nD Cert.PositionsIdeal.τ).loc Cert.PositionsIdeal.main_arg4)
      ∧ r.2.mem ((c.tc : Thread Cert.PositionsIdeal.nD Cert.PositionsIdeal.τ).loc Cert.PositionsIdeal.main_arg5) = m ((c.tc : Thread Cert.PositionsIdeal.nD Cert.PositionsIdeal.τ).loc Cert.PositionsIdeal.main_arg5))
      ∧ r.2.sem = fun _ => 0)

def quiescent_PositionsRefIdeal [hPositionsRefIdeal : Cert.PositionsRefIdeal.Facts] : Prop :=
  ∀ (m : (ℓ : Loc Cert.PositionsRefIdeal.nD Cert.PositionsRefIdeal.τ Cert.PositionsRefIdeal.sig) → Buf (Elt Ideal) ℓ) (g : Dev Cert.PositionsRefIdeal.nD → PrngReg), Pre_PositionsRefIdeal m →
    θ_run (Cert.PositionsRefIdeal.defs (F := Ideal)) (onTc (τ := Cert.PositionsRefIdeal.τ) (Cert.PositionsRefIdeal.main (F := Ideal))) ⟨m, fun _ => 0, g⟩ (fun r => (∀ c : Dev Cert.PositionsRefIdeal.nD,
      r.2.mem ((c.tc : Thread Cert.PositionsRefIdeal.nD Cert.PositionsRefIdeal.τ).loc Cert.PositionsRefIdeal.main_arg0) = m ((c.tc : Thread Cert.PositionsRefIdeal.nD Cert.PositionsRefIdeal.τ).loc Cert.PositionsRefIdeal.main_arg0)
      ∧ r.2.mem ((c.tc : Thread Cert.PositionsRefIdeal.nD Cert.PositionsRefIdeal.τ).loc Cert.PositionsRefIdeal.main_arg1) = m ((c.tc : Thread Cert.PositionsRefIdeal.nD Cert.PositionsRefIdeal.τ).loc Cert.PositionsRefIdeal.main_arg1)
      ∧ r.2.mem ((c.tc : Thread Cert.PositionsRefIdeal.nD Cert.PositionsRefIdeal.τ).loc Cert.PositionsRefIdeal.main_arg2) = m ((c.tc : Thread Cert.PositionsRefIdeal.nD Cert.PositionsRefIdeal.τ).loc Cert.PositionsRefIdeal.main_arg2)
      ∧ r.2.mem ((c.tc : Thread Cert.PositionsRefIdeal.nD Cert.PositionsRefIdeal.τ).loc Cert.PositionsRefIdeal.main_arg3) = m ((c.tc : Thread Cert.PositionsRefIdeal.nD Cert.PositionsRefIdeal.τ).loc Cert.PositionsRefIdeal.main_arg3)
      ∧ r.2.mem ((c.tc : Thread Cert.PositionsRefIdeal.nD Cert.PositionsRefIdeal.τ).loc Cert.PositionsRefIdeal.main_arg4) = m ((c.tc : Thread Cert.PositionsRefIdeal.nD Cert.PositionsRefIdeal.τ).loc Cert.PositionsRefIdeal.main_arg4)
      ∧ r.2.mem ((c.tc : Thread Cert.PositionsRefIdeal.nD Cert.PositionsRefIdeal.τ).loc Cert.PositionsRefIdeal.main_arg5) = m ((c.tc : Thread Cert.PositionsRefIdeal.nD Cert.PositionsRefIdeal.τ).loc Cert.PositionsRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def preserves_Natten_NattenIdeal : Prop :=
  IdealRules.named_const.Statement Cert.NattenIdeal.κ "mask" .f32 0xF149F2CA#32 ⊥

def algebraic_NattenIdeal_NattenRefIdeal_pre_finite [hNattenIdeal : Cert.NattenIdeal.Facts] [hNattenRefIdeal : Cert.NattenRefIdeal.Facts] [hPre_finite : Cert.Pre_finite.Facts] : Prop :=
  ∀ (m : (ℓ : Loc Cert.NattenIdeal.nD Cert.NattenIdeal.τ Cert.NattenIdeal.sig) → Buf (Elt Ideal) ℓ) (g : Dev Cert.NattenIdeal.nD → PrngReg)
    (m' : (ℓ : Loc Cert.NattenRefIdeal.nD Cert.NattenRefIdeal.τ Cert.NattenRefIdeal.sig) → Buf (Elt Ideal) ℓ) (g' : Dev Cert.NattenRefIdeal.nD → PrngReg), Pre_NattenIdeal_finite m →
    (∀ c : Dev Cert.NattenIdeal.nD,
      m' ((c.tc : Thread Cert.NattenRefIdeal.nD Cert.NattenRefIdeal.τ).loc Cert.NattenRefIdeal.main_arg0) = m ((c.tc : Thread Cert.NattenIdeal.nD Cert.NattenIdeal.τ).loc Cert.NattenIdeal.main_arg0)
      ∧ m' ((c.tc : Thread Cert.NattenRefIdeal.nD Cert.NattenRefIdeal.τ).loc Cert.NattenRefIdeal.main_arg1) = m ((c.tc : Thread Cert.NattenIdeal.nD Cert.NattenIdeal.τ).loc Cert.NattenIdeal.main_arg1)
      ∧ m' ((c.tc : Thread Cert.NattenRefIdeal.nD Cert.NattenRefIdeal.τ).loc Cert.NattenRefIdeal.main_arg2) = m ((c.tc : Thread Cert.NattenIdeal.nD Cert.NattenIdeal.τ).loc Cert.NattenIdeal.main_arg2)) →
    ∃ (v0 : (c : Dev Cert.NattenIdeal.nD) → Buf (Elt Ideal) ((c.tc : Thread Cert.NattenIdeal.nD Cert.NattenIdeal.τ).loc Cert.NattenIdeal.main_v14)),
      θ_run (Cert.NattenIdeal.defs (F := Ideal)) (onTc (τ := Cert.NattenIdeal.τ) (Cert.NattenIdeal.main (F := Ideal))) ⟨m, fun _ => 0, g⟩ (fun r => ∀ c : Dev Cert.NattenIdeal.nD,
          r.2.mem ((c.tc : Thread Cert.NattenIdeal.nD Cert.NattenIdeal.τ).loc Cert.NattenIdeal.main_v14) = v0 c
          ∧ r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
          ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
          ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ θ_run (Cert.NattenRefIdeal.defs (F := Ideal)) (onTc (τ := Cert.NattenRefIdeal.τ) (Cert.NattenRefIdeal.main (F := Ideal))) ⟨m', fun _ => 0, g'⟩ (fun r => ∀ c : Dev Cert.NattenRefIdeal.nD,
          r.2.mem ((c.tc : Thread Cert.NattenRefIdeal.nD Cert.NattenRefIdeal.τ).loc Cert.NattenRefIdeal.main_v126) = v0 c
          ∧ r.2.mem ((c.tc : Thread Cert.NattenRefIdeal.nD Cert.NattenRefIdeal.τ).loc Cert.NattenRefIdeal.main_arg0) = m' ((c.tc : Thread Cert.NattenRefIdeal.nD Cert.NattenRefIdeal.τ).loc Cert.NattenRefIdeal.main_arg0)
          ∧ r.2.mem ((c.tc : Thread Cert.NattenRefIdeal.nD Cert.NattenRefIdeal.τ).loc Cert.NattenRefIdeal.main_arg1) = m' ((c.tc : Thread Cert.NattenRefIdeal.nD Cert.NattenRefIdeal.τ).loc Cert.NattenRefIdeal.main_arg1)
          ∧ r.2.mem ((c.tc : Thread Cert.NattenRefIdeal.nD Cert.NattenRefIdeal.τ).loc Cert.NattenRefIdeal.main_arg2) = m' ((c.tc : Thread Cert.NattenRefIdeal.nD Cert.NattenRefIdeal.τ).loc Cert.NattenRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v6)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v6) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v45) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v31) = v0 c
          ∧ r.2.mem ((c.tc : Thread Cert.ProjRefIdeal.nD Cert.ProjRefIdeal.τ).loc Cert.ProjRefIdeal.main_v33) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v13) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Channels_ChannelsIdeal : Prop :=
  True

def algebraic_ChannelsIdeal_ChannelsRefIdeal [hChannelsIdeal : Cert.ChannelsIdeal.Facts] [hChannelsRefIdeal : Cert.ChannelsRefIdeal.Facts] : Prop :=
  ∀ (m : (ℓ : Loc Cert.ChannelsIdeal.nD Cert.ChannelsIdeal.τ Cert.ChannelsIdeal.sig) → Buf (Elt Ideal) ℓ) (g : Dev Cert.ChannelsIdeal.nD → PrngReg)
    (m' : (ℓ : Loc Cert.ChannelsRefIdeal.nD Cert.ChannelsRefIdeal.τ Cert.ChannelsRefIdeal.sig) → Buf (Elt Ideal) ℓ) (g' : Dev Cert.ChannelsRefIdeal.nD → PrngReg), Pre_ChannelsIdeal m →
    (∀ c : Dev Cert.ChannelsIdeal.nD,
      m' ((c.tc : Thread Cert.ChannelsRefIdeal.nD Cert.ChannelsRefIdeal.τ).loc Cert.ChannelsRefIdeal.main_arg0) = m ((c.tc : Thread Cert.ChannelsIdeal.nD Cert.ChannelsIdeal.τ).loc Cert.ChannelsIdeal.main_arg0)
      ∧ m' ((c.tc : Thread Cert.ChannelsRefIdeal.nD Cert.ChannelsRefIdeal.τ).loc Cert.ChannelsRefIdeal.main_arg1) = m ((c.tc : Thread Cert.ChannelsIdeal.nD Cert.ChannelsIdeal.τ).loc Cert.ChannelsIdeal.main_arg1)
      ∧ m' ((c.tc : Thread Cert.ChannelsRefIdeal.nD Cert.ChannelsRefIdeal.τ).loc Cert.ChannelsRefIdeal.main_arg2) = m ((c.tc : Thread Cert.ChannelsIdeal.nD Cert.ChannelsIdeal.τ).loc Cert.ChannelsIdeal.main_arg2)) →
    ∃ (v0 : (c : Dev Cert.ChannelsIdeal.nD) → Buf (Elt Ideal) ((c.tc : Thread Cert.ChannelsIdeal.nD Cert.ChannelsIdeal.τ).loc Cert.ChannelsIdeal.main_v23_0)) (v1 : (c : Dev Cert.ChannelsIdeal.nD) → Buf (Elt Ideal) ((c.tc : Thread Cert.ChannelsIdeal.nD Cert.ChannelsIdeal.τ).loc Cert.ChannelsIdeal.main_v23_1)),
      θ_run (Cert.ChannelsIdeal.defs (F := Ideal)) (onTc (τ := Cert.ChannelsIdeal.τ) (Cert.ChannelsIdeal.main (F := Ideal))) ⟨m, fun _ => 0, g⟩ (fun r => ∀ c : Dev Cert.ChannelsIdeal.nD,
          r.2.mem ((c.tc : Thread Cert.ChannelsIdeal.nD Cert.ChannelsIdeal.τ).loc Cert.ChannelsIdeal.main_v23_0) = v0 c
          ∧ r.2.mem ((c.tc : Thread Cert.ChannelsIdeal.nD Cert.ChannelsIdeal.τ).loc Cert.ChannelsIdeal.main_v23_1) = v1 c
          ∧ r.2.mem ((c.tc : Thread Cert.ChannelsIdeal.nD Cert.ChannelsIdeal.τ).loc Cert.ChannelsIdeal.main_arg0) = m ((c.tc : Thread Cert.ChannelsIdeal.nD Cert.ChannelsIdeal.τ).loc Cert.ChannelsIdeal.main_arg0)
          ∧ r.2.mem ((c.tc : Thread Cert.ChannelsIdeal.nD Cert.ChannelsIdeal.τ).loc Cert.ChannelsIdeal.main_arg1) = m ((c.tc : Thread Cert.ChannelsIdeal.nD Cert.ChannelsIdeal.τ).loc Cert.ChannelsIdeal.main_arg1)
          ∧ r.2.mem ((c.tc : Thread Cert.ChannelsIdeal.nD Cert.ChannelsIdeal.τ).loc Cert.ChannelsIdeal.main_arg2) = m ((c.tc : Thread Cert.ChannelsIdeal.nD Cert.ChannelsIdeal.τ).loc Cert.ChannelsIdeal.main_arg2))
      ∧ θ_run (Cert.ChannelsRefIdeal.defs (F := Ideal)) (onTc (τ := Cert.ChannelsRefIdeal.τ) (Cert.ChannelsRefIdeal.main (F := Ideal))) ⟨m', fun _ => 0, g'⟩ (fun r => ∀ c : Dev Cert.ChannelsRefIdeal.nD,
          r.2.mem ((c.tc : Thread Cert.ChannelsRefIdeal.nD Cert.ChannelsRefIdeal.τ).loc Cert.ChannelsRefIdeal.main_v58) = v0 c
          ∧ r.2.mem ((c.tc : Thread Cert.ChannelsRefIdeal.nD Cert.ChannelsRefIdeal.τ).loc Cert.ChannelsRefIdeal.main_v60) = v1 c
          ∧ r.2.mem ((c.tc : Thread Cert.ChannelsRefIdeal.nD Cert.ChannelsRefIdeal.τ).loc Cert.ChannelsRefIdeal.main_arg0) = m' ((c.tc : Thread Cert.ChannelsRefIdeal.nD Cert.ChannelsRefIdeal.τ).loc Cert.ChannelsRefIdeal.main_arg0)
          ∧ r.2.mem ((c.tc : Thread Cert.ChannelsRefIdeal.nD Cert.ChannelsRefIdeal.τ).loc Cert.ChannelsRefIdeal.main_arg1) = m' ((c.tc : Thread Cert.ChannelsRefIdeal.nD Cert.ChannelsRefIdeal.τ).loc Cert.ChannelsRefIdeal.main_arg1)
          ∧ r.2.mem ((c.tc : Thread Cert.ChannelsRefIdeal.nD Cert.ChannelsRefIdeal.τ).loc Cert.ChannelsRefIdeal.main_arg2) = m' ((c.tc : Thread Cert.ChannelsRefIdeal.nD Cert.ChannelsRefIdeal.τ).loc Cert.ChannelsRefIdeal.main_arg2))

def preserves_Positions_PositionsIdeal : Prop :=
  True

def algebraic_PositionsIdeal_PositionsRefIdeal [hPositionsIdeal : Cert.PositionsIdeal.Facts] [hPositionsRefIdeal : Cert.PositionsRefIdeal.Facts] : Prop :=
  ∀ (m : (ℓ : Loc Cert.PositionsIdeal.nD Cert.PositionsIdeal.τ Cert.PositionsIdeal.sig) → Buf (Elt Ideal) ℓ) (g : Dev Cert.PositionsIdeal.nD → PrngReg)
    (m' : (ℓ : Loc Cert.PositionsRefIdeal.nD Cert.PositionsRefIdeal.τ Cert.PositionsRefIdeal.sig) → Buf (Elt Ideal) ℓ) (g' : Dev Cert.PositionsRefIdeal.nD → PrngReg), Pre_PositionsIdeal m →
    (∀ c : Dev Cert.PositionsIdeal.nD,
      m' ((c.tc : Thread Cert.PositionsRefIdeal.nD Cert.PositionsRefIdeal.τ).loc Cert.PositionsRefIdeal.main_arg0) = m ((c.tc : Thread Cert.PositionsIdeal.nD Cert.PositionsIdeal.τ).loc Cert.PositionsIdeal.main_arg0)
      ∧ m' ((c.tc : Thread Cert.PositionsRefIdeal.nD Cert.PositionsRefIdeal.τ).loc Cert.PositionsRefIdeal.main_arg1) = m ((c.tc : Thread Cert.PositionsIdeal.nD Cert.PositionsIdeal.τ).loc Cert.PositionsIdeal.main_arg1)
      ∧ m' ((c.tc : Thread Cert.PositionsRefIdeal.nD Cert.PositionsRefIdeal.τ).loc Cert.PositionsRefIdeal.main_arg2) = m ((c.tc : Thread Cert.PositionsIdeal.nD Cert.PositionsIdeal.τ).loc Cert.PositionsIdeal.main_arg2)
      ∧ m' ((c.tc : Thread Cert.PositionsRefIdeal.nD Cert.PositionsRefIdeal.τ).loc Cert.PositionsRefIdeal.main_arg3) = m ((c.tc : Thread Cert.PositionsIdeal.nD Cert.PositionsIdeal.τ).loc Cert.PositionsIdeal.main_arg3)
      ∧ m' ((c.tc : Thread Cert.PositionsRefIdeal.nD Cert.PositionsRefIdeal.τ).loc Cert.PositionsRefIdeal.main_arg4) = m ((c.tc : Thread Cert.PositionsIdeal.nD Cert.PositionsIdeal.τ).loc Cert.PositionsIdeal.main_arg4)
      ∧ m' ((c.tc : Thread Cert.PositionsRefIdeal.nD Cert.PositionsRefIdeal.τ).loc Cert.PositionsRefIdeal.main_arg5) = m ((c.tc : Thread Cert.PositionsIdeal.nD Cert.PositionsIdeal.τ).loc Cert.PositionsIdeal.main_arg5)) →
    ∃ (v0 : (c : Dev Cert.PositionsIdeal.nD) → Buf (Elt Ideal) ((c.tc : Thread Cert.PositionsIdeal.nD Cert.PositionsIdeal.τ).loc Cert.PositionsIdeal.main_v25)),
      θ_run (Cert.PositionsIdeal.defs (F := Ideal)) (onTc (τ := Cert.PositionsIdeal.τ) (Cert.PositionsIdeal.main (F := Ideal))) ⟨m, fun _ => 0, g⟩ (fun r => ∀ c : Dev Cert.PositionsIdeal.nD,
          r.2.mem ((c.tc : Thread Cert.PositionsIdeal.nD Cert.PositionsIdeal.τ).loc Cert.PositionsIdeal.main_v25) = v0 c
          ∧ r.2.mem ((c.tc : Thread Cert.PositionsIdeal.nD Cert.PositionsIdeal.τ).loc Cert.PositionsIdeal.main_arg0) = m ((c.tc : Thread Cert.PositionsIdeal.nD Cert.PositionsIdeal.τ).loc Cert.PositionsIdeal.main_arg0)
          ∧ r.2.mem ((c.tc : Thread Cert.PositionsIdeal.nD Cert.PositionsIdeal.τ).loc Cert.PositionsIdeal.main_arg1) = m ((c.tc : Thread Cert.PositionsIdeal.nD Cert.PositionsIdeal.τ).loc Cert.PositionsIdeal.main_arg1)
          ∧ r.2.mem ((c.tc : Thread Cert.PositionsIdeal.nD Cert.PositionsIdeal.τ).loc Cert.PositionsIdeal.main_arg2) = m ((c.tc : Thread Cert.PositionsIdeal.nD Cert.PositionsIdeal.τ).loc Cert.PositionsIdeal.main_arg2)
          ∧ r.2.mem ((c.tc : Thread Cert.PositionsIdeal.nD Cert.PositionsIdeal.τ).loc Cert.PositionsIdeal.main_arg3) = m ((c.tc : Thread Cert.PositionsIdeal.nD Cert.PositionsIdeal.τ).loc Cert.PositionsIdeal.main_arg3)
          ∧ r.2.mem ((c.tc : Thread Cert.PositionsIdeal.nD Cert.PositionsIdeal.τ).loc Cert.PositionsIdeal.main_arg4) = m ((c.tc : Thread Cert.PositionsIdeal.nD Cert.PositionsIdeal.τ).loc Cert.PositionsIdeal.main_arg4)
          ∧ r.2.mem ((c.tc : Thread Cert.PositionsIdeal.nD Cert.PositionsIdeal.τ).loc Cert.PositionsIdeal.main_arg5) = m ((c.tc : Thread Cert.PositionsIdeal.nD Cert.PositionsIdeal.τ).loc Cert.PositionsIdeal.main_arg5))
      ∧ θ_run (Cert.PositionsRefIdeal.defs (F := Ideal)) (onTc (τ := Cert.PositionsRefIdeal.τ) (Cert.PositionsRefIdeal.main (F := Ideal))) ⟨m', fun _ => 0, g'⟩ (fun r => ∀ c : Dev Cert.PositionsRefIdeal.nD,
          r.2.mem ((c.tc : Thread Cert.PositionsRefIdeal.nD Cert.PositionsRefIdeal.τ).loc Cert.PositionsRefIdeal.main_v44) = v0 c
          ∧ r.2.mem ((c.tc : Thread Cert.PositionsRefIdeal.nD Cert.PositionsRefIdeal.τ).loc Cert.PositionsRefIdeal.main_arg0) = m' ((c.tc : Thread Cert.PositionsRefIdeal.nD Cert.PositionsRefIdeal.τ).loc Cert.PositionsRefIdeal.main_arg0)
          ∧ r.2.mem ((c.tc : Thread Cert.PositionsRefIdeal.nD Cert.PositionsRefIdeal.τ).loc Cert.PositionsRefIdeal.main_arg1) = m' ((c.tc : Thread Cert.PositionsRefIdeal.nD Cert.PositionsRefIdeal.τ).loc Cert.PositionsRefIdeal.main_arg1)
          ∧ r.2.mem ((c.tc : Thread Cert.PositionsRefIdeal.nD Cert.PositionsRefIdeal.τ).loc Cert.PositionsRefIdeal.main_arg2) = m' ((c.tc : Thread Cert.PositionsRefIdeal.nD Cert.PositionsRefIdeal.τ).loc Cert.PositionsRefIdeal.main_arg2)
          ∧ r.2.mem ((c.tc : Thread Cert.PositionsRefIdeal.nD Cert.PositionsRefIdeal.τ).loc Cert.PositionsRefIdeal.main_arg3) = m' ((c.tc : Thread Cert.PositionsRefIdeal.nD Cert.PositionsRefIdeal.τ).loc Cert.PositionsRefIdeal.main_arg3)
          ∧ r.2.mem ((c.tc : Thread Cert.PositionsRefIdeal.nD Cert.PositionsRefIdeal.τ).loc Cert.PositionsRefIdeal.main_arg4) = m' ((c.tc : Thread Cert.PositionsRefIdeal.nD Cert.PositionsRefIdeal.τ).loc Cert.PositionsRefIdeal.main_arg4)
          ∧ r.2.mem ((c.tc : Thread Cert.PositionsRefIdeal.nD Cert.PositionsRefIdeal.τ).loc Cert.PositionsRefIdeal.main_arg5) = m' ((c.tc : Thread Cert.PositionsRefIdeal.nD Cert.PositionsRefIdeal.τ).loc Cert.PositionsRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v8) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def Claim : Prop :=
  ∃ (hNatten : Cert.Natten.Facts) (hNattenIdeal : Cert.NattenIdeal.Facts) (hNattenRefIdeal : Cert.NattenRefIdeal.Facts) (hFfn : Cert.Ffn.Facts) (hFfnIdeal : Cert.FfnIdeal.Facts) (hFfnRefIdeal : Cert.FfnRefIdeal.Facts) (hFfnMid : Cert.FfnMid.Facts) (hFfnMidIdeal : Cert.FfnMidIdeal.Facts) (hFfnMidRefIdeal : Cert.FfnMidRefIdeal.Facts) (hProj : Cert.Proj.Facts) (hProjIdeal : Cert.ProjIdeal.Facts) (hProjRefIdeal : Cert.ProjRefIdeal.Facts) (hOutProj : Cert.OutProj.Facts) (hOutProjIdeal : Cert.OutProjIdeal.Facts) (hOutProjRefIdeal : Cert.OutProjRefIdeal.Facts) (hChannels : Cert.Channels.Facts) (hChannelsIdeal : Cert.ChannelsIdeal.Facts) (hChannelsRefIdeal : Cert.ChannelsRefIdeal.Facts) (hPositions : Cert.Positions.Facts) (hPositionsIdeal : Cert.PositionsIdeal.Facts) (hPositionsRefIdeal : Cert.PositionsRefIdeal.Facts) (hAda : Cert.Ada.Facts) (hAdaIdeal : Cert.AdaIdeal.Facts) (hAdaRefIdeal : Cert.AdaRefIdeal.Facts) (hPre_finite : Cert.Pre_finite.Facts),
    quiescent_Natten (hNatten := hNatten)
    ∧ quiescent_NattenIdeal (hNattenIdeal := hNattenIdeal)
    ∧ quiescent_NattenIdeal_pre_finite (hNattenIdeal := hNattenIdeal) (hPre_finite := hPre_finite)
    ∧ quiescent_NattenRefIdeal (hNattenRefIdeal := hNattenRefIdeal)
    ∧ quiescent_NattenRefIdeal_pre_finite (hNattenRefIdeal := hNattenRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_Proj (hProj := hProj)
    ∧ quiescent_ProjIdeal (hProjIdeal := hProjIdeal)
    ∧ quiescent_ProjRefIdeal (hProjRefIdeal := hProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Channels (hChannels := hChannels)
    ∧ quiescent_ChannelsIdeal (hChannelsIdeal := hChannelsIdeal)
    ∧ quiescent_ChannelsRefIdeal (hChannelsRefIdeal := hChannelsRefIdeal)
    ∧ quiescent_Positions (hPositions := hPositions)
    ∧ quiescent_PositionsIdeal (hPositionsIdeal := hPositionsIdeal)
    ∧ quiescent_PositionsRefIdeal (hPositionsRefIdeal := hPositionsRefIdeal)
    ∧ quiescent_Ada (hAda := hAda)
    ∧ quiescent_AdaIdeal (hAdaIdeal := hAdaIdeal)
    ∧ quiescent_AdaRefIdeal (hAdaRefIdeal := hAdaRefIdeal)
    ∧ preserves_Natten_NattenIdeal
    ∧ algebraic_NattenIdeal_NattenRefIdeal_pre_finite (hNattenIdeal := hNattenIdeal) (hNattenRefIdeal := hNattenRefIdeal) (hPre_finite := hPre_finite)
    ∧ preserves_Ffn_FfnIdeal
    ∧ algebraic_FfnIdeal_FfnRefIdeal (hFfnIdeal := hFfnIdeal) (hFfnRefIdeal := hFfnRefIdeal)
    ∧ preserves_FfnMid_FfnMidIdeal
    ∧ algebraic_FfnMidIdeal_FfnMidRefIdeal (hFfnMidIdeal := hFfnMidIdeal) (hFfnMidRefIdeal := hFfnMidRefIdeal)
    ∧ preserves_Proj_ProjIdeal
    ∧ algebraic_ProjIdeal_ProjRefIdeal (hProjIdeal := hProjIdeal) (hProjRefIdeal := hProjRefIdeal)
    ∧ preserves_OutProj_OutProjIdeal
    ∧ algebraic_OutProjIdeal_OutProjRefIdeal (hOutProjIdeal := hOutProjIdeal) (hOutProjRefIdeal := hOutProjRefIdeal)
    ∧ preserves_Channels_ChannelsIdeal
    ∧ algebraic_ChannelsIdeal_ChannelsRefIdeal (hChannelsIdeal := hChannelsIdeal) (hChannelsRefIdeal := hChannelsRefIdeal)
    ∧ preserves_Positions_PositionsIdeal
    ∧ algebraic_PositionsIdeal_PositionsRefIdeal (hPositionsIdeal := hPositionsIdeal) (hPositionsRefIdeal := hPositionsRefIdeal)
    ∧ preserves_Ada_AdaIdeal
    ∧ algebraic_AdaIdeal_AdaRefIdeal (hAdaIdeal := hAdaIdeal) (hAdaRefIdeal := hAdaRefIdeal)
-- ==== Pre_finite.lean ====
abbrev S4x4096x1536 : Shape := ⟨3, ![4, 4096, 1536]⟩
abbrev S4x256x1536 : Shape := ⟨3, ![4, 256, 1536]⟩
abbrev S1x8x15x31 : Shape := ⟨4, ![1, 8, 15, 31]⟩
abbrev S4x4096x1024 : Shape := ⟨3, ![4, 4096, 1024]⟩
abbrev S_ : Shape := ⟨0, ![]⟩
abbrev S4x256x512 : Shape := ⟨3, ![4, 256, 512]⟩

class Facts : Prop where
  slices_S4x4096x1536_S4x4096x1024_0_0_0 : S4x4096x1536.Slices ![0, 0, 0] S4x4096x1024
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  slices_S4x256x1536_S4x256x512_0_0_512 : S4x256x1536.Slices ![0, 0, 512] S4x256x512
  bcast_S_S4x256x512 : S_.BroadcastsInDim S4x256x512 (![] : Fin 0 → Fin S4x256x512.rank)
  reducesTo_S4x256x512_S_d0_1_2 : S4x256x512.ReducesTo [0, 1, 2] S_
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn {F : FTy → Type} [FloatOps F] (main_arg0 : FVec F S4x4096x1536 .bf16) (main_arg1 : FVec F S4x256x1536 .bf16) (main_arg2 : FVec F S1x8x15x31 .f32) : IVec S_ 1 :=
  let main_v0 : FVec F S4x4096x1024 .bf16 := (extractStridedSlice S4x4096x1024 ![0, 0, 0] · slices_S4x4096x1536_S4x4096x1024_0_0_0) main_arg0
  let main_v1 : FVec F S4x4096x1024 .f32 := (extf .f32 · bitsLt_bf16_f32) main_v0
  let main_v2 : FVec F S4x4096x1024 .f32 := Host.absf main_v1
  let main_cst : FVec F S_ .f32 := constant S_ .f32 0x7F800000#32
  let main_v3 : FVec F S4x4096x1024 .f32 := broadcastInDim S4x4096x1024 ![] bcast_S_S4x4096x1024 main_cst
  let main_v4 : IVec S4x4096x1024 1 := cmpf .olt main_v2 main_v3
  let main_c : IVec S_ 1 := constantI S_ 1 1#1
  let main_v5 : IVec S_ 1 := (fun x v => Host.reduce IntOp.andi x v reducesTo_S4x4096x1024_S_d0_1_2 h_S_) main_v4 main_c
  let main_v6 : FVec F S4x256x512 .bf16 := (extractStridedSlice S4x256x512 ![0, 0, 512] · slices_S4x256x1536_S4x256x512_0_0_512) main_arg1
  let main_v7 : FVec F S4x256x512 .f32 := (extf .f32 · bitsLt_bf16_f32) main_v6
  let main_v8 : FVec F S4x256x512 .f32 := Host.absf main_v7
  let main_cst_0 : FVec F S_ .f32 := constant S_ .f32 0x7F800000#32
  let main_v9 : FVec F S4x256x512 .f32 := broadcastInDim S4x256x512 ![] bcast_S_S4x256x512 main_cst_0
  let main_v10 : IVec S4x256x512 1 := cmpf .olt main_v8 main_v9
  let main_c_1 : IVec S_ 1 := constantI S_ 1 1#1
  let main_v11 : IVec S_ 1 := (fun x v => Host.reduce IntOp.andi x v reducesTo_S4x256x512_S_d0_1_2 h_S_) main_v10 main_c_1
  let main_v12 : IVec S_ 1 := andi main_v5 main_v11
  let main_v13 : FVec F S1x8x15x31 .f32 := Host.absf main_arg2
  let main_cst_2 : FVec F S_ .f32 := constant S_ .f32 0x7F800000#32
  let main_v14 : FVec F S1x8x15x31 .f32 := broadcastInDim S1x8x15x31 ![] bcast_S_S1x8x15x31 main_cst_2
  let main_v15 : IVec S1x8x15x31 1 := cmpf .olt main_v13 main_v14
  let main_c_3 : IVec S_ 1 := constantI S_ 1 1#1
  let main_v16 : IVec S_ 1 := (fun x v => Host.reduce IntOp.andi x v reducesTo_S1x8x15x31_S_d0_1_2_3 h_S_) main_v15 main_c_3
  let main_v17 : IVec S_ 1 := andi main_v12 main_v16
  main_v17
-- ==== Natten.lean ====
abbrev S4x4096x1536 : Shape := ⟨3, ![4, 4096, 1536]⟩
abbrev S4x256x1536 : Shape := ⟨3, ![4, 256, 1536]⟩
abbrev S1x8x15x31 : Shape := ⟨4, ![1, 8, 15, 31]⟩
abbrev S64x64 : Shape := ⟨2, ![64, 64]⟩
abbrev S3x8x16 : Shape := ⟨3, ![3, 8, 16]⟩
abbrev S8x15x31 : Shape := ⟨3, ![8, 15, 31]⟩
abbrev S64x64x1 : Shape := ⟨3, ![64, 64, 1]⟩
abbrev S8x15x64x64 : Shape := ⟨4, ![8, 15, 64, 64]⟩
abbrev S3x8x16x1 : Shape := ⟨4, ![3, 8, 16, 1]⟩
abbrev S8x3x8x16x64x64 : Shape := ⟨6, ![8, 3, 8, 16, 64, 64]⟩
abbrev S8x3x8x64x16x64 : Shape := ⟨6, ![8, 3, 8, 64, 16, 64]⟩
abbrev S3x8x1x16x1 : Shape := ⟨5, ![3, 8, 1, 16, 1]⟩
abbrev S1x1x64x1x64 : Shape := ⟨5, ![1, 1, 64, 1, 64]⟩
abbrev S3x8x64x16x64 : Shape := ⟨5, ![3, 8, 64, 16, 64]⟩
abbrev S8x3x512x1024 : Shape := ⟨4, ![8, 3, 512, 1024]⟩
abbrev S3x512x1024 : Shape := ⟨3, ![3, 512, 1024]⟩
abbrev S4x4096x512 : Shape := ⟨3, ![4, 4096, 512]⟩
abbrev S1x512x128 : Shape := ⟨3, ![1, 512, 128]⟩
abbrev S1x4096x128 : Shape := ⟨3, ![1, 4096, 128]⟩
abbrev S1x256x128 : Shape := ⟨3, ![1, 256, 128]⟩
abbrev S2x3x512x1024 : Shape := ⟨4, ![2, 3, 512, 1024]⟩
abbrev S512x128 : Shape := ⟨2, ![512, 128]⟩
abbrev S1x1024x128 : Shape := ⟨3, ![1, 1024, 128]⟩
abbrev S1024x128 : Shape := ⟨2, ![1024, 128]⟩
abbrev S256x128 : Shape := ⟨2, ![256, 128]⟩
abbrev S1x128 : Shape := ⟨2, ![1, 128]⟩
abbrev S1x512x1024 : Shape := ⟨3, ![1, 512, 1024]⟩
abbrev S512x1024 : Shape := ⟨2, ![512, 1024]⟩
abbrev S1x1x512x1024 : Shape := ⟨4, ![1, 1, 512, 1024]⟩
abbrev S512x256 : Shape := ⟨2, ![512, 256]⟩
abbrev S512 : Shape := ⟨1, ![512]⟩
abbrev S512x1 : Shape := ⟨2, ![512, 1]⟩

abbrev nBuf : Space → Nat
  | .hbm => 22
  | .vmem => 15
  | .smem => 0
  | _ => 0

abbrev bufTy : (tb : Table) → Fin (tcTables nBuf tb) → BufTy
  | .hbm, ⟨0, _⟩ => ⟨S4x4096x1536, .bf16⟩
  | .hbm, ⟨1, _⟩ => ⟨S4x256x1536, .bf16⟩
  | .hbm, ⟨2, _⟩ => ⟨S1x8x15x31, .f32⟩
  | .hbm, ⟨3, _⟩ => ⟨S64x64, .i32⟩
  | .hbm, ⟨4, _⟩ => ⟨S3x8x16, .i32⟩
  | .hbm, ⟨5, _⟩ => ⟨S3x8x16, .i1⟩
  | .hbm, ⟨6, _⟩ => ⟨S64x64, .i1⟩
  | .hbm, ⟨7, _⟩ => ⟨S8x15x31, .f32⟩
  | .hbm, ⟨8, _⟩ => ⟨S64x64x1, .i32⟩
  | .hbm, ⟨9, _⟩ => ⟨S8x15x64x64, .f32⟩
  | .hbm, ⟨10, _⟩ => ⟨S3x8x16x1, .i32⟩
  | .hbm, ⟨11, _⟩ => ⟨S8x3x8x16x64x64, .f32⟩
  | .hbm, ⟨12, _⟩ => ⟨S8x3x8x64x16x64, .f32⟩
  | .hbm, ⟨13, _⟩ => ⟨S3x8x1x16x1, .i1⟩
  | .hbm, ⟨14, _⟩ => ⟨S1x1x64x1x64, .i1⟩
  | .hbm, ⟨15, _⟩ => ⟨S3x8x64x16x64, .i1⟩
  | .hbm, ⟨16, _⟩ => ⟨S3x8x64x16x64, .i1⟩
  | .hbm, ⟨17, _⟩ => ⟨S3x8x64x16x64, .i1⟩
  | .hbm, ⟨18, _⟩ => ⟨S8x3x512x1024, .f32⟩
  | .hbm, ⟨19, _⟩ => ⟨S3x8x64x16x64, .i32⟩
  | .hbm, ⟨20, _⟩ => ⟨S3x512x1024, .i32⟩
  | .hbm, ⟨21, _⟩ => ⟨S4x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S2x3x512x1024, .f32⟩
  | .local _ .vmem, ⟨11, _⟩ => ⟨S2x3x512x1024, .f32⟩
  | .local _ .vmem, ⟨12, _⟩ => ⟨S3x512x1024, .i32⟩
  | .local _ .vmem, ⟨13, _⟩ => ⟨S1x512x128, .bf16⟩
  | .local _ .vmem, ⟨14, _⟩ => ⟨S1x512x128, .bf16⟩
  | _, _ => ⟨S4x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let c48_i32 : BitVec 32 := 48#32
  let c0_i32 : BitVec 32 := 0#32
  let c8_i32 : BitVec 32 := 8#32
  let arg2 : BitVec 32 := BitVec.ofNat 32 (i 2).val
  let v0 : BitVec 32 := Scalar.muli c8_i32 arg2
  let c4_i32 : BitVec 32 := 4#32
  let v1 : BitVec 32 := Scalar.subi v0 c4_i32
  let v2 : BitVec 32 := Scalar.maxsi c0_i32 v1
  let v3 : BitVec 32 := Scalar.minsi c48_i32 v2
  let c64_i32 : BitVec 32 := 64#32
  let v4 : BitVec 32 := Scalar.muli v3 c64_i32
  v4
def k0_off1 (i : grid0.Coords) : Fin 3 → Nat :=
  let c0_4 : Index := 0#32
  let c48_i32 : BitVec 32 := 48#32
  let c0_i32 : BitVec 32 := 0#32
  let c8_i32 : BitVec 32 := 8#32
  let arg2 : BitVec 32 := BitVec.ofNat 32 (i 2).val
  let v0 : BitVec 32 := Scalar.muli c8_i32 arg2
  let c4_i32 : BitVec 32 := 4#32
  let v1 : BitVec 32 := Scalar.subi v0 c4_i32
  let v2 : BitVec 32 := Scalar.maxsi c0_i32 v1
  let v3 : BitVec 32 := Scalar.minsi c48_i32 v2
  let c64_i32 : BitVec 32 := 64#32
  let v4 : BitVec 32 := Scalar.muli v3 c64_i32
  let v5 : BitVec 32 := v4
  let v14 : Index := Scalar.indexCast v5
  let c0_5 : Index := 0#32
  ![0, v14.toNat, 0]
def k0_off2 (i : grid0.Coords) : Fin 3 → Nat :=
  let arg2 : BitVec 32 := BitVec.ofNat 32 (i 2).val
  let c0_i32_0 : BitVec 32 := 0#32
  let v6 : BitVec 1 := Scalar.cmpi .eq arg2 c0_i32_0
  let c0_i32_1 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_1 v8
  let v25 : Index := Scalar.indexCast v9
  let c0_14 : Index := 0#32
  let c0_15 : Index := 0#32
  ![v25.toNat, 0, 0]
def k0_off3 (i : grid0.Coords) : Fin 4 → Nat :=
  let c0_21 : Index := 0#32
  let arg2 : BitVec 32 := BitVec.ofNat 32 (i 2).val
  let c0_i32_0 : BitVec 32 := 0#32
  let v6 : BitVec 1 := Scalar.cmpi .eq arg2 c0_i32_0
  let c0_i32_1 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_1 v8
  let v40 : Index := Scalar.indexCast v9
  let c0_22 : Index := 0#32
  let c0_23 : Index := 0#32
  ![0, v40.toNat, 0, 0]
def k0_off4 (i : grid0.Coords) : Fin 4 → Nat :=
  let c1 : Index := 1#32
  let arg2 : BitVec 32 := BitVec.ofNat 32 (i 2).val
  let c0_i32_0 : BitVec 32 := 0#32
  let v6 : BitVec 1 := Scalar.cmpi .eq arg2 c0_i32_0
  let c0_i32_1 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_1 v8
  let v82 : Index := Scalar.indexCast v9
  let c0_36 : Index := 0#32
  let c0_37 : Index := 0#32
  ![1, v82.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x3x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S3x512x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== NattenIdeal.lean ====
variable {F : FTy → Type} [FloatOps F] [Named F]
def κ : String → Option EReal := fun
  | "mask" => some ⊥
  | _ => none
-- ==== NattenRefIdeal.lean ====
abbrev S4x4096x1536 : Shape := ⟨3, ![4, 4096, 1536]⟩
abbrev S4x256x1536 : Shape := ⟨3, ![4, 256, 1536]⟩
abbrev S1x8x15x31 : Shape := ⟨4, ![1, 8, 15, 31]⟩
abbrev S8x15x31 : Shape := ⟨3, ![8, 15, 31]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4x256x512 : Shape := ⟨3, ![4, 256, 512]⟩
abbrev S4x256x8x64 : Shape := ⟨4, ![4, 256, 8, 64]⟩
abbrev S4x8x256x64 : Shape := ⟨4, ![4, 8, 256, 64]⟩
abbrev S4x8x64x64x64 : Shape := ⟨5, ![4, 8, 64, 64, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x8x1 : Shape := ⟨3, ![64, 8, 1]⟩
abbrev S4x8x64x8x64x64 : Shape := ⟨6, ![4, 8, 64, 8, 64, 64]⟩
abbrev S64x16x1 : Shape := ⟨3, ![64, 16, 1]⟩
abbrev S4x8x64x8x64x16x64 : Shape := ⟨7, ![4, 8, 64, 8, 64, 16, 64]⟩
abbrev S8x15x64x16 : Shape := ⟨4, ![8, 15, 64, 16]⟩
abbrev S8x64x8x64x16 : Shape := ⟨5, ![8, 64, 8, 64, 16]⟩
abbrev S4x8x64x64x8x16 : Shape := ⟨6, ![4, 8, 64, 64, 8, 16]⟩
abbrev S8x64x64x8x16 : Shape := ⟨5, ![8, 64, 64, 8, 16]⟩
abbrev S1x8x64x64x8x16 : Shape := ⟨6, ![1, 8, 64, 64, 8, 16]⟩
abbrev S4x8x64x64x128 : Shape := ⟨5, ![4, 8, 64, 64, 128]⟩
abbrev S4x8x64x64x256 : Shape := ⟨5, ![4, 8, 64, 64, 256]⟩
abbrev S4x8x64x64x384 : Shape := ⟨5, ![4, 8, 64, 64, 384]⟩
abbrev S4x8x64x64 : Shape := ⟨4, ![4, 8, 64, 64]⟩
abbrev S4x8x64x64x1 : Shape := ⟨5, ![4, 8, 64, 64, 1]⟩
abbrev S4x64x64x8x64 : Shape := ⟨5, ![4, 64, 64, 8, 64]⟩

abbrev nBuf : Space → Nat
  | .hbm => 165
  | .vmem => 0
  | .smem => 0
  | _ => 0

abbrev hbmTy0_0 (i : Nat) : BufTy := match i % 128 with
  | 0 => ⟨S4x4096x1536, .bf16⟩
  | 1 => ⟨S4x256x1536, .bf16⟩
  | 2 => ⟨S1x8x15x31, .f32⟩
  | 3 => ⟨S4x4096x1536, .f32⟩
  | 4 => ⟨S4x256x1536, .f32⟩
  | 5 => ⟨S8x15x31, .f32⟩
  | 6 => ⟨S4x4096x512, .f32⟩
  | 7 => ⟨S4x4096x8x64, .f32⟩
  | 8 => ⟨S4x8x4096x64, .f32⟩
  | 9 => ⟨S4x4096x512, .f32⟩
  | 10 => ⟨S4x4096x8x64, .f32⟩
  | 11 => ⟨S4x8x4096x64, .f32⟩
  | 12 => ⟨S4x4096x512, .f32⟩
  | 13 => ⟨S4x4096x8x64, .f32⟩
  | 14 => ⟨S4x8x4096x64, .f32⟩
  | 15 => ⟨S4x256x512, .f32⟩
  | 16 => ⟨S4x256x8x64, .f32⟩
  | 17 => ⟨S4x8x256x64, .f32⟩
  | 18 => ⟨S4x256x512, .f32⟩
  | 19 => ⟨S4x256x8x64, .f32⟩
  | 20 => ⟨S4x8x256x64, .f32⟩
  | 21 => ⟨S4x8x64x64x64, .f32⟩
  | 22 => ⟨S4x8x64x64x64, .f32⟩
  | 23 => ⟨S4x8x64x64x64, .f32⟩
  | 24 => ⟨S64, .i32⟩
  | 25 => ⟨S_, .i32⟩
  | 26 => ⟨S64, .i32⟩
  | 27 => ⟨S64, .i32⟩
  | 28 => ⟨S_, .i32⟩
  | 29 => ⟨S_, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S64, .i32⟩
  | 37 => ⟨S_, .i32⟩
  | 38 => ⟨S64, .i32⟩
  | 39 => ⟨S64, .i32⟩
  | 40 => ⟨S_, .i32⟩
  | 41 => ⟨S_, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64x1, .i32⟩
  | 49 => ⟨S8, .i32⟩
  | 50 => ⟨S1x8, .i32⟩
  | 51 => ⟨S64x8, .i32⟩
  | 52 => ⟨S64x8, .i32⟩
  | 53 => ⟨S64x8, .i32⟩
  | 54 => ⟨S64x1, .i32⟩
  | 55 => ⟨S16, .i32⟩
  | 56 => ⟨S1x16, .i32⟩
  | 57 => ⟨S64x16, .i32⟩
  | 58 => ⟨S64x16, .i32⟩
  | 59 => ⟨S64x16, .i32⟩
  | 60 => ⟨S64, .i32⟩
  | 61 => ⟨S64x1, .i32⟩
  | 62 => ⟨S64x8, .i32⟩
  | 63 => ⟨S64x8, .i32⟩
  | 64 => ⟨S64, .i32⟩
  | 65 => ⟨S64x1, .i32⟩
  | 66 => ⟨S64x16, .i32⟩
  | 67 => ⟨S64x16, .i32⟩
  | 68 => ⟨S_, .i32⟩
  | 69 => ⟨S64x8, .i32⟩
  | 70 => ⟨S64x8, .i1⟩
  | 71 => ⟨S_, .i32⟩
  | 72 => ⟨S64x8, .i32⟩
  | 73 => ⟨S64x8, .i32⟩
  | 74 => ⟨S64x8, .i32⟩
  | 75 => ⟨S64x8x1, .i32⟩
  | 76 => ⟨S4x8x64x8x64x64, .f32⟩
  | 77 => ⟨S_, .i32⟩
  | 78 => ⟨S64x16, .i32⟩
  | 79 => ⟨S64x16, .i1⟩
  | 80 => ⟨S_, .i32⟩
  | 81 => ⟨S64x16, .i32⟩
  | 82 => ⟨S64x16, .i32⟩
  | 83 => ⟨S64x16, .i32⟩
  | 84 => ⟨S64x16x1, .i32⟩
  | 85 => ⟨S4x8x64x8x64x16x64, .f32⟩
  | 86 => ⟨S_, .i32⟩
  | 87 => ⟨S64x8, .i32⟩
  | 88 => ⟨S64x8, .i1⟩
  | 89 => ⟨S_, .i32⟩
  | 90 => ⟨S64x8, .i32⟩
  | 91 => ⟨S64x8, .i32⟩
  | 92 => ⟨S64x8, .i32⟩
  | 93 => ⟨S64x8x1, .i32⟩
  | 94 => ⟨S4x8x64x8x64x64, .f32⟩
  | 95 => ⟨S_, .i32⟩
  | 96 => ⟨S64x16, .i32⟩
  | 97 => ⟨S64x16, .i1⟩
  | 98 => ⟨S_, .i32⟩
  | 99 => ⟨S64x16, .i32⟩
  | 100 => ⟨S64x16, .i32⟩
  | 101 => ⟨S64x16, .i32⟩
  | 102 => ⟨S64x16x1, .i32⟩
  | 103 => ⟨S4x8x64x8x64x16x64, .f32⟩
  | 104 => ⟨S_, .i32⟩
  | 105 => ⟨S64x16, .i32⟩
  | 106 => ⟨S64x16, .i32⟩
  | 107 => ⟨S_, .i32⟩
  | 108 => ⟨S64x16, .i32⟩
  | 109 => ⟨S64x16, .i1⟩
  | 110 => ⟨S_, .i32⟩
  | 111 => ⟨S64x16, .i32⟩
  | 112 => ⟨S64x16, .i32⟩
  | 113 => ⟨S64x16, .i32⟩
  | 114 => ⟨S64x16x1, .i32⟩
  | 115 => ⟨S8x15x64x16, .f32⟩
  | 116 => ⟨S_, .i32⟩
  | 117 => ⟨S64x8, .i32⟩
  | 118 => ⟨S64x8, .i32⟩
  | 119 => ⟨S_, .i32⟩
  | 120 => ⟨S64x8, .i32⟩
  | 121 => ⟨S64x8, .i1⟩
  | 122 => ⟨S_, .i32⟩
  | 123 => ⟨S64x8, .i32⟩
  | 124 => ⟨S64x8, .i32⟩
  | 125 => ⟨S64x8, .i32⟩
  | 126 => ⟨S64x8x1, .i32⟩
  | 127 => ⟨S8x64x8x64x16, .f32⟩
  | _ => ⟨S4x4096x1536, .bf16⟩

abbrev hbmTy0_1 (i : Nat) : BufTy := match i % 128 with
  | 0 => ⟨S4x8x64x64x8x16, .f32⟩
  | 1 => ⟨S_, .f32⟩
  | 2 => ⟨S4x8x64x64x8x16, .f32⟩
  | 3 => ⟨S4x8x64x64x8x16, .f32⟩
  | 4 => ⟨S8x64x64x8x16, .f32⟩
  | 5 => ⟨S1x8x64x64x8x16, .f32⟩
  | 6 => ⟨S4x8x64x64x8x16, .f32⟩
  | 7 => ⟨S4x8x64x64x8x16, .f32⟩
  | 8 => ⟨S4x8x64x64x128, .f32⟩
  | 9 => ⟨S4x8x64x64x256, .f32⟩
  | 10 => ⟨S_, .f32⟩
  | 11 => ⟨S4x8x64x64x256, .f32⟩
  | 12 => ⟨S4x8x64x64x256, .f32⟩
  | 13 => ⟨S4x8x64x64x384, .f32⟩
  | 14 => ⟨S_, .f32⟩
  | 15 => ⟨S4x8x64x64, .f32⟩
  | 16 => ⟨S_, .f32⟩
  | 17 => ⟨S4x8x64x64, .f32⟩
  | 18 => ⟨S4x8x64x64, .f32⟩
  | 19 => ⟨S4x8x64x64x1, .f32⟩
  | 20 => ⟨S4x8x64x64x384, .f32⟩
  | 21 => ⟨S4x8x64x64x384, .f32⟩
  | 22 => ⟨S4x8x64x64x384, .f32⟩
  | 23 => ⟨S_, .f32⟩
  | 24 => ⟨S4x8x64x64, .f32⟩
  | 25 => ⟨S4x8x64x64x1, .f32⟩
  | 26 => ⟨S4x8x64x64x384, .f32⟩
  | 27 => ⟨S4x8x64x64x384, .f32⟩
  | 28 => ⟨S4x8x64x64x128, .f32⟩
  | 29 => ⟨S4x8x64x64x8x16, .f32⟩
  | 30 => ⟨S4x8x64x64x256, .f32⟩
  | 31 => ⟨S4x8x64x64x64, .f32⟩
  | 32 => ⟨S4x8x64x64x64, .f32⟩
  | 33 => ⟨S4x8x64x64x64, .f32⟩
  | 34 => ⟨S4x64x64x8x64, .f32⟩
  | 35 => ⟨S4x4096x512, .f32⟩
  | 36 => ⟨S4x4096x512, .bf16⟩
  | _ => ⟨S4x4096x1536, .bf16⟩

abbrev hbmTy (i : Nat) : BufTy := match i / 128 with
  | 0 => hbmTy0_0 i
  | 1 => hbmTy0_1 i
  | _ => ⟨S4x4096x1536, .bf16⟩

abbrev bufTy : (tb : Table) → Fin (tcTables nBuf tb) → BufTy
  | .hbm, ⟨i, _⟩ => hbmTy i
  | _, _ => ⟨S4x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_5 : Ref sig .tc := ⟨.hbm, 68, rfl⟩
abbrev main_v49 : Ref sig .tc := ⟨.hbm, 69, rfl⟩
abbrev main_v50 : Ref sig .tc := ⟨.hbm, 70, rfl⟩
abbrev main_c_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_7 : Ref sig .tc := ⟨.hbm, 77, rfl⟩
abbrev main_v56 : Ref sig .tc := ⟨.hbm, 78, rfl⟩
abbrev main_v57 : Ref sig .tc := ⟨.hbm, 79, rfl⟩
abbrev main_c_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_9 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_11 : Ref sig .tc := ⟨.hbm, 95, rfl⟩
abbrev main_v70 : Ref sig .tc := ⟨.hbm, 96, rfl⟩
abbrev main_v71 : Ref sig .tc := ⟨.hbm, 97, rfl⟩
abbrev main_c_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_13 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev main_v79 : Ref sig .tc := ⟨.hbm, 108, rfl⟩
abbrev main_v80 : Ref sig .tc := ⟨.hbm, 109, rfl⟩
abbrev main_c_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_16 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_c_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_19 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_20 : Ref sig .tc := ⟨.hbm, 142, rfl⟩
abbrev main_v107 : Ref sig .tc := ⟨.hbm, 143, rfl⟩
abbrev main_cst_21 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_22 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩

abbrev nD : Nat := 1
abbrev τ : Topo := Topo.v7x

variable {F : FTy → Type} [FloatOps F]
-- ==== Ffn.lean ====
abbrev S4x4096x1024 : Shape := ⟨3, ![4, 4096, 1024]⟩
abbrev S16x1x9216 : Shape := ⟨3, ![16, 1, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S6x1x1024 : Shape := ⟨3, ![6, 1, 1024]⟩
abbrev S1x1x1024 : Shape := ⟨3, ![1, 1, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1024 : Shape := ⟨2, ![1024, 1024]⟩
abbrev S1x1024 : Shape := ⟨2, ![1, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S16x1x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S6x1x1024, .f32⟩
  | .hbm, ⟨7, _⟩ => ⟨S1x1x1024, .f32⟩
  | .hbm, ⟨8, _⟩ => ⟨S2x2x1024x5632, .bf16⟩
  | .hbm, ⟨9, _⟩ => ⟨S4x1024x5632, .bf16⟩
  | .hbm, ⟨10, _⟩ => ⟨S2x2x2816x1024, .bf16⟩
  | .hbm, ⟨11, _⟩ => ⟨S4x2816x1024, .bf16⟩
  | .hbm, ⟨12, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c6_i32 : BitVec 32 := 6#32
  let c0_i32_0 : BitVec 32 := 0#32
  ![v0.toNat, c0_i32.toNat, c6_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c7_i32 : BitVec 32 := 7#32
  let c0_i32_0 : BitVec 32 := 0#32
  ![v0.toNat, c0_i32.toNat, c7_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c8_i32_0 : BitVec 32 := 8#32
  let c0_i32_1 : BitVec 32 := 0#32
  ![v0.toNat, c0_i32.toNat, c8_i32_0.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S4x4096x1024 : Shape := ⟨3, ![4, 4096, 1024]⟩
abbrev S16x1x9216 : Shape := ⟨3, ![16, 1, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S2x8x9x1024 : Shape := ⟨4, ![2, 8, 9, 1024]⟩
abbrev S1x4x9x1024 : Shape := ⟨4, ![1, 4, 9, 1024]⟩
abbrev S4x9x1024 : Shape := ⟨3, ![4, 9, 1024]⟩
abbrev S4x9x1x1024 : Shape := ⟨4, ![4, 9, 1, 1024]⟩
abbrev S4x1x1x1024 : Shape := ⟨4, ![4, 1, 1, 1024]⟩
abbrev S4x1x1024 : Shape := ⟨3, ![4, 1, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1x1024x5632 : Shape := ⟨4, ![1, 1, 1024, 5632]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S1x1x2816x1024 : Shape := ⟨4, ![1, 1, 2816, 1024]⟩
abbrev S2816x1024 : Shape := ⟨2, ![2816, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x1x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S2x8x9x1024, .f32⟩
  | .hbm, ⟨7, _⟩ => ⟨S1x4x9x1024, .f32⟩
  | .hbm, ⟨8, _⟩ => ⟨S4x9x1024, .f32⟩
  | .hbm, ⟨9, _⟩ => ⟨S4x9x1x1024, .f32⟩
  | .hbm, ⟨10, _⟩ => ⟨S4x1x1x1024, .f32⟩
  | .hbm, ⟨11, _⟩ => ⟨S4x1x1024, .f32⟩
  | .hbm, ⟨12, _⟩ => ⟨S4x1x1x1024, .f32⟩
  | .hbm, ⟨13, _⟩ => ⟨S4x1x1024, .f32⟩
  | .hbm, ⟨14, _⟩ => ⟨S4x1x1x1024, .f32⟩
  | .hbm, ⟨15, _⟩ => ⟨S4x1x1024, .f32⟩
  | .hbm, ⟨16, _⟩ => ⟨S1x1x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S1x1x1024x5632, .f32⟩
  | .hbm, ⟨42, _⟩ => ⟨S1024x5632, .f32⟩
  | .hbm, ⟨43, _⟩ => ⟨S4x4096x5632, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S_, .f32⟩
  | .hbm, ⟨49, _⟩ => ⟨S4x4096x2816, .f32⟩
  | .hbm, ⟨50, _⟩ => ⟨S4x4096x2816, .f32⟩
  | .hbm, ⟨51, _⟩ => ⟨S_, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S1x1x2816x1024, .f32⟩
  | .hbm, ⟨57, _⟩ => ⟨S2816x1024, .f32⟩
  | .hbm, ⟨58, _⟩ => ⟨S4x4096x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== FfnMid.lean ====
abbrev S4x4096x1024 : Shape := ⟨3, ![4, 4096, 1024]⟩
abbrev S16x1x9216 : Shape := ⟨3, ![16, 1, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S6x1x1024 : Shape := ⟨3, ![6, 1, 1024]⟩
abbrev S1x1x1024 : Shape := ⟨3, ![1, 1, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1024 : Shape := ⟨2, ![1024, 1024]⟩
abbrev S1x1024 : Shape := ⟨2, ![1, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S16x1x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S6x1x1024, .f32⟩
  | .hbm, ⟨7, _⟩ => ⟨S1x1x1024, .f32⟩
  | .hbm, ⟨8, _⟩ => ⟨S2x2x1024x5632, .bf16⟩
  | .hbm, ⟨9, _⟩ => ⟨S4x1024x5632, .bf16⟩
  | .hbm, ⟨10, _⟩ => ⟨S2x2x2816x1024, .bf16⟩
  | .hbm, ⟨11, _⟩ => ⟨S4x2816x1024, .bf16⟩
  | .hbm, ⟨12, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c1_i32 : BitVec 32 := 1#32
  let c0_i32_1 : BitVec 32 := 0#32
  ![v0.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c2_i32 : BitVec 32 := 2#32
  let c0_i32_1 : BitVec 32 := 0#32
  ![v0.toNat, c0_i32_0.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnMidRefIdeal.lean ====
abbrev S4x4096x1024 : Shape := ⟨3, ![4, 4096, 1024]⟩
abbrev S16x1x9216 : Shape := ⟨3, ![16, 1, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S2x8x9x1024 : Shape := ⟨4, ![2, 8, 9, 1024]⟩
abbrev S1x4x9x1024 : Shape := ⟨4, ![1, 4, 9, 1024]⟩
abbrev S4x9x1024 : Shape := ⟨3, ![4, 9, 1024]⟩
abbrev S4x9x1x1024 : Shape := ⟨4, ![4, 9, 1, 1024]⟩
abbrev S4x1x1x1024 : Shape := ⟨4, ![4, 1, 1, 1024]⟩
abbrev S4x1x1024 : Shape := ⟨3, ![4, 1, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1x1024x5632 : Shape := ⟨4, ![1, 1, 1024, 5632]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S1x1x2816x1024 : Shape := ⟨4, ![1, 1, 2816, 1024]⟩
abbrev S2816x1024 : Shape := ⟨2, ![2816, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x1x9216, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S2x8x9x1024, .f32⟩
  | .hbm, ⟨7, _⟩ => ⟨S1x4x9x1024, .f32⟩
  | .hbm, ⟨8, _⟩ => ⟨S4x9x1024, .f32⟩
  | .hbm, ⟨9, _⟩ => ⟨S4x9x1x1024, .f32⟩
  | .hbm, ⟨10, _⟩ => ⟨S4x1x1x1024, .f32⟩
  | .hbm, ⟨11, _⟩ => ⟨S4x1x1024, .f32⟩
  | .hbm, ⟨12, _⟩ => ⟨S4x1x1x1024, .f32⟩
  | .hbm, ⟨13, _⟩ => ⟨S4x1x1024, .f32⟩
  | .hbm, ⟨14, _⟩ => ⟨S4x1x1x1024, .f32⟩
  | .hbm, ⟨15, _⟩ => ⟨S4x1x1024, .f32⟩
  | .hbm, ⟨16, _⟩ => ⟨S1x1x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S1x1x1024x5632, .f32⟩
  | .hbm, ⟨42, _⟩ => ⟨S1024x5632, .f32⟩
  | .hbm, ⟨43, _⟩ => ⟨S4x4096x5632, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S_, .f32⟩
  | .hbm, ⟨49, _⟩ => ⟨S4x4096x2816, .f32⟩
  | .hbm, ⟨50, _⟩ => ⟨S4x4096x2816, .f32⟩
  | .hbm, ⟨51, _⟩ => ⟨S_, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S1x1x2816x1024, .f32⟩
  | .hbm, ⟨57, _⟩ => ⟨S2816x1024, .f32⟩
  | .hbm, ⟨58, _⟩ => ⟨S4x4096x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Proj.lean ====
abbrev S4x4096x1024 : Shape := ⟨3, ![4, 4096, 1024]⟩
abbrev S16x1x9216 : Shape := ⟨3, ![16, 1, 9216]⟩
abbrev S2x3x1024 : Shape := ⟨3, ![2, 3, 1024]⟩
abbrev S1x1024x2560 : Shape := ⟨3, ![1, 1024, 2560]⟩
abbrev S6x1x1024 : Shape := ⟨3, ![6, 1, 1024]⟩
abbrev S1024x2560 : Shape := ⟨2, ![1024, 2560]⟩
abbrev S4x4096x1536 : Shape := ⟨3, ![4, 4096, 1536]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1024x1536 : Shape := ⟨2, ![1024, 1536]⟩

abbrev nBuf : Space → Nat
  | .hbm => 9
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S16x1x9216, .f32⟩
  | .hbm, ⟨2, _⟩ => ⟨S2x3x1024, .f32⟩
  | .hbm, ⟨3, _⟩ => ⟨S1x1024x2560, .f32⟩
  | .hbm, ⟨4, _⟩ => ⟨S6x1x1024, .f32⟩
  | .hbm, ⟨5, _⟩ => ⟨S1024x2560, .f32⟩
  | .hbm, ⟨6, _⟩ => ⟨S1024x2560, .bf16⟩
  | .hbm, ⟨7, _⟩ => ⟨S4x4096x1024, .f32⟩
  | .hbm, ⟨8, _⟩ => ⟨S4x4096x1536, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1024x1536, .bf16⟩
  | .local _ .vmem, ⟨11, _⟩ => ⟨S1x1024x1536, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c3_i32 : BitVec 32 := 3#32
  let c0_i32_1 : BitVec 32 := 0#32
  ![v0.toNat, c0_i32_0.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c4_i32 : BitVec 32 := 4#32
  let c0_i32_1 : BitVec 32 := 0#32
  ![v0.toNat, c0_i32_0.toNat, c4_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S4x4096x1024 : Shape := ⟨3, ![4, 4096, 1024]⟩
abbrev S16x1x9216 : Shape := ⟨3, ![16, 1, 9216]⟩
abbrev S2x3x1024 : Shape := ⟨3, ![2, 3, 1024]⟩
abbrev S1x1024x2560 : Shape := ⟨3, ![1, 1024, 2560]⟩
abbrev S2x8x9x1024 : Shape := ⟨4, ![2, 8, 9, 1024]⟩
abbrev S1x4x9x1024 : Shape := ⟨4, ![1, 4, 9, 1024]⟩
abbrev S4x9x1024 : Shape := ⟨3, ![4, 9, 1024]⟩
abbrev S4x9x1x1024 : Shape := ⟨4, ![4, 9, 1, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S4x1x1x1024 : Shape := ⟨4, ![4, 1, 1, 1024]⟩
abbrev S4x1x1024 : Shape := ⟨3, ![4, 1, 1024]⟩
abbrev S1024x2560 : Shape := ⟨2, ![1024, 2560]⟩
abbrev S4x4096x2560 : Shape := ⟨3, ![4, 4096, 2560]⟩
abbrev S4x4096x1536 : Shape := ⟨3, ![4, 4096, 1536]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x1x9216, .f32⟩
  | .hbm, ⟨2, _⟩ => ⟨S2x3x1024, .f32⟩
  | .hbm, ⟨3, _⟩ => ⟨S1x1024x2560, .f32⟩
  | .hbm, ⟨4, _⟩ => ⟨S2x8x9x1024, .f32⟩
  | .hbm, ⟨5, _⟩ => ⟨S1x4x9x1024, .f32⟩
  | .hbm, ⟨6, _⟩ => ⟨S4x9x1024, .f32⟩
  | .hbm, ⟨7, _⟩ => ⟨S4x9x1x1024, .f32⟩
  | .hbm, ⟨8, _⟩ => ⟨S1x1x1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x1x1x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x1x1x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S1024x2560, .f32⟩
  | .hbm, ⟨38, _⟩ => ⟨S4x4096x2560, .f32⟩
  | .hbm, ⟨39, _⟩ => ⟨S4x4096x1024, .f32⟩
  | .hbm, ⟨40, _⟩ => ⟨S4x4096x1536, .f32⟩
  | .hbm, ⟨41, _⟩ => ⟨S4x4096x1536, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== OutProj.lean ====
abbrev S4x4096x1024 : Shape := ⟨3, ![4, 4096, 1024]⟩
abbrev S4x4096x512 : Shape := ⟨3, ![4, 4096, 512]⟩
abbrev S16x1x9216 : Shape := ⟨3, ![16, 1, 9216]⟩
abbrev S1x1024x1024 : Shape := ⟨3, ![1, 1024, 1024]⟩
abbrev S1024x1024 : Shape := ⟨2, ![1024, 1024]⟩
abbrev S1x1024x512 : Shape := ⟨3, ![1, 1024, 512]⟩
abbrev S1x1x1024 : Shape := ⟨3, ![1, 1, 1024]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S16x1x9216, .f32⟩
  | .hbm, ⟨4, _⟩ => ⟨S1x1024x1024, .f32⟩
  | .hbm, ⟨5, _⟩ => ⟨S1024x1024, .f32⟩
  | .hbm, ⟨6, _⟩ => ⟨S1024x1024, .bf16⟩
  | .hbm, ⟨7, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c5_i32 : BitVec 32 := 5#32
  let c0_i32_1 : BitVec 32 := 0#32
  ![v0.toNat, c0_i32_0.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S4x4096x1024 : Shape := ⟨3, ![4, 4096, 1024]⟩
abbrev S4x4096x512 : Shape := ⟨3, ![4, 4096, 512]⟩
abbrev S16x1x9216 : Shape := ⟨3, ![16, 1, 9216]⟩
abbrev S1x1024x1024 : Shape := ⟨3, ![1, 1024, 1024]⟩
abbrev S2x8x9x1024 : Shape := ⟨4, ![2, 8, 9, 1024]⟩
abbrev S1x4x9x1024 : Shape := ⟨4, ![1, 4, 9, 1024]⟩
abbrev S4x9x1024 : Shape := ⟨3, ![4, 9, 1024]⟩
abbrev S4x9x1x1024 : Shape := ⟨4, ![4, 9, 1, 1024]⟩
abbrev S4x1x1x1024 : Shape := ⟨4, ![4, 1, 1, 1024]⟩
abbrev S4x1x1024 : Shape := ⟨3, ![4, 1, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S16x1x9216, .f32⟩
  | .hbm, ⟨4, _⟩ => ⟨S1x1024x1024, .f32⟩
  | .hbm, ⟨5, _⟩ => ⟨S2x8x9x1024, .f32⟩
  | .hbm, ⟨6, _⟩ => ⟨S1x4x9x1024, .f32⟩
  | .hbm, ⟨7, _⟩ => ⟨S4x9x1024, .f32⟩
  | .hbm, ⟨8, _⟩ => ⟨S4x9x1x1024, .f32⟩
  | .hbm, ⟨9, _⟩ => ⟨S4x4096x512, .f32⟩
  | .hbm, ⟨10, _⟩ => ⟨S4x4096x512, .f32⟩
  | .hbm, ⟨11, _⟩ => ⟨S4x4096x1024, .f32⟩
  | .hbm, ⟨12, _⟩ => ⟨S4x1x1x1024, .f32⟩
  | .hbm, ⟨13, _⟩ => ⟨S4x1x1024, .f32⟩
  | .hbm, ⟨14, _⟩ => ⟨S1024x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Channels.lean ====
abbrev S4x4096x1024 : Shape := ⟨3, ![4, 4096, 1024]⟩
abbrev S16x1x9216 : Shape := ⟨3, ![16, 1, 9216]⟩
abbrev S2x3x1024 : Shape := ⟨3, ![2, 3, 1024]⟩
abbrev S6x1x1024 : Shape := ⟨3, ![6, 1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S1024x512 : Shape := ⟨2, ![1024, 512]⟩
abbrev S1x1024x256 : Shape := ⟨3, ![1, 1024, 256]⟩

abbrev nBuf : Space → Nat
  | .hbm => 33
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S16x1x9216, .f32⟩
  | .hbm, ⟨2, _⟩ => ⟨S2x3x1024, .f32⟩
  | .hbm, ⟨3, _⟩ => ⟨S6x1x1024, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x512, .f32⟩
  | .hbm, ⟨30, _⟩ => ⟨S256x512, .bf16⟩
  | .hbm, ⟨31, _⟩ => ⟨S4x4096x1024, .bf16⟩
  | .hbm, ⟨32, _⟩ => ⟨S4x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x512, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c3_i32 : BitVec 32 := 3#32
  let c0_i32_0 : BitVec 32 := 0#32
  ![v0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c4_i32 : BitVec 32 := 4#32
  let c0_i32_0 : BitVec 32 := 0#32
  ![v0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ChannelsRefIdeal.lean ====
abbrev S4x4096x1024 : Shape := ⟨3, ![4, 4096, 1024]⟩
abbrev S16x1x9216 : Shape := ⟨3, ![16, 1, 9216]⟩
abbrev S2x3x1024 : Shape := ⟨3, ![2, 3, 1024]⟩
abbrev S2x8x9x1024 : Shape := ⟨4, ![2, 8, 9, 1024]⟩
abbrev S1x4x9x1024 : Shape := ⟨4, ![1, 4, 9, 1024]⟩
abbrev S4x9x1024 : Shape := ⟨3, ![4, 9, 1024]⟩
abbrev S4x9x1x1024 : Shape := ⟨4, ![4, 9, 1, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S4x1x1x1024 : Shape := ⟨4, ![4, 1, 1, 1024]⟩
abbrev S4x1x1024 : Shape := ⟨3, ![4, 1, 1024]⟩
abbrev S4x4096x4x1x256 : Shape := ⟨5, ![4, 4096, 4, 1, 256]⟩
abbrev S256x256 : Shape := ⟨2, ![256, 256]⟩
abbrev S1x1x1x256x256 : Shape := ⟨5, ![1, 1, 1, 256, 256]⟩
abbrev S4x4096x4x256x256 : Shape := ⟨5, ![4, 4096, 4, 256, 256]⟩
abbrev S4x4096x4x256 : Shape := ⟨4, ![4, 4096, 4, 256]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x1x9216, .f32⟩
  | .hbm, ⟨2, _⟩ => ⟨S2x3x1024, .f32⟩
  | .hbm, ⟨3, _⟩ => ⟨S2x8x9x1024, .f32⟩
  | .hbm, ⟨4, _⟩ => ⟨S1x4x9x1024, .f32⟩
  | .hbm, ⟨5, _⟩ => ⟨S4x9x1024, .f32⟩
  | .hbm, ⟨6, _⟩ => ⟨S4x9x1x1024, .f32⟩
  | .hbm, ⟨7, _⟩ => ⟨S1x1x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x1x1x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x1x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x4x1x256, .f32⟩
  | .hbm, ⟨37, _⟩ => ⟨S256x256, .i32⟩
  | .hbm, ⟨38, _⟩ => ⟨S256x256, .i32⟩
  | .hbm, ⟨39, _⟩ => ⟨S256x256, .i32⟩
  | .hbm, ⟨40, _⟩ => ⟨S_, .i32⟩
  | .hbm, ⟨41, _⟩ => ⟨S256x256, .i32⟩
  | .hbm, ⟨42, _⟩ => ⟨S256x256, .i32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S1x1x1x256x256, .f32⟩
  | .hbm, ⟨53, _⟩ => ⟨S4x4096x4x256x256, .f32⟩
  | .hbm, ⟨54, _⟩ => ⟨S4x4096x4x256x256, .f32⟩
  | .hbm, ⟨55, _⟩ => ⟨S4x4096x4x256x256, .f32⟩
  | .hbm, ⟨56, _⟩ => ⟨S_, .f32⟩
  | .hbm, ⟨57, _⟩ => ⟨S4x4096x4x256, .f32⟩
  | .hbm, ⟨58, _⟩ => ⟨S_, .f32⟩
  | .hbm, ⟨59, _⟩ => ⟨S4x4096x4x256, .f32⟩
  | .hbm, ⟨60, _⟩ => ⟨S4x4096x4x256, .f32⟩
  | .hbm, ⟨61, _⟩ => ⟨S256x256, .f32⟩
  | .hbm, ⟨62, _⟩ => ⟨S1x1x1x256x256, .f32⟩
  | .hbm, ⟨63, _⟩ => ⟨S4x4096x4x256x256, .f32⟩
  | .hbm, ⟨64, _⟩ => ⟨S4x4096x4x256x256, .f32⟩
  | .hbm, ⟨65, _⟩ => ⟨S4x4096x4x256x256, .f32⟩
  | .hbm, ⟨66, _⟩ => ⟨S_, .f32⟩
  | .hbm, ⟨67, _⟩ => ⟨S4x4096x4x256, .f32⟩
  | .hbm, ⟨68, _⟩ => ⟨S_, .f32⟩
  | .hbm, ⟨69, _⟩ => ⟨S4x4096x4x256, .f32⟩
  | .hbm, ⟨70, _⟩ => ⟨S4x4096x4x256, .f32⟩
  | .hbm, ⟨71, _⟩ => ⟨S4x4096x1024, .f32⟩
  | .hbm, ⟨72, _⟩ => ⟨S4x4096x1024, .bf16⟩
  | .hbm, ⟨73, _⟩ => ⟨S4x4096x1024, .f32⟩
  | .hbm, ⟨74, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Positions.lean ====
abbrev S4x4096x1024 : Shape := ⟨3, ![4, 4096, 1024]⟩
abbrev S16x1x9216 : Shape := ⟨3, ![16, 1, 9216]⟩
abbrev S1x1024x1024 : Shape := ⟨3, ![1, 1024, 1024]⟩
abbrev S1x1024 : Shape := ⟨2, ![1, 1024]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1024x1024 : Shape := ⟨2, ![1024, 1024]⟩
abbrev S1024 : Shape := ⟨1, ![1024]⟩
abbrev S1x512x1024 : Shape := ⟨3, ![1, 512, 1024]⟩
abbrev S1x4096x1024 : Shape := ⟨3, ![1, 4096, 1024]⟩
abbrev S512x4096 : Shape := ⟨2, ![512, 4096]⟩
abbrev S1x1x1024 : Shape := ⟨3, ![1, 1, 1024]⟩
abbrev S4096x1024 : Shape := ⟨2, ![4096, 1024]⟩
abbrev S512x1024 : Shape := ⟨2, ![512, 1024]⟩

abbrev nBuf : Space → Nat
  | .hbm => 37
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .bf16⟩
  | .hbm, ⟨3, _⟩ => ⟨S16x1x9216, .f32⟩
  | .hbm, ⟨4, _⟩ => ⟨S1x1024x1024, .f32⟩
  | .hbm, ⟨5, _⟩ => ⟨S1x1024, .f32⟩
  | .hbm, ⟨6, _⟩ => ⟨S4096, .i32⟩
  | .hbm, ⟨7, _⟩ => ⟨S4096x1, .i32⟩
  | .hbm, ⟨8, _⟩ => ⟨S1x4096, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .bf16⟩
  | .hbm, ⟨31, _⟩ => ⟨S4096x4096, .bf16⟩
  | .hbm, ⟨32, _⟩ => ⟨S1024x1024, .f32⟩
  | .hbm, ⟨33, _⟩ => ⟨S1024x1024, .bf16⟩
  | .hbm, ⟨34, _⟩ => ⟨S1024, .f32⟩
  | .hbm, ⟨35, _⟩ => ⟨S1x1024, .f32⟩
  | .hbm, ⟨36, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4096x1024, .bf16⟩
  | .local _ .vmem, ⟨3, _⟩ => ⟨S1x4096x1024, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c5_i32 : BitVec 32 := 5#32
  let c0_i32_0 : BitVec 32 := 0#32
  ![v0.toNat, c0_i32.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PositionsRefIdeal.lean ====
abbrev S4x4096x1024 : Shape := ⟨3, ![4, 4096, 1024]⟩
abbrev S16x1x9216 : Shape := ⟨3, ![16, 1, 9216]⟩
abbrev S1x1024x1024 : Shape := ⟨3, ![1, 1024, 1024]⟩
abbrev S1x1024 : Shape := ⟨2, ![1, 1024]⟩
abbrev S2x8x9x1024 : Shape := ⟨4, ![2, 8, 9, 1024]⟩
abbrev S1x4x9x1024 : Shape := ⟨4, ![1, 4, 9, 1024]⟩
abbrev S4x9x1024 : Shape := ⟨3, ![4, 9, 1024]⟩
abbrev S4x9x1x1024 : Shape := ⟨4, ![4, 9, 1, 1024]⟩
abbrev S4096x4096 : Shape := ⟨2, ![4096, 4096]⟩
abbrev S_ : Shape := ⟨0, ![]⟩
abbrev S4x1x4096x1024 : Shape := ⟨4, ![4, 1, 4096, 1024]⟩
abbrev S4096x4096x1 : Shape := ⟨3, ![4096, 4096, 1]⟩
abbrev S1x4096x4096x1 : Shape := ⟨4, ![1, 4096, 4096, 1]⟩
abbrev S4x4096x4096x1024 : Shape := ⟨4, ![4, 4096, 4096, 1024]⟩
abbrev S4x1x1x1024 : Shape := ⟨4, ![4, 1, 1, 1024]⟩
abbrev S4x1x1024 : Shape := ⟨3, ![4, 1, 1024]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .bf16⟩
  | .hbm, ⟨3, _⟩ => ⟨S16x1x9216, .f32⟩
  | .hbm, ⟨4, _⟩ => ⟨S1x1024x1024, .f32⟩
  | .hbm, ⟨5, _⟩ => ⟨S1x1024, .f32⟩
  | .hbm, ⟨6, _⟩ => ⟨S2x8x9x1024, .f32⟩
  | .hbm, ⟨7, _⟩ => ⟨S1x4x9x1024, .f32⟩
  | .hbm, ⟨8, _⟩ => ⟨S4x9x1024, .f32⟩
  | .hbm, ⟨9, _⟩ => ⟨S4x9x1x1024, .f32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4x4096x1024, .f32⟩
  | .hbm, ⟨26, _⟩ => ⟨S4x1x4096x1024, .f32⟩
  | .hbm, ⟨27, _⟩ => ⟨S4x4096x1024, .f32⟩
  | .hbm, ⟨28, _⟩ => ⟨S4x1x4096x1024, .f32⟩
  | .hbm, ⟨29, _⟩ => ⟨S4096x4096x1, .f32⟩
  | .hbm, ⟨30, _⟩ => ⟨S1x4096x4096x1, .f32⟩
  | .hbm, ⟨31, _⟩ => ⟨S4x4096x4096x1024, .f32⟩
  | .hbm, ⟨32, _⟩ => ⟨S4x4096x4096x1024, .f32⟩
  | .hbm, ⟨33, _⟩ => ⟨S4x4096x4096x1024, .f32⟩
  | .hbm, ⟨34, _⟩ => ⟨S4096x4096x1, .f32⟩
  | .hbm, ⟨35, _⟩ => ⟨S1x4096x4096x1, .f32⟩
  | .hbm, ⟨36, _⟩ => ⟨S4x4096x4096x1024, .f32⟩
  | .hbm, ⟨37, _⟩ => ⟨S4x4096x4096x1024, .f32⟩
  | .hbm, ⟨38, _⟩ => ⟨S4x4096x4096x1024, .f32⟩
  | .hbm, ⟨39, _⟩ => ⟨S4x4096x4096x1024, .f32⟩
  | .hbm, ⟨40, _⟩ => ⟨S_, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S4x1x1x1024, .f32⟩
  | .hbm, ⟨46, _⟩ => ⟨S4x1x1024, .f32⟩
  | .hbm, ⟨47, _⟩ => ⟨S1024x1024, .f32⟩
  | .hbm, ⟨48, _⟩ => ⟨S4x4096x1024, .f32⟩
  | .hbm, ⟨49, _⟩ => ⟨S1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Ada.lean ====
abbrev S4x1024 : Shape := ⟨2, ![4, 1024]⟩
abbrev S1024 : Shape := ⟨1, ![1024]⟩
abbrev S2x1024x9216 : Shape := ⟨3, ![2, 1024, 9216]⟩
abbrev S2x9216 : Shape := ⟨2, ![2, 9216]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x9216 : Shape := ⟨3, ![2, 1, 9216]⟩
abbrev S2x8x9216 : Shape := ⟨3, ![2, 8, 9216]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x9216, .f32⟩
  | .hbm, ⟨9, _⟩ => ⟨S2x8x9216, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x1024 : Shape := ⟨2, ![4, 1024]⟩
abbrev S1024 : Shape := ⟨1, ![1024]⟩
abbrev S2x1024x9216 : Shape := ⟨3, ![2, 1024, 9216]⟩
abbrev S2x9216 : Shape := ⟨2, ![2, 9216]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x9216x8 : Shape := ⟨3, ![2, 9216, 8]⟩
abbrev S2x8x9216 : Shape := ⟨3, ![2, 8, 9216]⟩
abbrev S2x1x9216 : Shape := ⟨3, ![2, 1, 9216]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S2x9216x8, .f32⟩
  | .hbm, ⟨18, _⟩ => ⟨S2x8x9216, .f32⟩
  | .hbm, ⟨19, _⟩ => ⟨S2x1x9216, .f32⟩
  | .hbm, ⟨20, _⟩ => ⟨S2x8x9216, .f32⟩
  | .hbm, ⟨21, _⟩ => ⟨S2x8x9216, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.NattenMath.lean ====
/- One query's attention, written in the two ways the kernel and the reference have, and that they agree: the kernel takes
   every key of a slab, the keys outside the neighborhood at the score −∞, and divides once at the end; the reference takes
   the neighborhood alone and divides every weight. -/
module

public import Idealize.ShloMosaic.Lib.Pointwise

@[expose] public section

noncomputable section

namespace Cert.Proof.NattenMath

open Idealize.ShloMosaic

/-- The kernel's form: scores `s` of the slab's keys and `C` of the context's, values `V` and `W`. -/
def slab (s : Fin 1024 → EReal) (C : Fin 256 → EReal) (V : Fin 1024 → EReal) (W : Fin 256 → EReal) : EReal :=
  (∑ j, Ideal.exp (s j - max (Finset.univ.fold max ⊥ s) (Finset.univ.fold max ⊥ C)) * V j
      + ∑ n, Ideal.exp (C n - max (Finset.univ.fold max ⊥ s) (Finset.univ.fold max ⊥ C)) * W n)
    * Ideal.div 1 (∑ j, Ideal.exp (s j - max (Finset.univ.fold max ⊥ s) (Finset.univ.fold max ⊥ C))
      + ∑ n, Ideal.exp (C n - max (Finset.univ.fold max ⊥ s) (Finset.univ.fold max ⊥ C)))

/-- The 384 scores of a query, the neighborhood's 128 before the context's 256. -/
def cat (L : Fin 8 → Fin 16 → EReal) (C : Fin 256 → EReal) (l : Fin 384) : EReal :=
  if h : l.val < 128 then L ⟨l.val / 16, by omega⟩ ⟨l.val % 16, by omega⟩ else C ⟨l.val - 128, by omega⟩

/-- A softmax weight of the 384. -/
def prob (S : Fin 384 → EReal) (l : Fin 384) : EReal :=
  Ideal.div (Ideal.exp (S l - Finset.univ.fold max ⊥ S)) (∑ l, Ideal.exp (S l - Finset.univ.fold max ⊥ S))

/-- The reference's form. -/
def near (L : Fin 8 → Fin 16 → EReal) (C : Fin 256 → EReal) (V : Fin 8 → Fin 16 → EReal) (W : Fin 256 → EReal) : EReal :=
  ∑ a : Fin 8, ∑ k : Fin 16, prob (cat L C) ⟨16 * a.val + k.val, by omega⟩ * V a k
    + ∑ n : Fin 256, prob (cat L C) ⟨128 + n.val, by omega⟩ * W n

theorem fold_max_eq_sup {ι : Type} [Fintype ι] (f : ι → EReal) : Finset.univ.fold max ⊥ f = Finset.univ.sup f := rfl

theorem sum_split {N a b : Nat} (h : N = a + b) (f : Fin N → EReal) :
    ∑ l, f l = ∑ i : Fin a, f ⟨i.val, by omega⟩ + ∑ i : Fin b, f ⟨a + i.val, by omega⟩ := by
  subst h
  exact Fin.sum_univ_add f

theorem sum_rows {N a b : Nat} (h : N = a * b) (f : Fin N → EReal) :
    ∑ l, f l = ∑ i : Fin a, ∑ k : Fin b, f ⟨b * i.val + k.val, by
      subst h; exact Nat.lt_of_lt_of_le (Nat.add_lt_add_left k.isLt _) (Nat.mul_comm b a ▸ Nat.mul_le_mul_left b i.isLt)⟩ := by
  subst h
  rw [← (finProdFinEquiv (m := a) (n := b)).sum_comp, Fintype.sum_prod_type]
  exact Finset.sum_congr rfl fun i _ => Finset.sum_congr rfl fun k _ => congrArg f (Fin.ext (Nat.add_comm _ _))

/-- A sum over the 384 is the neighborhood's and the context's. -/
theorem sum_cat (f : Fin 384 → EReal) :
    ∑ l, f l = ∑ a : Fin 8, ∑ k : Fin 16, f ⟨16 * a.val + k.val, by omega⟩ + ∑ n : Fin 256, f ⟨128 + n.val, by omega⟩ := by
  rw [sum_split (a := 128) (b := 256) (by decide) f, sum_rows (a := 8) (b := 16) (by decide) (fun i : Fin 128 => f ⟨i.val, by omega⟩)]

theorem cat_near (L : Fin 8 → Fin 16 → EReal) (C : Fin 256 → EReal) (a : Fin 8) (k : Fin 16) :
    cat L C ⟨16 * a.val + k.val, by omega⟩ = L a k := by
  unfold cat
  rw [dif_pos (show (16 * a.val + k.val) < 128 by omega)]
  congr 1 <;> apply Fin.ext <;> show _ = _ <;> simp <;> omega

theorem cat_ctx (L : Fin 8 → Fin 16 → EReal) (C : Fin 256 → EReal) (n : Fin 256) :
    cat L C ⟨128 + n.val, by omega⟩ = C n := by
  unfold cat
  rw [dif_neg (show ¬ (128 + n.val) < 128 by omega)]
  congr 1
  apply Fin.ext
  simp

/-- The greatest score is the same over the slab and over the 384. -/
theorem max_eq (s : Fin 1024 → EReal) (L : Fin 8 → Fin 16 → EReal) (C : Fin 256 → EReal) (e : Fin 8 → Fin 16 → Fin 1024)
    (hs : ∀ a k, s (e a k) = L a k) (h0 : ∀ j, (∀ a k, e a k ≠ j) → s j = ⊥) :
    max (Finset.univ.fold max ⊥ s) (Finset.univ.fold max ⊥ C) = Finset.univ.fold max ⊥ (cat L C) := by
  simp only [fold_max_eq_sup]
  apply le_antisymm
  · refine max_le (Finset.sup_le fun j _ => ?_) (Finset.sup_le fun n _ => ?_)
    · by_cases hj : ∃ a k, e a k = j
      · obtain ⟨a, k, rfl⟩ := hj
        rw [hs, ← cat_near L C a k]
        exact Finset.le_sup (f := cat L C) (Finset.mem_univ _)
      · push Not at hj
        rw [h0 j hj]
        exact bot_le
    · rw [← cat_ctx L C n]
      exact Finset.le_sup (f := cat L C) (Finset.mem_univ _)
  · refine Finset.sup_le fun l _ => ?_
    by_cases hl : l.val < 128
    · have : cat L C l = s (e ⟨l.val / 16, by omega⟩ ⟨l.val % 16, by omega⟩) := by
        rw [hs]; unfold cat; rw [dif_pos hl]
      rw [this]
      exact le_max_of_le_left (Finset.le_sup (f := s) (Finset.mem_univ _))
    · have : cat L C l = C ⟨l.val - 128, by omega⟩ := by unfold cat; rw [dif_neg hl]
      rw [this]
      exact le_max_of_le_right (Finset.le_sup (f := C) (Finset.mem_univ _))

/-- A slab sum of terms that vanish outside the neighborhood is the neighborhood's. -/
theorem sum_slab (f : Fin 1024 → EReal) (e : Fin 8 → Fin 16 → Fin 1024)
    (he : ∀ a k a' k', e a k = e a' k' → a = a' ∧ k = k') (h0 : ∀ j, (∀ a k, e a k ≠ j) → f j = 0) :
    ∑ j, f j = ∑ a, ∑ k, f (e a k) := by
  rw [← Fintype.sum_prod_type' (f := fun a k => f (e a k))]
  refine (Fintype.sum_of_injective (fun p : Fin 8 × Fin 16 => e p.1 p.2) ?_ _ f ?_ fun p => rfl).symm
  · rintro ⟨a, k⟩ ⟨a', k'⟩ h
    obtain ⟨h, h'⟩ := he _ _ _ _ h
    exact Prod.ext h h'
  · intro j hj
    exact h0 j fun a k h => hj ⟨(a, k), h⟩

/-- A factor that is a nonnegative real goes into a sum. -/
theorem sum_mul_real {ι : Type} [Fintype ι] (f : ι → EReal) (c : EReal) (h0 : 0 ≤ c) (ht : c ≠ ⊤) :
    (∑ i, f i) * c = ∑ i, f i * c :=
  map_sum ({ toFun := fun x => x * c, map_zero' := zero_mul c,
             map_add' := fun x y => EReal.right_distrib_of_nonneg_of_ne_top h0 ht x y } : EReal →+ EReal) f Finset.univ

theorem coe_sum {ι : Type} [Fintype ι] (f : ι → ℝ) : ∑ i, ((f i : ℝ) : EReal) = ((∑ i, f i : ℝ) : EReal) :=
  (map_sum ({ toFun := fun x : ℝ => (x : EReal), map_zero' := rfl, map_add' := EReal.coe_add } : ℝ →+ EReal) f Finset.univ).symm

/-- The greatest of finitely many reals, at least one, is a real. -/
theorem max_real (S : Fin 384 → ℝ) : ∃ m : ℝ, Finset.univ.fold max ⊥ (fun l => ((S l : ℝ) : EReal)) = m := by
  rw [fold_max_eq_sup]
  obtain ⟨l, -, h⟩ := Finset.exists_mem_eq_sup (Finset.univ : Finset (Fin 384)) ⟨0, Finset.mem_univ _⟩
    (fun l => ((S l : ℝ) : EReal))
  exact ⟨S l, h⟩

/-- The two forms agree on real scores, whatever the values are. -/
theorem slab_eq_near (s : Fin 1024 → EReal) (L : Fin 8 → Fin 16 → EReal) (C : Fin 256 → EReal) (V : Fin 1024 → EReal)
    (W : Fin 256 → EReal) (e : Fin 8 → Fin 16 → Fin 1024)
    (he : ∀ a k a' k', e a k = e a' k' → a = a' ∧ k = k') (hs : ∀ a k, s (e a k) = L a k)
    (h0 : ∀ j, (∀ a k, e a k ≠ j) → s j = ⊥) (hL : ∀ a k, ∃ r : ℝ, L a k = r) (hC : ∀ n, ∃ r : ℝ, C n = r) :
    slab s C V W = near L C (fun a k => V (e a k)) W := by
  have hS : ∀ l, ∃ r : ℝ, cat L C l = r := fun l => by
    unfold cat
    split
    · exact hL _ _
    · exact hC _
  choose S hS using hS
  have hcat : cat L C = fun l => ((S l : ℝ) : EReal) := funext hS
  obtain ⟨m, hm⟩ := max_real S
  unfold slab near prob
  rw [max_eq s L C e hs h0, hcat, hm]
  have hbot : Ideal.exp ((⊥ : EReal) - (m : EReal)) = 0 := by rw [EReal.bot_sub]; rfl
  have z : ∀ j, (∀ a k, e a k ≠ j) → Ideal.exp (s j - (m : EReal)) = 0 := fun j hj => by rw [h0 j hj, hbot]
  rw [sum_slab (fun j => Ideal.exp (s j - m) * V j) e he (fun j hj => by rw [z j hj, zero_mul]),
    sum_slab (fun j => Ideal.exp (s j - m)) e he z]
  have hC' : ∀ n : Fin 256, C n = ((S ⟨128 + n.val, by omega⟩ : ℝ) : EReal) := fun n => by rw [← hS, cat_ctx]
  have hL' : ∀ a k, s (e a k) = ((S ⟨16 * a.val + k.val, by omega⟩ : ℝ) : EReal) := fun a k => by rw [hs, ← hS, cat_near]
  simp only [hC', hL']
  have hD := sum_cat (fun l => Ideal.exp (((S l : ℝ) : EReal) - m))
  rw [← hD]
  have hr : ∑ l, Ideal.exp (((S l : ℝ) : EReal) - m) = ((∑ l, Real.exp (S l - m) : ℝ) : EReal) := by
    rw [← coe_sum]
    rfl
  rw [hr]
  have hp : 0 < ∑ l : Fin 384, Real.exp (S l - m) := Finset.sum_pos (fun l _ => Real.exp_pos _) ⟨0, Finset.mem_univ _⟩
  generalize ∑ l : Fin 384, Real.exp (S l - m) = D at hp
  have hdiv : ∀ x, Ideal.div x (D : EReal) = x * ((D⁻¹ : ℝ) : EReal) := fun x => by
    unfold Ideal.div
    rw [if_neg (by exact_mod_cast hp.ne'), EReal.coe_inv]
  have h0c : (0 : EReal) ≤ ((D⁻¹ : ℝ) : EReal) := by exact_mod_cast (inv_pos.mpr hp).le
  have htc : ((D⁻¹ : ℝ) : EReal) ≠ ⊤ := EReal.coe_ne_top _
  simp only [hdiv, one_mul]
  rw [EReal.right_distrib_of_nonneg_of_ne_top h0c htc, sum_mul_real _ _ h0c htc, sum_mul_real _ _ h0c htc]
  simp only [sum_mul_real _ _ h0c htc, mul_right_comm]

end Cert.Proof.NattenMath

end
-- ==== Proof.NattenGather.lean ====
/- Where the neighborhood of a query lies, and a gather read at an index: the element its operand index names. -/
module

public import Idealize.ShloMosaic.Lib.Pointwise
public import Idealize.ShloMosaic.Lib.WordArith
public import Idealize.ShloMosaic.Lib.ValueIdxCore

@[expose] public section

noncomputable section

namespace Cert.Proof.NattenGather

open Idealize.ShloMosaic Idealize.ShloMosaic.Tactic

/-- The first row, and the first column, of the neighborhood of a query's row, and column. -/
def rs (r : Fin 64) : Nat := min (r.val - 4) 56
def cs (w : Fin 64) : Nat := min (w.val - 8) 48

def nrow (r : Fin 64) (a : Fin 8) : Fin 64 := ⟨rs r + a.val, by unfold rs; omega⟩
def ncol (w : Fin 64) (k : Fin 16) : Fin 64 := ⟨cs w + k.val, by unfold cs; omega⟩

/-- Where the bias of that offset lies in the table. -/
def brow (r : Fin 64) (a : Fin 8) : Fin 15 := ⟨rs r + a.val + 7 - r.val, by unfold rs; omega⟩
def bcol (w : Fin 64) (k : Fin 16) : Fin 31 := ⟨cs w + k.val + 15 - w.val, by unfold cs; omega⟩

/-- The token of a row and a column, and lane `d` of head `h`. -/
def tok (r w : Fin 64) : Fin 4096 := ⟨r.val * 64 + w.val, by omega⟩
def lan (o : Nat) (ho : o ≤ 1024) (h : Fin 8) (d : Fin 64) : Fin 1536 := ⟨o + (h.val * 64 + d.val), by omega⟩

/-- A gather reads the element at `k` once its operand index has the coordinates of `k`. -/
theorem gather_of {s si t : Shape} {α : Type} (D : GatherDims s si t) (x : s.Idx → α) (i : IVec si 32) (j : t.Idx) (k : s.Idx)
    (h : ∀ c, (D.operandIdx j i c).val = (k c).val) : Host.gather D x i j = x k := by
  unfold Host.gather
  congr 1
  funext c
  exact Fin.ext (h c)

/-- The start of an axis of `m` elements, where the start index is a number below `m`. -/
theorem start_of {si : Shape} (i : IVec si 32) (l l' : si.Idx) (n m : Nat) (hl : l = l') (hi : i l' = BitVec.ofNat 32 n)
    (h : n < m) (hm : m ≤ 64) : min (i l).toInt.toNat (m - 1) + 0 + 0 = n := by
  rw [hl, hi, Idealize.ShloMosaic.WordArith.toInt_ofNat_small _ (by omega), Int.toNat_natCast]
  omega

theorem bot_word : Ideal.ofBits .f32 0xFF800000#32 = ⊥ := by
  show Ideal.ieee 8 23 (0xFF800000#32 : BitVec 32) = ⊥
  simp [Ideal.ieee]

/-- A maximum along the last of five axes, at an index. -/
theorem max_last {n0 n1 n2 n3 n4 : Nat} {u : Shape} (x : FVec Ideal ⟨5, ![n0, n1, n2, n3, n4]⟩ .f32) (init : FVec Ideal u .f32)
    (hr : Shape.ReducesTo ⟨5, ![n0, n1, n2, n3, n4]⟩ [4] ⟨4, ![n0, n1, n2, n3]⟩) (hu : 0 < u.numel) (a : Fin n0) (b : Fin n1) (c : Fin n2)
    (d : Fin n3) : Host.reduce FloatOps.maximumf x init hr hu (ix4 a b c d)
      = Finset.univ.fold max (init (Shape.Idx.first hu)) (fun l => x (ix5 a b c d l)) := by
  pointwise

theorem ext3 {n0 n1 n2 : Nat} {f g : (⟨3, ![n0, n1, n2]⟩ : Shape).Idx} (h0 : f 0 = g 0) (h1 : f 1 = g 1) (h2 : f 2 = g 2) : f = g := by
  funext c
  match c with
  | ⟨0, _⟩ => exact h0
  | ⟨1, _⟩ => exact h1
  | ⟨2, _⟩ => exact h2

end Cert.Proof.NattenGather

end
-- ==== Proof.NattenBlock.lean ====
/- What one block of the attention computes: for each of its two heads, every query's row is `slab` of its scores. -/
module

public import proofs.«01_k».proof.Proof.Gen.NattenIdeal.Value
public import proofs.«01_k».proof.Proof.NattenMath
public import proofs.«01_k».proof.Proof.NattenGather
public import Idealize.ShloMosaic.Lib.Pointwise

@[expose] public section

set_option maxRecDepth 16384

noncomputable section

namespace Cert.Proof.NattenBlock

open Cert.Proof.NattenGather (bot_word)

open Cert.NattenIdeal Cert.NattenIdeal.Gen Cert.NattenIdeal.Value Idealize.ShloMosaic Idealize.ShloMosaic.TcCoe Idealize.SL.Sem
open Idealize.ShloMosaic.Tactic Cert.Proof.NattenMath

/-- The lanes that a head's scores see, at the lane numbers `ln` counted from the head's first. -/
def keep (ln : IVec S1x128 32) (l : Fin 128) (x : EReal) : EReal :=
  Scalar.select (IntOp.andi (IntOp.cmpi .sge (ln (ix2 0 l)) 0#32) (IntOp.cmpi .slt (ln (ix2 0 l)) 64#32)) x 0

theorem head_apply (Q : FVec Ideal S512x128 .bf16) (K V : FVec Ideal S1024x128 .bf16) (KC VC : FVec Ideal S256x128 .bf16)
    (ln : IVec S1x128 32) (ok : IVec S512x1024 1) (tb : Vec Ideal S1x1x512x1024 .f32) (r : Fin 512) (l : Fin 128) :
    k0_pay8 Q K V KC VC ln ok tb (ix2 r l)
      = slab (fun j => ∑ d, keep ln d (Q (ix2 r d) * K (ix2 j d)) + Scalar.select (ok (ix2 r j)) (tb (ix4 0 0 r j)) ⊥)
          (fun n => ∑ d, keep ln d (Q (ix2 r d) * KC (ix2 n d))) (fun j => V (ix2 j l)) (fun n => VC (ix2 n l)) := by
  pointwise [k0_pay8]
  simp only [bot_word, slab, keep]
  rfl

/-- The lane numbers counted from the first lane of head `hd` of the pair. -/
def lane (hd : Fin 2) : IVec S1x128 32 := fun y => BitVec.ofNat 32 (y 1).val - BitVec.ofNat 32 (64 * hd.val)

theorem lane_zero : (iota .tc S1x128 32 [1] iota_S1x128_d1_w32 : IVec S1x128 32) = lane 0 := by
  funext y
  idx_vars y
  pointwise [lane]
  simp

/-- The second head's text is the first's, the lanes counted from 64. -/
theorem second_eq (Q : FVec Ideal S512x128 .bf16) (K V : FVec Ideal S1024x128 .bf16) (KC VC : FVec Ideal S256x128 .bf16)
    (ok : IVec S512x1024 1) (tb : Vec Ideal S1x1x512x1024 .f32) :
    k0_pay10 Q K V KC VC (lane 0) ok k0_pay9 tb = k0_pay8 Q K V KC VC (lane 1) ok tb := by
  have h : andi (cmpi .sge (lane 0) k0_pay9) (cmpi .slt (lane 0) (broadcast S1x128 128#32))
      = andi (cmpi .sge (lane 1) (broadcast S1x128 0#32)) (cmpi .slt (lane 1) (broadcast S1x128 64#32)) := by
    funext y
    idx_vars y
    fin_cases y0
    revert y1
    decide +kernel
  unfold k0_pay10 k0_pay8
  dsimp only
  rw [h]

/-- So a head's sum over the 128 lanes is over its own 64. -/
theorem keep_sum (hd : Fin 2) (f : Fin 128 → EReal) :
    ∑ l, keep (lane hd) l (f l) = ∑ d : Fin 64, f ⟨64 * hd.val + d.val, by omega⟩ := by
  have hin : ∀ (hd : Fin 2) (d : Fin 64), IntOp.andi (IntOp.cmpi .sge (lane hd (ix2 0 ⟨64 * hd.val + d.val, by omega⟩)) 0#32)
      (IntOp.cmpi .slt (lane hd (ix2 0 ⟨64 * hd.val + d.val, by omega⟩)) 64#32) = 1#1 := by decide +kernel
  have hout : ∀ (hd : Fin 2) (d : Fin 64), IntOp.andi (IntOp.cmpi .sge (lane hd (ix2 0 ⟨64 * (1 - hd.val) + d.val, by omega⟩)) 0#32)
      (IntOp.cmpi .slt (lane hd (ix2 0 ⟨64 * (1 - hd.val) + d.val, by omega⟩)) 64#32) = 0#1 := by decide +kernel
  have key : ∀ hd : Fin 2, ∀ d : Fin 64, keep (lane hd) ⟨64 * hd.val + d.val, by omega⟩ (f ⟨64 * hd.val + d.val, by omega⟩)
        = f ⟨64 * hd.val + d.val, by omega⟩
      ∧ keep (lane hd) ⟨64 * (1 - hd.val) + d.val, by omega⟩ (f ⟨64 * (1 - hd.val) + d.val, by omega⟩) = 0 := by
    intro hd d
    refine ⟨?_, ?_⟩
    · unfold keep
      rw [hin hd d]
      rfl
    · unfold keep
      rw [hout hd d]
      rfl
  rw [sum_split (a := 64) (b := 64) (by decide)]
  fin_cases hd
  · have h1 := fun d => (key 0 d).1
    have h2 := fun d => (key 0 d).2
    simp only [Fin.val_zero, Nat.mul_zero, Nat.zero_add, Nat.sub_zero, Nat.mul_one] at h1 h2
    simp only [Fin.zero_eta, Fin.val_zero, Nat.mul_zero, Nat.zero_add, h1, h2, Finset.sum_const_zero, add_zero]
  · have h1 := fun d => (key 1 d).1
    have h2 := fun d => (key 1 d).2
    simp only [Fin.val_one, Nat.mul_zero, Nat.zero_add, Nat.sub_self, Nat.mul_one] at h1 h2
    simp only [Fin.mk_one, Fin.val_one, Nat.mul_one, h1, h2, Finset.sum_const_zero, zero_add]

/-- An entry of a block's result. -/
def entry (hd : Fin 2) (q : Fin 64 → EReal) (K V : Fin 1024 → Fin 64 → EReal) (KC VC : Fin 256 → Fin 64 → EReal)
    (ok : Fin 1024 → BitVec 32) (tb : Fin 1024 → EReal) (d : Fin 64) : EReal :=
  slab (fun j => ∑ e, q e * Ideal.ofBits .bf16 0x3E00#16 * K j e + Scalar.select (IntOp.cmpi .ne (ok j) 0#32) (tb j) ⊥)
    (fun n => ∑ e, q e * Ideal.ofBits .bf16 0x3E00#16 * KC n e) (fun j => V j d) (fun n => VC n d)

/-- What is stored of a block's inputs. -/
def stored (q : Vec Ideal S1x512x128 .bf16) (k v : Vec Ideal S1x1024x128 .bf16) (kc vc : Vec Ideal S1x256x128 .bf16)
    (ok : Vec Ideal S1x512x1024 .i32) (t0 t1 : Vec Ideal S1x1x512x1024 .f32) : FVec Ideal S1x512x128 .bf16 :=
  k0_pay1 (k0_pay8 (k0_pay2 q) (k0_pay3 k) (k0_pay4 v) (k0_pay5 kc) (k0_pay6 vc) (iota .tc S1x128 32 [1] iota_S1x128_d1_w32) (k0_pay7 ok) t0)
    (k0_pay10 (k0_pay2 q) (k0_pay3 k) (k0_pay4 v) (k0_pay5 kc) (k0_pay6 vc) (iota .tc S1x128 32 [1] iota_S1x128_d1_w32) (k0_pay7 ok) k0_pay9 t1)
    (k0_pay11 (iota .tc S1x128 32 [1] iota_S1x128_d1_w32))

theorem pick_apply (A B : FVec Ideal S512x128 .f32) (r : Fin 512) (hd : Fin 2) (d : Fin 64) :
    k0_pay1 A B (k0_pay11 (lane 0)) (ix3 0 r ⟨64 * hd.val + d.val, by omega⟩)
      = if hd = 0 then A (ix2 r ⟨64 * hd.val + d.val, by omega⟩) else B (ix2 r ⟨64 * hd.val + d.val, by omega⟩) := by
  have h : ∀ (hd : Fin 2) (d : Fin 64), IntOp.cmpi .slt (lane 0 (ix2 0 ⟨64 * hd.val + d.val, by omega⟩)) 64#32 = if hd = 0 then 1#1 else 0#1 := by
    decide +kernel
  pointwise [k0_pay1, k0_pay11]
  rw [h hd d]
  split <;> rfl

theorem head_entry (q : Vec Ideal S1x512x128 .bf16) (k v : Vec Ideal S1x1024x128 .bf16) (kc vc : Vec Ideal S1x256x128 .bf16)
    (ok : Vec Ideal S1x512x1024 .i32) (tb : Vec Ideal S1x1x512x1024 .f32) (r : Fin 512) (hd : Fin 2) (d : Fin 64) :
    k0_pay8 (k0_pay2 q) (k0_pay3 k) (k0_pay4 v) (k0_pay5 kc) (k0_pay6 vc) (lane hd) (k0_pay7 ok) tb (ix2 r ⟨64 * hd.val + d.val, by omega⟩)
      = entry hd (fun e => q (ix3 0 r ⟨64 * hd.val + e.val, by omega⟩)) (fun j e => k (ix3 0 j ⟨64 * hd.val + e.val, by omega⟩))
          (fun j e => v (ix3 0 j ⟨64 * hd.val + e.val, by omega⟩)) (fun n e => kc (ix3 0 n ⟨64 * hd.val + e.val, by omega⟩))
          (fun n e => vc (ix3 0 n ⟨64 * hd.val + e.val, by omega⟩)) (fun j => ok (ix3 0 r j)) (fun j => tb (ix4 0 0 r j)) d := by
  have hq : ∀ l, k0_pay2 q (ix2 r l) = q (ix3 0 r l) * Ideal.ofBits .bf16 0x3E00#16 := fun l => by pointwise [k0_pay2]
  have hk : ∀ j l, k0_pay3 k (ix2 j l) = k (ix3 0 j l) := fun j l => by pointwise [k0_pay3]
  have hv : ∀ j l, k0_pay4 v (ix2 j l) = v (ix3 0 j l) := fun j l => by pointwise [k0_pay4]
  have hkc : ∀ j l, k0_pay5 kc (ix2 j l) = kc (ix3 0 j l) := fun j l => by pointwise [k0_pay5]
  have hvc : ∀ j l, k0_pay6 vc (ix2 j l) = vc (ix3 0 j l) := fun j l => by pointwise [k0_pay6]
  have hok : ∀ j, k0_pay7 ok (ix2 r j) = IntOp.cmpi .ne (ok (ix3 0 r j)) 0#32 := fun j => by pointwise [k0_pay7]
  rw [head_apply]
  simp only [hq, hk, hv, hkc, hvc, hok, keep_sum, entry]

/-- So every entry of what is stored is `entry` of its head, row and lane. -/
theorem stored_apply (q : Vec Ideal S1x512x128 .bf16) (k v : Vec Ideal S1x1024x128 .bf16) (kc vc : Vec Ideal S1x256x128 .bf16)
    (ok : Vec Ideal S1x512x1024 .i32) (t0 t1 : Vec Ideal S1x1x512x1024 .f32) (r : Fin 512) (hd : Fin 2) (d : Fin 64) :
    stored q k v kc vc ok t0 t1 (ix3 0 r ⟨64 * hd.val + d.val, by omega⟩)
      = entry hd (fun e => q (ix3 0 r ⟨64 * hd.val + e.val, by omega⟩)) (fun j e => k (ix3 0 j ⟨64 * hd.val + e.val, by omega⟩))
          (fun j e => v (ix3 0 j ⟨64 * hd.val + e.val, by omega⟩)) (fun n e => kc (ix3 0 n ⟨64 * hd.val + e.val, by omega⟩))
          (fun n e => vc (ix3 0 n ⟨64 * hd.val + e.val, by omega⟩)) (fun j => ok (ix3 0 r j))
          (fun j => (if hd = 0 then t0 else t1) (ix4 0 0 r j)) d := by
  unfold stored
  rw [lane_zero, second_eq, pick_apply]
  fin_cases hd
  · exact head_entry q k v kc vc ok t0 r 0 d
  · exact head_entry q k v kc vc ok t1 r 1 d

/-- What a grid point's run leaves in the output's staging buffer. -/
theorem out_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S2x3x512x1024 .f32) (harg8 : arg8.IsWhole) (arg9 : Memref sig .tc .vmem S3x512x1024 .i32) (harg9 : arg9.IsWhole) (arg10 : Memref sig .tc .vmem S1x512x128 .bf16) (harg10 : arg10.IsWhole)
    (x0 : Vec Ideal S1x512x128 .bf16) (x1 : Vec Ideal S1x4096x128 .bf16) (x2 : Vec Ideal S1x4096x128 .bf16) (x3 : Vec Ideal S1x256x128 .bf16) (x4 : Vec Ideal S1x256x128 .bf16) (x5 : Vec Ideal S2x3x512x1024 .f32) (x6 : Vec Ideal S3x512x1024 .i32) :
    out0_A_7 c i arg3 harg3 arg4 harg4 arg5 harg5 arg6 harg6 arg7 harg7 arg8 harg8 arg9 harg9 arg10 harg10 x0 x1 x2 x3 x4 x5 x6
      = stored x0 (View.ld x1 (Rect.unit (s := S1x4096x128) (k0_off1 i) S1x1024x128.size (k0_off1_inb i)))
          (View.ld x2 (Rect.unit (s := S1x4096x128) (k0_off1 i) S1x1024x128.size (k0_off1_inb i))) x3 x4
          (View.ld x6 (Rect.unit (s := S3x512x1024) (k0_off2 i) S1x512x1024.size (k0_off2_inb i)))
          (View.ld x5 (Rect.unit (s := S2x3x512x1024) (k0_off3 i) S1x1x512x1024.size (k0_off3_inb i)))
          (View.ld x5 (Rect.unit (s := S2x3x512x1024) (k0_off4 i) S1x1x512x1024.size (k0_off4_inb i))) := by
  have hz : (![0, 0, 0] : Fin 3 → Nat) = fun _ => 0 := funext fun a => by fin_cases a <;> rfl
  unfold out0_A_7
  rw [View.read_writes_junk_eq_canon]
  unfold kernelRun0_A
  dsimp only
  rw [View.canon_unit_zero hz]
  sl_unfold_words
  simp only [View.readAt_eq_ld, harg3.read_unread, harg4.read_unread, harg5.read_unread, harg6.read_unread, harg7.read_unread, harg8.read_unread, harg9.read_unread]
  rw [View.ld_unit_zero hz, View.ld_unit_zero hz, View.ld_unit_zero hz]
  rfl

end Cert.Proof.NattenBlock

end
-- ==== Proof.NattenEntry.lean ====
/- One element of a block's result as the attention over the query's neighborhood and the context. -/
module

public import proofs.«01_k».proof.Proof.NattenBlock
public import proofs.«01_k».proof.Proof.NattenMath

@[expose] public section

noncomputable section

namespace Cert.Proof.NattenEntry

open Idealize.ShloMosaic Cert.Proof.NattenMath
open Cert.Proof.NattenBlock (entry)

theorem eighth : Ideal.ofBits .f32 0x3E000000#32 = ((1 / 8 : ℝ) : EReal) := by
  show Ideal.ieee 8 23 (0x3E000000#32 : BitVec 32) = _
  simp [Ideal.ieee]
  rw [← EReal.coe_mul]
  norm_num

theorem eighth' : Ideal.ofBits .bf16 0x3E00#16 = ((1 / 8 : ℝ) : EReal) := by
  show Ideal.ieee 8 7 (0x3E00#16 : BitVec 16) = _
  simp [Ideal.ieee]
  rw [← EReal.coe_mul]
  norm_num

/-- The scale in the products is the scale of the sum. -/
theorem scaled {n : Nat} (q k : Fin n → EReal) :
    ∑ e, q e * Ideal.ofBits .bf16 0x3E00#16 * k e = (∑ e, q e * k e) * Ideal.ofBits .f32 0x3E000000#32 := by
  rw [eighth, eighth', sum_mul_real _ _ (by norm_num) (EReal.coe_ne_top _)]
  exact Finset.sum_congr rfl fun e _ => mul_right_comm _ _ _

/-- One lane of one head: the slab's keys outside of the neighborhood weigh nothing. -/
theorem entry_near (hd : Fin 2) (q : Fin 64 → EReal) (K V : Fin 1024 → Fin 64 → EReal) (KC VC : Fin 256 → Fin 64 → EReal)
    (ok : Fin 1024 → BitVec 32) (tb : Fin 1024 → EReal) (d : Fin 64) (L : Fin 8 → Fin 16 → EReal) (C : Fin 256 → EReal)
    (e : Fin 8 → Fin 16 → Fin 1024) (he : ∀ a k a' k', e a k = e a' k' → a = a' ∧ k = k')
    (h1 : ∀ a k, ok (e a k) = 1#32) (h0 : ∀ j, (∀ a k, e a k ≠ j) → ok j = 0#32)
    (hl : ∀ a k, (∑ i, q i * K (e a k) i) * Ideal.ofBits .f32 0x3E000000#32 + tb (e a k) = L a k)
    (hc : ∀ n, (∑ i, q i * KC n i) * Ideal.ofBits .f32 0x3E000000#32 = C n)
    (hL : ∀ a k, ∃ r : ℝ, L a k = r) (hC : ∀ n, ∃ r : ℝ, C n = r) :
    entry hd q K V KC VC ok tb d = near L C (fun a k => V (e a k) d) (fun n => VC n d) := by
  unfold entry
  simp only [scaled, hc]
  refine slab_eq_near _ _ _ _ _ e he (fun a k => ?_) (fun j hj => ?_) hL hC
  · rw [h1, ← hl]
    rfl
  · rw [h0 j hj]
    exact EReal.add_bot _

end Cert.Proof.NattenEntry

end
-- ==== Proof.NattenTables.lean ====
/- The two tables that the host operations build: the bias of every query of a block and every key of its slab, and
   whether the key is in the query's neighborhood. -/
module

public import proofs.«01_k».proof.Proof.Gen.NattenIdeal.Value
public import proofs.«01_k».proof.Proof.NattenGather
public import Idealize.ShloMosaic.Lib.Pointwise
public import Idealize.ShloMosaic.Lib.StableHlo.ReadAt

@[expose] public section

set_option maxRecDepth 16384

noncomputable section

namespace Cert.Proof.NattenTables

open Cert.NattenIdeal Cert.NattenIdeal.Gen Cert.NattenIdeal.Value Idealize.ShloMosaic Idealize.ShloMosaic.TcCoe
open Idealize.ShloMosaic.Tactic Cert.Proof.NattenGather

theorem gather_col {α : Type} (x : S8x15x31.Idx → α) (i : IVec S64x64x1 32) (h : Fin 8) (a : Fin 15) (w k : Fin 64) (n : Fin 31)
    (hi : i (ix3 w k 0) = BitVec.ofNat 32 n.val) :
    Host.gather gather_S8x15x31_S64x64x1_S8x15x64x64_01_2_n_n_2_2_8151 x i (ix4 h a w k) = x (ix3 h a n) :=
  gather_of _ _ _ _ _ fun c => match c with
    | ⟨0, _⟩ => Nat.zero_add _
    | ⟨1, _⟩ => Nat.zero_add _
    | ⟨2, _⟩ => start_of i _ (ix3 w k 0) n.val 31 (ext3 rfl rfl rfl) hi n.isLt (by decide)

theorem gather_row {α : Type} (x : S8x15x64x64.Idx → α) (i : IVec S3x8x16x1 32) (h : Fin 8) (q : Fin 3) (r : Fin 8) (a : Fin 16)
    (w k : Fin 64) (n : Fin 15) (hi : i (ix4 q r a 0) = BitVec.ofNat 32 n.val) :
    Host.gather gather_S8x15x64x64_S3x8x16x1_S8x3x8x16x64x64_045_1_n_n_1_3_816464 x i (ix6 h q r a w k) = x (ix4 h n w k) :=
  gather_of _ _ _ _ _ fun c => match c with
    | ⟨0, _⟩ => Nat.zero_add _
    | ⟨1, _⟩ => start_of i _ (ix4 q r a 0) n.val 15 (by funext c; match c with | ⟨0, _⟩ => rfl | ⟨1, _⟩ => rfl | ⟨2, _⟩ => rfl | ⟨3, _⟩ => rfl) hi n.isLt (by decide)
    | ⟨2, _⟩ => Nat.zero_add _
    | ⟨3, _⟩ => Nat.zero_add _

/-- The tables' case of a block of eight rows, the first row of its slab, and the row of its `x`-th row. -/
def kase (i : Fin 8) : Fin 3 := if i.val = 0 then 0 else if i.val = 7 then 2 else 1
def w0 (i : Fin 8) : Nat := min (8 * i.val - 4) 48
def blockRow (i x : Fin 8) : Fin 64 := ⟨i.val * 8 + x.val, by omega⟩

/-- The row of the slab that holds the `a`-th row of the neighborhood. -/
def slabRow (i x a : Fin 8) : Fin 16 := ⟨rs (blockRow i x) + a.val - w0 i, by unfold rs w0 blockRow; simp only; omega⟩

/-- The row of a block, and the column, of its `x`-th query; and the key of the slab at `(a, k)` of its neighborhood. -/
def qrow (x : Fin 512) : Fin 8 := ⟨x.val / 64, by omega⟩
def qcol (x : Fin 512) : Fin 64 := ⟨x.val % 64, by omega⟩
def key (i : Fin 8) (x : Fin 512) (a : Fin 8) (k : Fin 16) : Fin 1024 :=
  ⟨(slabRow i (qrow x) a).val * 64 + (ncol (qcol x) k).val, by omega⟩

theorem row_bias : ∀ (i x a : Fin 8), lit1 (S3x8x16.rowMajor (ix3 (kase i) x (slabRow i x a))) = BitVec.ofNat 32 (brow (blockRow i x) a).val := by
  decide +kernel

theorem col_bias : ∀ (w : Fin 64) (k : Fin 16), lit0 (S64x64.rowMajor (ix2 w (ncol w k))) = BitVec.ofNat 32 (bcol w k).val := by
  decide +kernel

theorem row_valid : ∀ (i x : Fin 8) (a : Fin 16), lit2 (S3x8x16.rowMajor (ix3 (kase i) x a))
    = if rs (blockRow i x) ≤ w0 i + a.val ∧ w0 i + a.val < rs (blockRow i x) + 8 then 1#1 else 0#1 := by
  decide +kernel

theorem col_valid : ∀ (w k : Fin 64), lit3 (S64x64.rowMajor (ix2 w k)) = if cs w ≤ k.val ∧ k.val < cs w + 16 then 1#1 else 0#1 := by
  decide +kernel

variable (m : (ℓ : Loc nD τ sig) → Buf (Elt Ideal) ℓ)

theorem V13 (c : Dev nD) (q : Fin 3) (x : Fin 512) (j : Fin 1024) :
    V m c main_v13 (ix3 q x j) = BitVec.zeroExtend 32 (IntOp.andi (lit2 (S3x8x16.rowMajor (ix3 q ⟨x.val / 64, by omega⟩ ⟨j.val / 64, by omega⟩)))
      (lit3 (S64x64.rowMajor (ix2 ⟨x.val % 64, by omega⟩ ⟨j.val % 64, by omega⟩)))) := by
  unfold V
  after_reads_simp
  clean_types
  pointwise

theorem V11 (c : Dev nD) (h : Fin 8) (q : Fin 3) (x : Fin 512) (j : Fin 1024) (a : Fin 15) (k : Fin 31)
    (ha : lit1 (S3x8x16.rowMajor (ix3 q ⟨x.val / 64, by omega⟩ ⟨j.val / 64, by omega⟩)) = BitVec.ofNat 32 a.val)
    (hk : lit0 (S64x64.rowMajor (ix2 ⟨x.val % 64, by omega⟩ ⟨j.val % 64, by omega⟩)) = BitVec.ofNat 32 k.val) :
    V m c main_v11 (ix4 h q x j) = m ((c : Thread nD τ).loc main_arg2) (ix4 0 h a k) := by
  unfold V
  after_reads_simp
  clean_types
  pointwise
  rw [gather_row _ _ _ _ _ _ _ _ a (by pointwise; exact ha), gather_col _ _ _ _ _ _ k (by pointwise; exact hk)]
  rfl

end Cert.Proof.NattenTables

end
-- ==== Proof.NattenKeys.lean ====
/- The tables at the keys of a query's neighborhood, and at the other keys of its slab. -/
module

public import proofs.«01_k».proof.Proof.NattenTables

@[expose] public section

set_option maxRecDepth 16384

noncomputable section

namespace Cert.Proof.NattenKeys

open Cert.NattenIdeal Cert.NattenIdeal.Gen Cert.NattenIdeal.Value Idealize.ShloMosaic Idealize.ShloMosaic.TcCoe
open Cert.Proof.NattenGather
open Cert.Proof.NattenTables (kase w0 blockRow slabRow qrow qcol key row_bias col_bias row_valid col_valid V11 V13)

variable (m : (ℓ : Loc nD τ sig) → Buf (Elt Ideal) ℓ)

theorem key_row (i : Fin 8) (x : Fin 512) (a : Fin 8) (k : Fin 16) :
    (⟨(key i x a k).val / 64, by omega⟩ : Fin 16) = slabRow i (qrow x) a := by
  have := (ncol (qcol x) k).isLt
  refine Fin.ext ?_
  simp only [key]
  omega

theorem key_col (i : Fin 8) (x : Fin 512) (a : Fin 8) (k : Fin 16) :
    (⟨(key i x a k).val % 64, by omega⟩ : Fin 64) = ncol (qcol x) k := by
  have := (ncol (qcol x) k).isLt
  refine Fin.ext ?_
  simp only [key]
  omega

/-- The first row of the slab is not below the first row of the neighborhood. -/
theorem slab_row (i x a : Fin 8) : w0 i + (slabRow i x a).val = rs (blockRow i x) + a.val := by
  unfold slabRow w0 rs blockRow
  simp only
  omega

theorem key_inj (i : Fin 8) (x : Fin 512) (a : Fin 8) (k : Fin 16) (a' : Fin 8) (k' : Fin 16) (h : key i x a k = key i x a' k') :
    a = a' ∧ k = k' := by
  have hr : slabRow i (qrow x) a = slabRow i (qrow x) a' :=
    (key_row i x a k).symm.trans ((congrArg (fun z : Fin 1024 => (⟨z.val / 64, by omega⟩ : Fin 16)) h).trans (key_row i x a' k'))
  have hk : ncol (qcol x) k = ncol (qcol x) k' :=
    (key_col i x a k).symm.trans ((congrArg (fun z : Fin 1024 => (⟨z.val % 64, by omega⟩ : Fin 64)) h).trans (key_col i x a' k'))
  have h1 := slab_row i (qrow x) a
  have h2 := slab_row i (qrow x) a'
  rw [hr] at h1
  have h3 := congrArg Fin.val hk
  simp only [ncol] at h3
  exact ⟨Fin.ext (by omega), Fin.ext (by omega)⟩

theorem table_key (c : Dev nD) (h : Fin 8) (i : Fin 8) (x : Fin 512) (a : Fin 8) (k : Fin 16) :
    V m c main_v11 (ix4 h (kase i) x (key i x a k))
      = m ((c : Thread nD τ).loc main_arg2) (ix4 0 h (brow (blockRow i (qrow x)) a) (bcol (qcol x) k)) := by
  refine V11 m c h (kase i) x _ _ _ ?_ ?_
  · rw [key_row]
    exact row_bias i (qrow x) a
  · rw [key_col]
    exact col_bias (qcol x) k

theorem valid_key (c : Dev nD) (i : Fin 8) (x : Fin 512) (a : Fin 8) (k : Fin 16) :
    V m c main_v13 (ix3 (kase i) x (key i x a k)) = 1#32 := by
  have h1 := slab_row i (qrow x) a
  have h2 : cs (qcol x) ≤ (ncol (qcol x) k).val ∧ (ncol (qcol x) k).val < cs (qcol x) + 16 := by
    simp only [ncol]
    omega
  rw [V13, key_row, key_col]
  show BitVec.zeroExtend 32 (IntOp.andi (lit2 (S3x8x16.rowMajor (ix3 (kase i) (qrow x) (slabRow i (qrow x) a))))
    (lit3 (S64x64.rowMajor (ix2 (qcol x) (ncol (qcol x) k))))) = 1#32
  rw [row_valid, col_valid, if_pos (by omega), if_pos h2]
  decide

theorem valid_off (c : Dev nD) (i : Fin 8) (x : Fin 512) (j : Fin 1024) (hj : ∀ a k, key i x a k ≠ j) :
    V m c main_v13 (ix3 (kase i) x j) = 0#32 := by
  obtain ⟨ja, hja⟩ : ∃ ja : Fin 16, ja = ⟨j.val / 64, by omega⟩ := ⟨_, rfl⟩
  obtain ⟨jk, hjk⟩ : ∃ jk : Fin 64, jk = ⟨j.val % 64, by omega⟩ := ⟨_, rfl⟩
  rw [V13, ← hja, ← hjk]
  show BitVec.zeroExtend 32 (IntOp.andi (lit2 (S3x8x16.rowMajor (ix3 (kase i) (qrow x) ja))) (lit3 (S64x64.rowMajor (ix2 (qcol x) jk)))) = 0#32
  rw [row_valid, col_valid]
  by_cases ha : rs (blockRow i (qrow x)) ≤ w0 i + ja.val ∧ w0 i + ja.val < rs (blockRow i (qrow x)) + 8
  · by_cases hk : cs (qcol x) ≤ jk.val ∧ jk.val < cs (qcol x) + 16
    · refine absurd ?_ (hj ⟨w0 i + ja.val - rs (blockRow i (qrow x)), by omega⟩ ⟨jk.val - cs (qcol x), by omega⟩)
      have h1 := slab_row i (qrow x) ⟨w0 i + ja.val - rs (blockRow i (qrow x)), by omega⟩
      have h2 : (ncol (qcol x) ⟨jk.val - cs (qcol x), by omega⟩).val = jk.val := by
        simp only [ncol]
        omega
      have h3 := congrArg Fin.val hja
      have h4 := congrArg Fin.val hjk
      refine Fin.ext ?_
      show (slabRow i (qrow x) _).val * 64 + (ncol (qcol x) _).val = j.val
      simp only at h1 h3 h4
      omega
    · rw [if_neg hk, if_pos ha]
      decide
  · rw [if_neg ha]
    split <;> decide

end Cert.Proof.NattenKeys

end
-- ==== Proof.NattenRef.lean ====
/- The attention reference's stages, each read at an index as a function of the arguments. -/
module

public import proofs.«01_k».proof.Proof.Gen.NattenRefIdeal.Read
public import proofs.«01_k».proof.Proof.NattenMath
public import Idealize.ShloMosaic.Lib.Pointwise
public import proofs.«01_k».proof.Proof.NattenGather

@[expose] public section

set_option maxRecDepth 16384

noncomputable section

namespace Cert.Proof.NattenRef

open Cert.NattenRefIdeal Cert.NattenRefIdeal.Gen Cert.NattenRefIdeal.Read Idealize.ShloMosaic
open Idealize.ShloMosaic.Tactic Cert.Proof.NattenMath Cert.Proof.NattenGather

theorem rows : ∀ (r : Fin 64) (a : Fin 8), val_main_v54 (F := Ideal) (ix3 r a 0) = BitVec.ofNat 32 (nrow r a).val := by
  intro r a
  pointwise [val_main_v54, val_main_v53, val_main_v50, val_main_v52, val_main_v49, val_main_v51, val_main_v34, val_main_v32, val_main_v33, val_main_v29, val_main_v31, val_main_v24, val_main_v30, val_main_call0_v4, val_main_call0_v2, val_main_call0_v3, val_main_call0_v1, val_main_call0_v0, val_main_v23, val_main_v22, val_main_v21, val_main_c, val_main_c_0, val_main_c_1, val_main_c_5, val_main_c_6]
  revert r a
  decide +kernel

theorem rows' (r : Fin 64) (a : Fin 8) : val_main_v68 (F := Ideal) (ix3 r a 0) = BitVec.ofNat 32 (nrow r a).val := by
  rw [← rows r a]
  rfl

theorem cols : ∀ (w : Fin 64) (k : Fin 16), val_main_v61 (F := Ideal) (ix3 w k 0) = BitVec.ofNat 32 (ncol w k).val := by
  intro r a
  pointwise [val_main_v61, val_main_v60, val_main_v57, val_main_v59, val_main_v56, val_main_v58, val_main_v40, val_main_v38, val_main_v39, val_main_v35, val_main_v37, val_main_v28, val_main_v36, val_main_call1_v4, val_main_call1_v2, val_main_call1_v3, val_main_call1_v1, val_main_call1_v0, val_main_v27, val_main_v26, val_main_v25]
  revert r a
  decide +kernel

theorem cols' (w : Fin 64) (k : Fin 16) : val_main_v75 (F := Ideal) (ix3 w k 0) = BitVec.ofNat 32 (ncol w k).val := by
  rw [← cols w k]
  rfl

theorem brows : ∀ (r : Fin 64) (a : Fin 8), val_main_v93 (F := Ideal) (ix3 r a 0) = BitVec.ofNat 32 (brow r a).val := by
  decide +kernel

theorem bcols : ∀ (w : Fin 64) (k : Fin 16), val_main_v84 (F := Ideal) (ix3 w k 0) = BitVec.ofNat 32 (bcol w k).val := by
  decide +kernel

section
variable (x0 : Vec Ideal S4x4096x1536 .bf16) (x1 : Vec Ideal S4x256x1536 .bf16) (x2 : Vec Ideal S1x8x15x31 .f32)

theorem q_apply (b : Fin 4) (h : Fin 8) (r w d : Fin 64) :
    val_main_v18 (F := Ideal) x0 (ix5 b h r w d) = x0 (ix3 b (tok r w) (lan 0 (by decide) h d)) := by
  pointwise [val_main_v18, val_main_v5, val_main_v4, val_main_v3, val_main_v0, tok, lan]

theorem k_apply (b : Fin 4) (h : Fin 8) (r w d : Fin 64) :
    val_main_v19 (F := Ideal) x0 (ix5 b h r w d) = x0 (ix3 b (tok r w) (lan 512 (by decide) h d)) := by
  pointwise [val_main_v19, val_main_v8, val_main_v7, val_main_v6, val_main_v0, tok, lan]

theorem v_apply (b : Fin 4) (h : Fin 8) (r w d : Fin 64) :
    val_main_v20 (F := Ideal) x0 (ix5 b h r w d) = x0 (ix3 b (tok r w) (lan 1024 (by decide) h d)) := by
  pointwise [val_main_v20, val_main_v11, val_main_v10, val_main_v9, val_main_v0, tok, lan]

theorem kc_apply (b : Fin 4) (h : Fin 8) (n : Fin 256) (d : Fin 64) :
    val_main_v14 (F := Ideal) x1 (ix4 b h n d) = x1 (ix3 b n (lan 512 (by decide) h d)) := by
  pointwise [val_main_v14, val_main_v13, val_main_v12, val_main_v1, lan]

theorem vc_apply (b : Fin 4) (h : Fin 8) (n : Fin 256) (d : Fin 64) :
    val_main_v17 (F := Ideal) x1 (ix4 b h n d) = x1 (ix3 b n (lan 1024 (by decide) h d)) := by
  pointwise [val_main_v17, val_main_v16, val_main_v15, val_main_v1, lan]

theorem bias_apply (h : Fin 8) (i : Fin 15) (j : Fin 31) :
    val_main_v2 (F := Ideal) x2 (ix3 h i j) = x2 (ix4 0 h i j) := by
  pointwise [val_main_v2]
end

theorem gather_row {α : Type} (x : S4x8x64x64x64.Idx → α) (i : IVec S64x8x1 32) (b : Fin 4) (h : Fin 8) (r : Fin 64) (a : Fin 8)
    (w d n : Fin 64) (hi : i (ix3 r a 0) = BitVec.ofNat 32 n.val) :
    Host.gather gather_S4x8x64x64x64_S64x8x1_S4x8x64x8x64x64_0145_2_n_n_2_2_4816464 x i (ix6 b h r a w d) = x (ix5 b h n w d) :=
  gather_of _ _ _ _ _ fun c => match c with
    | ⟨0, _⟩ => Nat.zero_add _
    | ⟨1, _⟩ => Nat.zero_add _
    | ⟨2, _⟩ => start_of i _ (ix3 r a 0) n.val 64 (ext3 rfl rfl rfl) hi n.isLt (by decide)
    | ⟨3, _⟩ => Nat.zero_add _
    | ⟨4, _⟩ => Nat.zero_add _

theorem gather_col {α : Type} (x : S4x8x64x8x64x64.Idx → α) (i : IVec S64x16x1 32) (b : Fin 4) (h : Fin 8) (r : Fin 64) (a : Fin 8)
    (w : Fin 64) (k : Fin 16) (d n : Fin 64) (hi : i (ix3 w k 0) = BitVec.ofNat 32 n.val) :
    Host.gather gather_S4x8x64x8x64x64_S64x16x1_S4x8x64x8x64x16x64_01236_4_n_n_4_2_48648164 x i (ix7 b h r a w k d) = x (ix6 b h r a n d) :=
  gather_of _ _ _ _ _ fun c => match c with
    | ⟨0, _⟩ => Nat.zero_add _
    | ⟨1, _⟩ => Nat.zero_add _
    | ⟨2, _⟩ => Nat.zero_add _
    | ⟨3, _⟩ => Nat.zero_add _
    | ⟨4, _⟩ => start_of i _ (ix3 w k 0) n.val 64 (ext3 rfl rfl rfl) hi n.isLt (by decide)
    | ⟨5, _⟩ => Nat.zero_add _

theorem gather_bcol {α : Type} (x : S8x15x31.Idx → α) (i : IVec S64x16x1 32) (h : Fin 8) (a : Fin 15)
    (w : Fin 64) (k : Fin 16) (n : Fin 31) (hi : i (ix3 w k 0) = BitVec.ofNat 32 n.val) :
    Host.gather gather_S8x15x31_S64x16x1_S8x15x64x16_01_2_n_n_2_2_8151 x i (ix4 h a w k) = x (ix3 h a n) :=
  gather_of _ _ _ _ _ fun c => match c with
    | ⟨0, _⟩ => Nat.zero_add _
    | ⟨1, _⟩ => Nat.zero_add _
    | ⟨2, _⟩ => start_of i _ (ix3 w k 0) n.val 31 (ext3 rfl rfl rfl) hi n.isLt (by decide)

theorem gather_brow {α : Type} (x : S8x15x64x16.Idx → α) (i : IVec S64x8x1 32) (h : Fin 8) (r : Fin 64) (a : Fin 8)
    (w : Fin 64) (k : Fin 16) (n : Fin 15) (hi : i (ix3 r a 0) = BitVec.ofNat 32 n.val) :
    Host.gather gather_S8x15x64x16_S64x8x1_S8x64x8x64x16_034_1_n_n_1_2_816416 x i (ix5 h r a w k) = x (ix4 h n w k) :=
  gather_of _ _ _ _ _ fun c => match c with
    | ⟨0, _⟩ => Nat.zero_add _
    | ⟨1, _⟩ => start_of i _ (ix3 r a 0) n.val 15 (ext3 rfl rfl rfl) hi n.isLt (by decide)
    | ⟨2, _⟩ => Nat.zero_add _
    | ⟨3, _⟩ => Nat.zero_add _

section
variable (x0 : Vec Ideal S4x4096x1536 .bf16) (x1 : Vec Ideal S4x256x1536 .bf16) (x2 : Vec Ideal S1x8x15x31 .f32)

theorem near_k (b : Fin 4) (h : Fin 8) (r : Fin 64) (a : Fin 8) (w : Fin 64) (k : Fin 16) (d : Fin 64) :
    val_main_v62 (F := Ideal) x0 (ix7 b h r a w k d) = x0 (ix3 b (tok (nrow r a) (ncol w k)) (lan 512 (by decide) h d)) := by
  rw [val_main_v62, gather_col _ _ _ _ _ _ _ _ _ _ (cols w k), val_main_v55, gather_row _ _ _ _ _ _ _ _ _ (rows r a), k_apply]

theorem near_v (b : Fin 4) (h : Fin 8) (r : Fin 64) (a : Fin 8) (w : Fin 64) (k : Fin 16) (d : Fin 64) :
    val_main_v76 (F := Ideal) x0 (ix7 b h r a w k d) = x0 (ix3 b (tok (nrow r a) (ncol w k)) (lan 1024 (by decide) h d)) := by
  rw [val_main_v76, gather_col _ _ _ _ _ _ _ _ _ _ (cols' w k), val_main_v69, gather_row _ _ _ _ _ _ _ _ _ (rows' r a), v_apply]

theorem near_bias (h : Fin 8) (r : Fin 64) (a : Fin 8) (w : Fin 64) (k : Fin 16) :
    val_main_v94 (F := Ideal) x2 (ix5 h r a w k) = x2 (ix4 0 h (brow r a) (bcol w k)) := by
  rw [val_main_v94, gather_brow _ _ _ _ _ _ _ _ (brows r a), val_main_v85, gather_bcol _ _ _ _ _ _ _ (bcols w k), bias_apply]

/-- The score of a query and the `(a, k)`-th key of its neighborhood, and of the `n`-th context key. -/
def sl (b : Fin 4) (h : Fin 8) (r w : Fin 64) (a : Fin 8) (k : Fin 16) : EReal :=
  (∑ d : Fin 64, x0 (ix3 b (tok r w) (lan 0 (by decide) h d)) * x0 (ix3 b (tok (nrow r a) (ncol w k)) (lan 512 (by decide) h d)))
    * Ideal.ofBits .f32 0x3E000000#32 + x2 (ix4 0 h (brow r a) (bcol w k))

def sc (b : Fin 4) (h : Fin 8) (r w : Fin 64) (n : Fin 256) : EReal :=
  (∑ d : Fin 64, x0 (ix3 b (tok r w) (lan 0 (by decide) h d)) * x1 (ix3 b n (lan 512 (by decide) h d)))
    * Ideal.ofBits .f32 0x3E000000#32

theorem dot_near (b : Fin 4) (h : Fin 8) (r w : Fin 64) (a : Fin 8) (k : Fin 16) :
    val_main_v95 (F := Ideal) x0 (ix6 b h r w a k) = ∑ d : Fin 64, x0 (ix3 b (tok r w) (lan 0 (by decide) h d)) * x0 (ix3 b (tok (nrow r a) (ncol w k)) (lan 512 (by decide) h d)) := by
  have h1 := q_apply x0 b h r w
  have h2 := near_k x0 b h r
  pointwise [val_main_v95]
  simp only [h1, h2]

theorem sl_apply (b : Fin 4) (h : Fin 8) (r w : Fin 64) (a : Fin 8) (k : Fin 16) :
    val_main_v101 (F := Ideal) x0 x2 (ix6 b h r w a k) = sl x0 x2 b h r w a k := by
  have h1 := dot_near x0 b h r w a k
  have h2 := near_bias x2 h r a w k
  pointwise [val_main_v101, val_main_v97, val_main_v96, val_main_v100, val_main_v99, val_main_v98, val_main_cst, sl]
  rw [h1, h2]

theorem sl_flat (b : Fin 4) (h : Fin 8) (r w : Fin 64) (l : Fin 128) :
    val_main_v102 (F := Ideal) x0 x2 (ix5 b h r w l) = sl x0 x2 b h r w ⟨l.val / 16, by omega⟩ ⟨l.val % 16, by omega⟩ := by
  rw [← sl_apply]
  pointwise [val_main_v102]

theorem sc_apply (b : Fin 4) (h : Fin 8) (r w : Fin 64) (n : Fin 256) :
    val_main_v105 (F := Ideal) x0 x1 (ix5 b h r w n) = sc x0 x1 b h r w n := by
  have h1 := q_apply x0 b h r w
  have h2 := kc_apply x1 b h
  pointwise [val_main_v105, val_main_v104, val_main_v103, val_main_cst_19, sc]
  simp only [h1, h2]

theorem cat_apply (b : Fin 4) (h : Fin 8) (r w : Fin 64) (l : Fin 384) :
    val_main_v106 (F := Ideal) x0 x1 x2 (ix5 b h r w l) = cat (sl x0 x2 b h r w) (sc x0 x1 b h r w) l := by
  have h1 := sl_flat x0 x2 b h r w
  have h2 := sc_apply x0 x1 b h r w
  pointwise [val_main_v106, cat]
  simp only [h1, h2]

/-- The keys' scores of a query, the neighborhood's before the context's. -/
def sco (b : Fin 4) (h : Fin 8) (r w : Fin 64) : Fin 384 → EReal := cat (sl x0 x2 b h r w) (sc x0 x1 b h r w)

end

end Cert.Proof.NattenRef

end
-- ==== Proof.NattenRefOut.lean ====
/- The attention reference's result at an index: the softmax of its scores, and the sums of the values it weighs. -/
module

public import proofs.«01_k».proof.Proof.NattenRef

@[expose] public section

set_option maxRecDepth 16384

noncomputable section

namespace Cert.Proof.NattenRefOut

open Cert.NattenRefIdeal Cert.NattenRefIdeal.Gen Cert.NattenRefIdeal.Read Idealize.ShloMosaic
open Idealize.ShloMosaic.Tactic Cert.Proof.NattenMath Cert.Proof.NattenGather Cert.Proof.NattenRef

variable (x0 : Vec Ideal S4x4096x1536 .bf16) (x1 : Vec Ideal S4x256x1536 .bf16) (x2 : Vec Ideal S1x8x15x31 .f32)

theorem fold_apply (b : Fin 4) (h : Fin 8) (r w : Fin 64) :
    val_main_v107 (F := Ideal) x0 x1 x2 (ix4 b h r w) = Finset.univ.fold max ⊥ (sco x0 x1 x2 b h r w) := by
  refine (max_last _ _ reducesTo_S4x8x64x64x384_S4x8x64x64_d4 h_S_ b h r w).trans ?_
  rw [show (fun l => val_main_v106 (F := Ideal) x0 x1 x2 (ix5 b h r w l)) = sco x0 x1 x2 b h r w from funext fun l => cat_apply x0 x1 x2 b h r w l]
  exact congrArg (fun z => Finset.univ.fold max z (sco x0 x1 x2 b h r w)) bot_word

theorem max_apply (b : Fin 4) (h : Fin 8) (r w : Fin 64) :
    val_main_v109 (F := Ideal) x0 x1 x2 (ix4 b h r w) = Finset.univ.fold max ⊥ (sco x0 x1 x2 b h r w) := by
  have h1 := fold_apply x0 x1 x2 b h r w
  generalize Finset.univ.fold max ⊥ (sco x0 x1 x2 b h r w) = y at h1 ⊢
  rw [val_main_v109_apply, h1, val_main_v108_apply, val_main_cst_21_apply]
  show max (Ideal.ofBits .f32 0xFF800000#32) y = y
  rw [bot_word]
  exact max_eq_right bot_le

theorem exp_apply (b : Fin 4) (h : Fin 8) (r w : Fin 64) (l : Fin 384) :
    val_main_v113 (F := Ideal) x0 x1 x2 (ix5 b h r w l) = Ideal.exp (sco x0 x1 x2 b h r w l - Finset.univ.fold max ⊥ (sco x0 x1 x2 b h r w)) := by
  have h1 : ∀ l, _ = sco x0 x1 x2 b h r w l := cat_apply x0 x1 x2 b h r w
  have h2 := max_apply x0 x1 x2 b h r w
  pointwise [val_main_v113, val_main_v112, val_main_v111, val_main_v110]
  rw [h1, h2]

theorem prob_apply (b : Fin 4) (h : Fin 8) (r w : Fin 64) (l : Fin 384) :
    val_main_v117 (F := Ideal) x0 x1 x2 (ix5 b h r w l) = prob (sco x0 x1 x2 b h r w) l := by
  have h1 := exp_apply x0 x1 x2 b h r w
  pointwise [val_main_v117, val_main_v116, val_main_v115, val_main_v114, val_main_cst_22, prob]
  simp only [h1]

theorem pl_apply (b : Fin 4) (h : Fin 8) (r w : Fin 64) (a : Fin 8) (k : Fin 16) :
    val_main_v119 (F := Ideal) x0 x1 x2 (ix6 b h r w a k) = prob (sco x0 x1 x2 b h r w) ⟨16 * a.val + k.val, by omega⟩ := by
  have h1 := prob_apply x0 x1 x2 b h r w
  pointwise [val_main_v119, val_main_v118]
  rw [h1]
  refine congrArg _ (Fin.ext ?_)
  show a.val * 16 + k.val = 16 * a.val + k.val
  omega

theorem pc_apply (b : Fin 4) (h : Fin 8) (r w : Fin 64) (n : Fin 256) :
    val_main_v120 (F := Ideal) x0 x1 x2 (ix5 b h r w n) = prob (sco x0 x1 x2 b h r w) ⟨128 + n.val, by omega⟩ := by
  have h1 := prob_apply x0 x1 x2 b h r w
  pointwise [val_main_v120]
  simp only [h1]

theorem sum_near (b : Fin 4) (h : Fin 8) (r w d : Fin 64) :
    val_main_v121 (F := Ideal) x0 x1 x2 (ix5 b h r w d) = ∑ a : Fin 8, ∑ k : Fin 16, prob (sco x0 x1 x2 b h r w) ⟨16 * a.val + k.val, by omega⟩
      * x0 (ix3 b (tok (nrow r a) (ncol w k)) (lan 1024 (by decide) h d)) := by
  have h1 := pl_apply x0 x1 x2 b h r w
  have h2 := near_v x0 b h r
  pointwise [val_main_v121]
  simp only [h1, h2]

theorem sum_ctx (b : Fin 4) (h : Fin 8) (r w d : Fin 64) :
    val_main_v122 (F := Ideal) x0 x1 x2 (ix5 b h r w d) = ∑ n : Fin 256, prob (sco x0 x1 x2 b h r w) ⟨128 + n.val, by omega⟩
      * x1 (ix3 b n (lan 1024 (by decide) h d)) := by
  have h1 := pc_apply x0 x1 x2 b h r w
  have h2 := vc_apply x1 b h
  pointwise [val_main_v122]
  simp only [h1, h2]

/-- Heads and lanes side by side, and rows and columns side by side, at an index. -/
theorem flat (y : FVec Ideal S4x64x64x8x64 .f32) (b : Fin 4) (r w : Fin 64) (h : Fin 8) (d : Fin 64) :
    shapeCast S4x4096x512 y shapeCasts_S4x64x64x8x64_S4x4096x512 (ix3 b (tok r w) ⟨h.val * 64 + d.val, by omega⟩) = y (ix5 b r w h d) := by
  refine shapeCast_apply _ _ _ _ ?_
  rw [Shape.rowMajor_val_three, Shape.rowMajor_val_five]
  simp [tok]
  omega

/-- The reference at one lane of one head of one token. -/
theorem ref_apply (b : Fin 4) (r w : Fin 64) (h : Fin 8) (d : Fin 64) :
    val_main_v126 (F := Ideal) x0 x1 x2 (ix3 b (tok r w) ⟨h.val * 64 + d.val, by omega⟩) = near (sl x0 x2 b h r w) (sc x0 x1 b h r w)
      (fun a k => x0 (ix3 b (tok (nrow r a) (ncol w k)) (lan 1024 (by decide) h d))) (fun n => x1 (ix3 b n (lan 1024 (by decide) h d))) := by
  have h1 := sum_near x0 x1 x2 b h r w d
  have h2 := sum_ctx x0 x1 x2 b h r w d
  have h3 : val_main_v125 (F := Ideal) x0 x1 x2 (ix3 b (tok r w) ⟨h.val * 64 + d.val, by omega⟩) = val_main_v124 (F := Ideal) x0 x1 x2 (ix5 b r w h d) := by
    unfold val_main_v125
    generalize val_main_v124 (F := Ideal) x0 x1 x2 = y
    exact flat y b r w h d
  have h4 : val_main_v124 (F := Ideal) x0 x1 x2 (ix5 b r w h d) = val_main_v123 (F := Ideal) x0 x1 x2 (ix5 b h r w d) := by
    unfold val_main_v124
    generalize val_main_v123 (F := Ideal) x0 x1 x2 = y
    pointwise
  have h5 : val_main_v126 (F := Ideal) x0 x1 x2 (ix3 b (tok r w) ⟨h.val * 64 + d.val, by omega⟩) = val_main_v125 (F := Ideal) x0 x1 x2 (ix3 b (tok r w) ⟨h.val * 64 + d.val, by omega⟩) := by
    unfold val_main_v126
    generalize val_main_v125 (F := Ideal) x0 x1 x2 = y
    rfl
  have h6 : val_main_v123 (F := Ideal) x0 x1 x2 (ix5 b h r w d) = val_main_v121 (F := Ideal) x0 x1 x2 (ix5 b h r w d) + val_main_v122 (F := Ideal) x0 x1 x2 (ix5 b h r w d) :=
    val_main_v123_apply x0 x1 x2 _
  rw [h5, h3, h4, h6, h1, h2]
  rfl

end Cert.Proof.NattenRefOut

end
-- ==== Proof.NattenRun.lean ====
/- The attention's result array: each of the 128 blocks is 512 tokens of a head pair's lanes of the reference's result,
   where the queries, keys and biases are real numbers, and the blocks cover it. -/
module

public import proofs.«01_k».proof.Proof.NattenEntry
public import proofs.«01_k».proof.Proof.NattenKeys
public import proofs.«01_k».proof.Proof.NattenRefOut

@[expose] public section

set_option maxRecDepth 16384

noncomputable section

namespace Cert.Proof.NattenRun

open Cert.NattenIdeal Cert.NattenIdeal.Gen Cert.NattenIdeal.Value Idealize.ShloMosaic Idealize.ShloMosaic.TcCoe Idealize.SL.Sem
open Cert.Proof.NattenMath Cert.Proof.NattenGather Cert.Proof.NattenEntry Cert.Proof.NattenKeys
open Cert.Proof.NattenBlock (stored entry stored_apply out_eq)
open Cert.Proof.NattenTables (kase w0 blockRow slabRow qrow qcol key)
open Cert.Proof.NattenRef (sl sc)

variable (m : (ℓ : Loc nD τ sig) → Buf (Elt Ideal) ℓ) (ρ : Dev nD → PrngReg)

abbrev A0 (c : Dev nD) : Vec Ideal S4x4096x1536 .bf16 := m ((c : Thread nD τ).loc main_arg0)
abbrev A1 (c : Dev nD) : Vec Ideal S4x256x1536 .bf16 := m ((c : Thread nD τ).loc main_arg1)
abbrev A2 (c : Dev nD) : Vec Ideal S1x8x15x31 .f32 := m ((c : Thread nD τ).loc main_arg2)

/-- The scores are real numbers. -/
structure Real (c : Dev nD) : Prop where
  near : ∀ b h r w a k, ∃ v : ℝ, sl (A0 m c) (A2 m c) b h r w a k = v
  ctx : ∀ b h r w n, ∃ v : ℝ, sc (A0 m c) (A1 m c) b h r w n = v

/-- The result array: the reference's result of the arguments as launched. -/
def GG (c : Dev nD) : Vec Ideal S4x4096x512 .bf16 :=
  Cert.NattenRefIdeal.Read.val_main_v126 (F := Ideal) (A0 m c) (A1 m c) (A2 m c)

/-- Grid point `t`: head pair `t / 32`, batch `t / 8 % 4`, rows `t % 8`. -/
theorem idx : ∀ t : Fin cfg0.N,
    (win0_0.index t (0 : Fin 3) = t.val / 8 % 4 ∧ win0_0.index t (1 : Fin 3) = t.val % 8 ∧ win0_0.index t (2 : Fin 3) = t.val / 32)
    ∧ (win0_1.index t (0 : Fin 3) = t.val / 8 % 4 ∧ win0_1.index t (1 : Fin 3) = 0 ∧ win0_1.index t (2 : Fin 3) = 4 + t.val / 32)
    ∧ (win0_2.index t (0 : Fin 3) = t.val / 8 % 4 ∧ win0_2.index t (1 : Fin 3) = 0 ∧ win0_2.index t (2 : Fin 3) = 8 + t.val / 32)
    ∧ (win0_3.index t (0 : Fin 3) = t.val / 8 % 4 ∧ win0_3.index t (1 : Fin 3) = 0 ∧ win0_3.index t (2 : Fin 3) = 4 + t.val / 32)
    ∧ (win0_4.index t (0 : Fin 3) = t.val / 8 % 4 ∧ win0_4.index t (1 : Fin 3) = 0 ∧ win0_4.index t (2 : Fin 3) = 8 + t.val / 32)
    ∧ (win0_5.index t (0 : Fin 4) = t.val / 32 ∧ win0_5.index t (1 : Fin 4) = 0 ∧ win0_5.index t (2 : Fin 4) = 0 ∧ win0_5.index t (3 : Fin 4) = 0)
    ∧ (win0_6.index t (0 : Fin 3) = 0 ∧ win0_6.index t (1 : Fin 3) = 0 ∧ win0_6.index t (2 : Fin 3) = 0)
    ∧ (win0_7.index t (0 : Fin 3) = t.val / 8 % 4 ∧ win0_7.index t (1 : Fin 3) = t.val % 8 ∧ win0_7.index t (2 : Fin 3) = t.val / 32) :=
  (by decide +kernel : ∀ t : Fin grid0.N, _)

theorem lt128 (t : Fin cfg0.N) : t.val < 128 := t.isLt

def bat (t : Fin cfg0.N) : Fin 4 := ⟨t.val / 8 % 4, by omega⟩
def blk (t : Fin cfg0.N) : Fin 8 := ⟨t.val % 8, by omega⟩
/-- Head `hd` of the pair of a grid point. -/
def head (t : Fin cfg0.N) (hd : Fin 2) : Fin 8 := ⟨t.val / 32 * 2 + hd.val, by have := lt128 t; omega⟩

/-- Where the body reads of the whole windows: the slab's first row, and the tables' case. -/
theorem offs : ∀ t : Fin cfg0.N,
    (k0_off1 (grid0.coords t) (0 : Fin 3) = 0 ∧ k0_off1 (grid0.coords t) (1 : Fin 3) = w0 (blk t) * 64 ∧ k0_off1 (grid0.coords t) (2 : Fin 3) = 0)
    ∧ (k0_off2 (grid0.coords t) (0 : Fin 3) = (kase (blk t)).val ∧ k0_off2 (grid0.coords t) (1 : Fin 3) = 0 ∧ k0_off2 (grid0.coords t) (2 : Fin 3) = 0)
    ∧ (k0_off3 (grid0.coords t) (0 : Fin 4) = 0 ∧ k0_off3 (grid0.coords t) (1 : Fin 4) = (kase (blk t)).val ∧ k0_off3 (grid0.coords t) (2 : Fin 4) = 0 ∧ k0_off3 (grid0.coords t) (3 : Fin 4) = 0)
    ∧ (k0_off4 (grid0.coords t) (0 : Fin 4) = 1 ∧ k0_off4 (grid0.coords t) (1 : Fin 4) = (kase (blk t)).val ∧ k0_off4 (grid0.coords t) (2 : Fin 4) = 0 ∧ k0_off4 (grid0.coords t) (3 : Fin 4) = 0) :=
  (by decide +kernel : ∀ t : Fin grid0.N, _)

theorem ext4 {n0 n1 n2 n3 : Nat} {f g : (⟨4, ![n0, n1, n2, n3]⟩ : Shape).Idx} (h0 : (f 0).val = (g 0).val) (h1 : (f 1).val = (g 1).val)
    (h2 : (f 2).val = (g 2).val) (h3 : (f 3).val = (g 3).val) : f = g := by
  funext c
  match c with
  | ⟨0, _⟩ => exact Fin.ext h0
  | ⟨1, _⟩ => exact Fin.ext h1
  | ⟨2, _⟩ => exact Fin.ext h2
  | ⟨3, _⟩ => exact Fin.ext h3

/-- A token of a block's query, and of a slab's key. -/
def qtok (t : Fin cfg0.N) (x : Fin 512) : Fin 4096 := ⟨t.val % 8 * 512 + x.val, by omega⟩
def ktok (t : Fin cfg0.N) (j : Fin 1024) : Fin 4096 := ⟨w0 (blk t) * 64 + j.val, by have := (blk t).isLt; unfold w0; omega⟩

/-- Lane `l` of the pair's lanes, counted from lane `o` of the token. -/
def plane (o : Nat) (ho : o ≤ 8) (t : Fin cfg0.N) (l : Fin 128) : Fin 1536 := ⟨(o + t.val / 32) * 128 + l.val, by have := lt128 t; omega⟩

theorem emb7 (t : Fin cfg0.N) (j : S1x512x128.Idx) :
    ((cfg0.win 7).blk t).view.emb j = ix3 (bat t) (qtok t (j 1)) ⟨t.val / 32 * 128 + (j 2).val, by have := lt128 t; have : (j 2).val < 128 := (j 2).isLt; omega⟩ := by
  obtain ⟨-, -, -, -, -, -, -, e0, e1, e2⟩ := idx t
  have h0 : (j 0).val < 1 := (j 0).isLt
  refine ext3 (Fin.ext ?_) (Fin.ext ?_) (Fin.ext ?_)
  · show win0_7.index t (0 : Fin 3) * 1 + 1 * (j 0).val = t.val / 8 % 4
    omega
  · show win0_7.index t (1 : Fin 3) * 512 + 1 * (j 1).val = t.val % 8 * 512 + (j 1).val
    omega
  · show win0_7.index t (2 : Fin 3) * 128 + 1 * (j 2).val = t.val / 32 * 128 + (j 2).val
    omega

theorem blk0 (c : Dev nD) (t : Fin cfg0.N) (x : Fin 512) (l : Fin 128) :
    iblk m c 0 t (ix3 0 x l) = A0 m c (ix3 (bat t) (qtok t x) (plane 0 (by decide) t l)) := by
  obtain ⟨⟨e0, e1, e2⟩, -⟩ := idx t
  have e : ((cfg0.win 0).blk t).view.emb (ix3 0 x l) = ix3 (bat t) (qtok t x) (plane 0 (by decide) t l) := by
    refine ext3 (Fin.ext ?_) (Fin.ext ?_) (Fin.ext ?_)
    · show win0_0.index t (0 : Fin 3) * 1 + 1 * 0 = t.val / 8 % 4
      omega
    · show win0_0.index t (1 : Fin 3) * 512 + 1 * x.val = t.val % 8 * 512 + x.val
      omega
    · show win0_0.index t (2 : Fin 3) * 128 + 1 * l.val = (0 + t.val / 32) * 128 + l.val
      omega
  show V m c main_arg0 (((cfg0.win 0).blk t).view.emb (ix3 0 x l)) = _
  rw [e]
  exact congrFun (V_main_arg0 m c) _

theorem blk1 (c : Dev nD) (t : Fin cfg0.N) (n : Fin 4096) (l : Fin 128) :
    iblk m c 1 t (ix3 0 n l) = A0 m c (ix3 (bat t) n (plane 4 (by decide) t l)) := by
  obtain ⟨-, ⟨e0, e1, e2⟩, -⟩ := idx t
  have e : ((cfg0.win 1).blk t).view.emb (ix3 0 n l) = ix3 (bat t) n (plane 4 (by decide) t l) := by
    refine ext3 (Fin.ext ?_) (Fin.ext ?_) (Fin.ext ?_)
    · show win0_1.index t (0 : Fin 3) * 1 + 1 * 0 = t.val / 8 % 4
      omega
    · show win0_1.index t (1 : Fin 3) * 4096 + 1 * n.val = n.val
      omega
    · show win0_1.index t (2 : Fin 3) * 128 + 1 * l.val = (4 + t.val / 32) * 128 + l.val
      omega
  show V m c main_arg0 (((cfg0.win 1).blk t).view.emb (ix3 0 n l)) = _
  rw [e]
  exact congrFun (V_main_arg0 m c) _

theorem blk2 (c : Dev nD) (t : Fin cfg0.N) (n : Fin 4096) (l : Fin 128) :
    iblk m c 2 t (ix3 0 n l) = A0 m c (ix3 (bat t) n (plane 8 (by decide) t l)) := by
  obtain ⟨-, -, ⟨e0, e1, e2⟩, -⟩ := idx t
  have e : ((cfg0.win 2).blk t).view.emb (ix3 0 n l) = ix3 (bat t) n (plane 8 (by decide) t l) := by
    refine ext3 (Fin.ext ?_) (Fin.ext ?_) (Fin.ext ?_)
    · show win0_2.index t (0 : Fin 3) * 1 + 1 * 0 = t.val / 8 % 4
      omega
    · show win0_2.index t (1 : Fin 3) * 4096 + 1 * n.val = n.val
      omega
    · show win0_2.index t (2 : Fin 3) * 128 + 1 * l.val = (8 + t.val / 32) * 128 + l.val
      omega
  show V m c main_arg0 (((cfg0.win 2).blk t).view.emb (ix3 0 n l)) = _
  rw [e]
  exact congrFun (V_main_arg0 m c) _

theorem blk3 (c : Dev nD) (t : Fin cfg0.N) (n : Fin 256) (l : Fin 128) :
    iblk m c 3 t (ix3 0 n l) = A1 m c (ix3 (bat t) n (plane 4 (by decide) t l)) := by
  obtain ⟨-, -, -, ⟨e0, e1, e2⟩, -⟩ := idx t
  have e : ((cfg0.win 3).blk t).view.emb (ix3 0 n l) = ix3 (bat t) n (plane 4 (by decide) t l) := by
    refine ext3 (Fin.ext ?_) (Fin.ext ?_) (Fin.ext ?_)
    · show win0_3.index t (0 : Fin 3) * 1 + 1 * 0 = t.val / 8 % 4
      omega
    · show win0_3.index t (1 : Fin 3) * 256 + 1 * n.val = n.val
      omega
    · show win0_3.index t (2 : Fin 3) * 128 + 1 * l.val = (4 + t.val / 32) * 128 + l.val
      omega
  show V m c main_arg1 (((cfg0.win 3).blk t).view.emb (ix3 0 n l)) = _
  rw [e]
  exact congrFun (V_main_arg1 m c) _

theorem blk4 (c : Dev nD) (t : Fin cfg0.N) (n : Fin 256) (l : Fin 128) :
    iblk m c 4 t (ix3 0 n l) = A1 m c (ix3 (bat t) n (plane 8 (by decide) t l)) := by
  obtain ⟨-, -, -, -, ⟨e0, e1, e2⟩, -⟩ := idx t
  have e : ((cfg0.win 4).blk t).view.emb (ix3 0 n l) = ix3 (bat t) n (plane 8 (by decide) t l) := by
    refine ext3 (Fin.ext ?_) (Fin.ext ?_) (Fin.ext ?_)
    · show win0_4.index t (0 : Fin 3) * 1 + 1 * 0 = t.val / 8 % 4
      omega
    · show win0_4.index t (1 : Fin 3) * 256 + 1 * n.val = n.val
      omega
    · show win0_4.index t (2 : Fin 3) * 128 + 1 * l.val = (8 + t.val / 32) * 128 + l.val
      omega
  show V m c main_arg1 (((cfg0.win 4).blk t).view.emb (ix3 0 n l)) = _
  rw [e]
  exact congrFun (V_main_arg1 m c) _

theorem blk5 (c : Dev nD) (t : Fin cfg0.N) (hd : Fin 2) (q : Fin 3) (x : Fin 512) (j : Fin 1024) :
    iblk m c 5 t (ix4 hd q x j) = V m c main_v11 (ix4 (head t hd) q x j) := by
  obtain ⟨-, -, -, -, -, ⟨e0, e1, e2, e3⟩, -⟩ := idx t
  have e : ((cfg0.win 5).blk t).view.emb (ix4 hd q x j) = ix4 (head t hd) q x j := by
    refine ext4 ?_ ?_ ?_ ?_
    · show win0_5.index t (0 : Fin 4) * 2 + 1 * hd.val = t.val / 32 * 2 + hd.val
      omega
    · show win0_5.index t (1 : Fin 4) * 3 + 1 * q.val = q.val
      omega
    · show win0_5.index t (2 : Fin 4) * 512 + 1 * x.val = x.val
      omega
    · show win0_5.index t (3 : Fin 4) * 1024 + 1 * j.val = j.val
      omega
  show V m c main_v11 (((cfg0.win 5).blk t).view.emb (ix4 hd q x j)) = _
  rw [e]

theorem blk6 (c : Dev nD) (t : Fin cfg0.N) (q : Fin 3) (x : Fin 512) (j : Fin 1024) :
    iblk m c 6 t (ix3 q x j) = V m c main_v13 (ix3 q x j) := by
  obtain ⟨-, -, -, -, -, -, ⟨e0, e1, e2⟩, -⟩ := idx t
  have e : ((cfg0.win 6).blk t).view.emb (ix3 q x j) = ix3 q x j := by
    refine ext3 (Fin.ext ?_) (Fin.ext ?_) (Fin.ext ?_)
    · show win0_6.index t (0 : Fin 3) * 3 + 1 * q.val = q.val
      omega
    · show win0_6.index t (1 : Fin 3) * 512 + 1 * x.val = x.val
      omega
    · show win0_6.index t (2 : Fin 3) * 1024 + 1 * j.val = j.val
      omega
  show V m c main_v13 (((cfg0.win 6).blk t).view.emb (ix3 q x j)) = _
  rw [e]

/-! What the body reads at its offsets. -/

theorem slab_ld (X : Vec Ideal S1x4096x128 .bf16) (t : Fin cfg0.N) (j : Fin 1024) (l : Fin 128) :
    View.ld X (Rect.unit (s := S1x4096x128) (k0_off1 (grid0.coords t)) S1x1024x128.size (k0_off1_inb (grid0.coords t))) (ix3 0 j l)
      = X (ix3 0 (ktok t j) l) := by
  obtain ⟨⟨e0, e1, e2⟩, -⟩ := offs t
  refine congrArg X (ext3 (Fin.ext ?_) (Fin.ext ?_) (Fin.ext ?_))
  · show k0_off1 (grid0.coords t) (0 : Fin 3) + 1 * 0 = 0
    omega
  · show k0_off1 (grid0.coords t) (1 : Fin 3) + 1 * j.val = w0 (blk t) * 64 + j.val
    omega
  · show k0_off1 (grid0.coords t) (2 : Fin 3) + 1 * l.val = l.val
    omega

theorem valid_ld (X : Vec Ideal S3x512x1024 .i32) (t : Fin cfg0.N) (x : Fin 512) (j : Fin 1024) :
    View.ld X (Rect.unit (s := S3x512x1024) (k0_off2 (grid0.coords t)) S1x512x1024.size (k0_off2_inb (grid0.coords t))) (ix3 0 x j)
      = X (ix3 (kase (blk t)) x j) := by
  obtain ⟨-, ⟨e0, e1, e2⟩, -⟩ := offs t
  refine congrArg X (ext3 (Fin.ext ?_) (Fin.ext ?_) (Fin.ext ?_))
  · show k0_off2 (grid0.coords t) (0 : Fin 3) + 1 * 0 = (kase (blk t)).val
    omega
  · show k0_off2 (grid0.coords t) (1 : Fin 3) + 1 * x.val = x.val
    omega
  · show k0_off2 (grid0.coords t) (2 : Fin 3) + 1 * j.val = j.val
    omega

theorem table_ld (X : Vec Ideal S2x3x512x1024 .f32) (t : Fin cfg0.N) (hd : Fin 2) (x : Fin 512) (j : Fin 1024) :
    (if hd = 0 then View.ld X (Rect.unit (s := S2x3x512x1024) (k0_off3 (grid0.coords t)) S1x1x512x1024.size (k0_off3_inb (grid0.coords t)))
      else View.ld X (Rect.unit (s := S2x3x512x1024) (k0_off4 (grid0.coords t)) S1x1x512x1024.size (k0_off4_inb (grid0.coords t)))) (ix4 0 0 x j)
      = X (ix4 hd (kase (blk t)) x j) := by
  obtain ⟨-, -, ⟨a0, a1, a2, a3⟩, ⟨b0, b1, b2, b3⟩⟩ := offs t
  fin_cases hd
  · refine congrArg X (ext4 ?_ ?_ ?_ ?_)
    · show k0_off3 (grid0.coords t) (0 : Fin 4) + 1 * 0 = 0
      omega
    · show k0_off3 (grid0.coords t) (1 : Fin 4) + 1 * 0 = (kase (blk t)).val
      omega
    · show k0_off3 (grid0.coords t) (2 : Fin 4) + 1 * x.val = x.val
      omega
    · show k0_off3 (grid0.coords t) (3 : Fin 4) + 1 * j.val = j.val
      omega
  · refine congrArg X (ext4 ?_ ?_ ?_ ?_)
    · show k0_off4 (grid0.coords t) (0 : Fin 4) + 1 * 0 = 1
      omega
    · show k0_off4 (grid0.coords t) (1 : Fin 4) + 1 * 0 = (kase (blk t)).val
      omega
    · show k0_off4 (grid0.coords t) (2 : Fin 4) + 1 * x.val = x.val
      omega
    · show k0_off4 (grid0.coords t) (3 : Fin 4) + 1 * j.val = j.val
      omega

/-! The same positions in the reference's words. -/

theorem qtok_eq (t : Fin cfg0.N) (x : Fin 512) : qtok t x = tok (blockRow (blk t) (qrow x)) (qcol x) := by
  refine Fin.ext ?_
  show t.val % 8 * 512 + x.val = (t.val % 8 * 8 + x.val / 64) * 64 + x.val % 64
  omega

theorem ktok_eq (t : Fin cfg0.N) (x : Fin 512) (a : Fin 8) (k : Fin 16) :
    ktok t (key (blk t) x a k) = tok (nrow (blockRow (blk t) (qrow x)) a) (ncol (qcol x) k) := by
  have h := slab_row (blk t) (qrow x) a
  refine Fin.ext ?_
  show w0 (blk t) * 64 + ((slabRow (blk t) (qrow x) a).val * 64 + (ncol (qcol x) k).val)
    = (rs (blockRow (blk t) (qrow x)) + a.val) * 64 + (ncol (qcol x) k).val
  omega

theorem plane_eq (o o' : Nat) (ho : o ≤ 8) (ho' : o' ≤ 1024) (h : o' = 128 * o) (t : Fin cfg0.N) (hd : Fin 2) (d : Fin 64) :
    plane o ho t ⟨64 * hd.val + d.val, by omega⟩ = lan o' ho' (head t hd) d := by
  refine Fin.ext ?_
  show (o + t.val / 32) * 128 + (64 * hd.val + d.val) = o' + ((t.val / 32 * 2 + hd.val) * 64 + d.val)
  omega

theorem entry_congr {hd : Fin 2} {q q' : Fin 64 → EReal} {K K' V V' : Fin 1024 → Fin 64 → EReal} {KC KC' VC VC' : Fin 256 → Fin 64 → EReal}
    {ok ok' : Fin 1024 → BitVec 32} {tb tb' : Fin 1024 → EReal} {d : Fin 64} (h1 : q = q') (h2 : K = K') (h3 : V = V') (h4 : KC = KC')
    (h5 : VC = VC') (h6 : ok = ok') (h7 : tb = tb') : entry hd q K V KC VC ok tb d = entry hd q' K' V' KC' VC' ok' tb' d := by
  rw [h1, h2, h3, h4, h5, h6, h7]

/-- What a grid point stores, from the blocks of the arguments. -/
theorem block_eq (c : Dev nD) (hr : Real m c) (t : Fin cfg0.N) (x : Fin 512) (hd : Fin 2) (d : Fin 64) :
    stored (iblk m c 0 t) (View.ld (iblk m c 1 t) (Rect.unit (s := S1x4096x128) (k0_off1 (grid0.coords t)) S1x1024x128.size (k0_off1_inb (grid0.coords t))))
      (View.ld (iblk m c 2 t) (Rect.unit (s := S1x4096x128) (k0_off1 (grid0.coords t)) S1x1024x128.size (k0_off1_inb (grid0.coords t))))
      (iblk m c 3 t) (iblk m c 4 t)
      (View.ld (iblk m c 6 t) (Rect.unit (s := S3x512x1024) (k0_off2 (grid0.coords t)) S1x512x1024.size (k0_off2_inb (grid0.coords t))))
      (View.ld (iblk m c 5 t) (Rect.unit (s := S2x3x512x1024) (k0_off3 (grid0.coords t)) S1x1x512x1024.size (k0_off3_inb (grid0.coords t))))
      (View.ld (iblk m c 5 t) (Rect.unit (s := S2x3x512x1024) (k0_off4 (grid0.coords t)) S1x1x512x1024.size (k0_off4_inb (grid0.coords t))))
      (ix3 0 x ⟨64 * hd.val + d.val, by omega⟩)
    = GG m c (ix3 (bat t) (tok (blockRow (blk t) (qrow x)) (qcol x)) ⟨(head t hd).val * 64 + d.val, by omega⟩) := by
  have hq := fun e : Fin 64 => (blk0 m c t x _).trans (congrArg (A0 m c) (ext3 (f := ix3 (bat t) (qtok t x) _)
    (g := ix3 (bat t) (tok (blockRow (blk t) (qrow x)) (qcol x)) (lan 0 (by decide) (head t hd) e)) rfl (qtok_eq t x) (plane_eq 0 0 (by decide) (by decide) rfl t hd e)))
  have hk := fun (j : Fin 1024) (e : Fin 64) => ((slab_ld _ t j _).trans (blk1 m c t _ _)).trans
    (congrArg (fun l => A0 m c (ix3 (bat t) (ktok t j) l)) (plane_eq 4 512 (by decide) (by decide) rfl t hd e))
  have hv := fun (j : Fin 1024) (e : Fin 64) => ((slab_ld _ t j _).trans (blk2 m c t _ _)).trans
    (congrArg (fun l => A0 m c (ix3 (bat t) (ktok t j) l)) (plane_eq 8 1024 (by decide) (by decide) rfl t hd e))
  have hkc := fun (n : Fin 256) (e : Fin 64) => (blk3 m c t n _).trans
    (congrArg (fun l => A1 m c (ix3 (bat t) n l)) (plane_eq 4 512 (by decide) (by decide) rfl t hd e))
  have hvc := fun (n : Fin 256) (e : Fin 64) => (blk4 m c t n _).trans
    (congrArg (fun l => A1 m c (ix3 (bat t) n l)) (plane_eq 8 1024 (by decide) (by decide) rfl t hd e))
  have hok := fun j : Fin 1024 => (valid_ld _ t x j).trans (blk6 m c t _ _ _)
  have htb := fun j : Fin 1024 => (table_ld _ t hd x j).trans (blk5 m c t _ _ _ _)
  refine (stored_apply _ _ _ _ _ _ _ _ x hd d).trans ((entry_congr (funext hq) (funext fun j => funext (hk j)) (funext fun j => funext (hv j))
    (funext fun n => funext (hkc n)) (funext fun n => funext (hvc n)) (funext hok) (funext htb)).trans ?_)
  refine Eq.trans ?_ (Cert.Proof.NattenRefOut.ref_apply (A0 m c) (A1 m c) (A2 m c) (bat t) (blockRow (blk t) (qrow x)) (qcol x) (head t hd) d).symm
  refine (entry_near hd _ _ _ _ _ _ _ d (sl (A0 m c) (A2 m c) (bat t) (head t hd) (blockRow (blk t) (qrow x)) (qcol x))
    (sc (A0 m c) (A1 m c) (bat t) (head t hd) (blockRow (blk t) (qrow x)) (qcol x)) (key (blk t) x) (key_inj (blk t) x)
    (valid_key m c (blk t) x) (valid_off m c (blk t) x) (fun a k => ?_) (fun n => ?_) (hr.near _ _ _ _) (hr.ctx _ _ _ _)).trans ?_
  · rw [table_key, ktok_eq, sl]
  · rw [sc]
  · refine congrArg (fun v => near _ _ v _) (funext fun a => funext fun k => ?_)
    rw [ktok_eq]

/-- The same at any index of the block. -/
theorem block_at (c : Dev nD) (hr : Real m c) (t : Fin cfg0.N) (j : S1x512x128.Idx) :
    stored (iblk m c 0 t) (View.ld (iblk m c 1 t) (Rect.unit (s := S1x4096x128) (k0_off1 (grid0.coords t)) S1x1024x128.size (k0_off1_inb (grid0.coords t))))
      (View.ld (iblk m c 2 t) (Rect.unit (s := S1x4096x128) (k0_off1 (grid0.coords t)) S1x1024x128.size (k0_off1_inb (grid0.coords t))))
      (iblk m c 3 t) (iblk m c 4 t)
      (View.ld (iblk m c 6 t) (Rect.unit (s := S3x512x1024) (k0_off2 (grid0.coords t)) S1x512x1024.size (k0_off2_inb (grid0.coords t))))
      (View.ld (iblk m c 5 t) (Rect.unit (s := S2x3x512x1024) (k0_off3 (grid0.coords t)) S1x1x512x1024.size (k0_off3_inb (grid0.coords t))))
      (View.ld (iblk m c 5 t) (Rect.unit (s := S2x3x512x1024) (k0_off4 (grid0.coords t)) S1x1x512x1024.size (k0_off4_inb (grid0.coords t)))) j
    = GG m c (ix3 (bat t) (qtok t (j 1)) ⟨t.val / 32 * 128 + (j 2).val, by have := lt128 t; have : (j 2).val < 128 := (j 2).isLt; omega⟩) := by
  obtain ⟨x, hd, d, rfl⟩ : ∃ (x : Fin 512) (hd : Fin 2) (d : Fin 64), j = ix3 0 x ⟨64 * hd.val + d.val, by omega⟩ := by
    have h0 : (j 0).val < 1 := (j 0).isLt
    have h2 : (j 2).val < 128 := (j 2).isLt
    refine ⟨j 1, ⟨(j 2).val / 64, by omega⟩, ⟨(j 2).val % 64, by omega⟩, ext3 (Fin.ext ?_) rfl (Fin.ext ?_)⟩
    · show (j 0).val = 0
      omega
    · show (j 2).val = 64 * ((j 2).val / 64) + (j 2).val % 64
      omega
  refine (block_eq m c hr t x hd d).trans (congrArg (GG m c) (ext3 rfl (qtok_eq t x).symm (Fin.ext ?_)))
  show (t.val / 32 * 2 + hd.val) * 64 + d.val = t.val / 32 * 128 + (64 * hd.val + d.val)
  omega

/-- A grid point writes back its block of any array that has what it stores at the block's indices. -/
theorem flushed_of (c : Dev nD) (t : Fin cfg0.N) (G : Vec Ideal S4x4096x512 .bf16) (h : ∀ j : S1x512x128.Idx,
    stored (iblk m c 0 t) (View.ld (iblk m c 1 t) (Rect.unit (s := S1x4096x128) (k0_off1 (grid0.coords t)) S1x1024x128.size (k0_off1_inb (grid0.coords t))))
      (View.ld (iblk m c 2 t) (Rect.unit (s := S1x4096x128) (k0_off1 (grid0.coords t)) S1x1024x128.size (k0_off1_inb (grid0.coords t))))
      (iblk m c 3 t) (iblk m c 4 t)
      (View.ld (iblk m c 6 t) (Rect.unit (s := S3x512x1024) (k0_off2 (grid0.coords t)) S1x512x1024.size (k0_off2_inb (grid0.coords t))))
      (View.ld (iblk m c 5 t) (Rect.unit (s := S2x3x512x1024) (k0_off3 (grid0.coords t)) S1x1x512x1024.size (k0_off3_inb (grid0.coords t))))
      (View.ld (iblk m c 5 t) (Rect.unit (s := S2x3x512x1024) (k0_off4 (grid0.coords t)) S1x1x512x1024.size (k0_off4_inb (grid0.coords t)))) j
    = G (ix3 (bat t) (qtok t (j 1)) ⟨t.val / 32 * 128 + (j 2).val, by have := lt128 t; have : (j 2).val < 128 := (j 2).isLt; omega⟩)) :
    (dats m 0 c).flushed 7 t = ((cfg0.win 7).blk t).view.read (Elt Ideal) G := by
  rw [flushed7_A, out_eq]
  funext j
  show _ = G (((cfg0.win 7).blk t).view.emb j)
  rw [emb7]
  exact h j

theorem flushed_eq (c : Dev nD) (hr : Real m c) (t : Fin cfg0.N) :
    (dats m 0 c).flushed 7 t = ((cfg0.win 7).blk t).view.read (Elt Ideal) (GG m c) :=
  flushed_of m c t (GG m c) (block_at m c hr t)

/-- Every index of the result array is in the block of its head pair, batch and rows. -/
theorem covered (i : S4x4096x512.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 512 := (i 2).isLt
  obtain ⟨t, ht⟩ : ∃ t : Fin cfg0.N, t.val = (i 2).val / 128 * 32 + (i 0).val * 8 + (i 1).val / 512 :=
    ⟨(⟨_, by show _ < 128; omega⟩ : Fin cfg0.N), rfl⟩
  refine ⟨t, flush0_7 _, ?_⟩
  have h := ((cfg0.win 7).blk t).view.emb_mem_set (ix3 0 ⟨(i 1).val % 512, Nat.mod_lt _ (by decide)⟩ ⟨(i 2).val % 128, Nat.mod_lt _ (by decide)⟩)
  rw [emb7] at h
  refine Eq.mpr (congrArg (· ∈ _) ?_) h
  refine ext3 (Fin.ext ?_) (Fin.ext ?_) (Fin.ext ?_)
  · show (i 0).val = t.val / 8 % 4
    omega
  · show (i 1).val = t.val % 8 * 512 + (i 1).val % 512
    omega
  · show (i 2).val = t.val / 32 * 128 + (i 2).val % 128
    omega

/-- The run, with the result array at its function of the arguments. -/
theorem run (hr : ∀ c, Real m c) : θ_run defs (onTc (τ := τ) (main (F := Ideal))) ⟨m, fun _ => 0, ρ⟩ fun r => ∀ c : Dev nD,
      r.2.mem ((c : Thread nD τ).loc main_v14) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((dats m 0 c).arrAt_eq_of_cover 7 (GG m c) (fun t _ => flushed_eq m c (hr c) t) covered), (h c).2⟩) (run_blocks m ρ)

end Cert.Proof.NattenRun

end
-- ==== Proof.NattenPre.lean ====
/- The precondition read at an element: the queries, the keys and the biases are real numbers; so the scores are. -/
module

public import proofs.«01_k».proof.Pre_finite
public import proofs.«01_k».proof.Proof.NattenRef
public import proofs.«01_k».proof.Proof.NattenEntry
public import Idealize.ShloMosaic.Lib.ReduceAll

@[expose] public section

noncomputable section

namespace Cert.Proof.NattenPre

open Idealize.ShloMosaic Cert.Pre_finite
open Cert.Proof.NattenMath Cert.Proof.NattenGather Cert.Proof.NattenEntry Cert.Proof.NattenRef

instance facts : Cert.Pre_finite.Facts where
  slices_S4x4096x1536_S4x4096x1024_0_0_0 := by decide
  bitsLt_bf16_f32 := by decide
  bcast_S_S4x4096x1024 := by decide
  reducesTo_S4x4096x1024_S_d0_1_2 := by decide
  h_S_ := by decide
  slices_S4x256x1536_S4x256x512_0_0_512 := by decide
  bcast_S_S4x256x512 := by decide
  reducesTo_S4x256x512_S_d0_1_2 := by decide
  bcast_S_S1x8x15x31 := by decide
  reducesTo_S1x8x15x31_S_d0_1_2_3 := by decide

theorem top_word : Ideal.ofBits .f32 0x7F800000#32 = ⊤ := by
  show Ideal.ieee 8 23 (0x7F800000#32 : BitVec 32) = ⊤
  simp [Ideal.ieee]

/-- A number whose absolute value is below infinity is real. -/
theorem real_of (x : EReal) (h : FloatOps.cmpf (F := Ideal) (φ := .f32) .olt (FloatOps.absf (F := Ideal) (φ := .f32) x) (Ideal.ofBits .f32 0x7F800000#32) = 1#1) : ∃ v : ℝ, x = v := by
  rw [top_word] at h
  replace h : BitVec.ofBool (decide (max x (-x) < ⊤)) = 1#1 := h
  induction x using EReal.rec with
  | bot => simp at h
  | coe v => exact ⟨v, rfl⟩
  | top => simp at h

/-- The scores of real queries, keys and biases are real. -/
theorem dot_real (q k : Fin 64 → EReal) (hq : ∀ e, ∃ v : ℝ, q e = v) (hk : ∀ e, ∃ v : ℝ, k e = v) :
    ∃ v : ℝ, (∑ e, q e * k e) * Ideal.ofBits .f32 0x3E000000#32 = v := by
  choose a ha using hq
  choose b hb using hk
  simp only [ha, hb, eighth, ← EReal.coe_mul, coe_sum]
  exact ⟨_, rfl⟩

variable (x0 : FVec Ideal S4x4096x1536 .bf16) (x1 : FVec Ideal S4x256x1536 .bf16) (x2 : FVec Ideal S1x8x15x31 .f32)

theorem parts (h : fn (F := Ideal) x0 x1 x2 = fun _ => 1#1) :
    (∀ (b : Fin 4) (n : Fin 4096) (l : Fin 1024), ∃ v : ℝ, x0 (ix3 b n ⟨l.val, by omega⟩) = v)
    ∧ (∀ (b : Fin 4) (n : Fin 256) (l : Fin 512), ∃ v : ℝ, x1 (ix3 b n ⟨512 + l.val, by omega⟩) = v)
    ∧ ∀ (a : Fin 1) (b : Fin 8) (c : Fin 15) (d : Fin 31), ∃ v : ℝ, x2 (ix4 a b c d) = v := by
  have h0 := congrFun h ix0
  unfold fn at h0
  dsimp only at h0
  obtain ⟨h1, h3⟩ := IntOp.andi_eq_one.1 h0
  obtain ⟨h1, h2⟩ := IntOp.andi_eq_one.1 h1
  refine ⟨fun b n l => real_of _ ?_, fun b n l => real_of _ ?_, fun a b c d => real_of _ ?_⟩
  · have := Host.reduce_andi_all _ _ _ _ _ h1 (ix3 b n l)
    pointwise at this
    exact this
  · have := Host.reduce_andi_all _ _ _ _ _ h2 (ix3 b n l)
    pointwise at this
    exact this
  · have := Host.reduce_andi_all _ _ _ _ _ h3 (ix4 a b c d)
    pointwise at this
    exact this

/-- The neighborhood's scores are real. -/
theorem near_real (h : fn (F := Ideal) x0 x1 x2 = fun _ => 1#1) (b : Fin 4) (hd : Fin 8) (r w : Fin 64) (a : Fin 8) (k : Fin 16) :
    ∃ v : ℝ, sl x0 x2 b hd r w a k = v := by
  obtain ⟨h0, -, h2⟩ := parts x0 x1 x2 h
  obtain ⟨u, hu⟩ := dot_real _ _ (fun d => h0 b (tok r w) ⟨0 + (hd.val * 64 + d.val), by omega⟩)
    (fun d => h0 b (tok (nrow r a) (ncol w k)) ⟨512 + (hd.val * 64 + d.val), by omega⟩)
  obtain ⟨v, hv⟩ := h2 0 hd (brow r a) (bcol w k)
  refine ⟨u + v, ?_⟩
  rw [EReal.coe_add, ← hu, ← hv]
  rfl

/-- The context's scores are real. -/
theorem ctx_real (h : fn (F := Ideal) x0 x1 x2 = fun _ => 1#1) (b : Fin 4) (hd : Fin 8) (r w : Fin 64) (n : Fin 256) :
    ∃ v : ℝ, sc x0 x1 b hd r w n = v := by
  obtain ⟨h0, h1, -⟩ := parts x0 x1 x2 h
  exact dot_real _ _ (fun d => h0 b (tok r w) ⟨0 + (hd.val * 64 + d.val), by omega⟩)
    (fun d => h1 b n ⟨hd.val * 64 + d.val, by omega⟩)

end Cert.Proof.NattenPre

end
-- ==== Proof.NattenClaim.lean ====
/- The claims of the neighborhood attention: the kernel's run and the reference's run end with the same result array, and the
   reference's frame. -/
module

public import proofs.«01_k».proof.Defs
public import proofs.«01_k».proof.Proof.NattenRun
public import proofs.«01_k».proof.Proof.NattenPre
public import Idealize.ShloMosaic.Adequacy

@[expose] public section

noncomputable section

namespace Cert.Proof.NattenClaim

open Idealize.ShloMosaic Idealize.ShloMosaic.TcCoe Idealize.SL.Sem

theorem ref_frame : Cert.quiescent_NattenRefIdeal := fun m ρ _ =>
  (θ_run _ _ _).mono (fun r h => ⟨fun c => (h c).2, sem_eq_zero_of_no_sems (by decide) r.2⟩) (Cert.NattenRefIdeal.Value.run m ρ)

theorem algebraic : Cert.algebraic_NattenIdeal_NattenRefIdeal_pre_finite := by
  intro m g m' g' hpre hm
  refine ⟨fun c => NattenRun.GG m c, NattenRun.run m g (fun c => ⟨NattenPre.near_real _ _ _ (hpre c), NattenPre.ctx_real _ _ _ (hpre c)⟩), ?_⟩
  refine (θ_run _ _ _).mono (fun r h c => ⟨(h c).1.trans ?_, (h c).2⟩) (Cert.NattenRefIdeal.Value.run m' g')
  obtain ⟨h0, h1, h2⟩ := hm c
  rw [Cert.NattenRefIdeal.Read.val_main_v126_eq, h0, h1, h2]
  unfold NattenRun.GG
  exact rfl

end Cert.Proof.NattenClaim

end
-- ==== Proof.FfnBlock.lean ====
/- What one block of the feed-forward sub-layer computes: the eleven chunks of hidden columns, stored side by side, are one
   matrix of hidden entries (`out_eq`), and every row of the block's result is `rowOut` of its row, the modulation rows and
   the weights (`block_apply`). -/
module

public import proofs.«01_k».proof.Proof.Gen.FfnIdeal.Value
public import Idealize.ShloMosaic.Lib.Pointwise

@[expose] public section

set_option maxRecDepth 16384

noncomputable section

namespace Cert.Proof.FfnBlock

open Cert.FfnIdeal Cert.FfnIdeal.Gen Cert.FfnIdeal.Value Idealize.ShloMosaic Idealize.ShloMosaic.TcCoe Idealize.SL.Sem
open Idealize.ShloMosaic.Tactic

/-- The hidden row's entry `f` of a normalized row: the gate column's product through its sigmoid, times the product of
    the column 2816 further on. -/
def hid (b : Fin 1024 → EReal) (w : Fin 1024 → Fin 5632 → EReal) (f : Fin 2816) : EReal :=
  (∑ d, b d * w d ⟨f.val, by omega⟩) * Ideal.div 1 (1 + Ideal.exp (-∑ d, b d * w d ⟨f.val, by omega⟩))
    * ∑ d, b d * w d ⟨2816 + f.val, by omega⟩

/-- A row divided by its root mean square, times the weights `g`. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The sub-layer on one row before the last normalization: the row plus half its gate times the feed-forward of the
    normalized and modulated row. -/
def mix (x g sh sc gt : Fin 1024 → EReal) (wi : Fin 1024 → Fin 5632 → EReal) (wo : Fin 2816 → Fin 1024 → EReal)
    (d : Fin 1024) : EReal :=
  x d + Ideal.ofBits .f32 0x3F000000#32 * gt d * ∑ f, hid (fun k => rms x g k * (1 + sc k) + sh k) wi f * wo f d

/-- The sub-layer on one row. -/
def rowOut (x g sh sc gt fg : Fin 1024 → EReal) (wi : Fin 1024 → Fin 5632 → EReal) (wo : Fin 2816 → Fin 1024 → EReal) :
    Fin 1024 → EReal :=
  rms (mix x g sh sc gt wi wo) fg

/-- Column `k` of the second layer's modulation of batch `b`. -/
def col (x1 : Vec Ideal S16x1x9216 .f32) (k : Fin 9) (b : Fin 4) (d : Fin 1024) : EReal := x1 (ix3 ⟨8 + b.val, by omega⟩ 0 ⟨k.val * 1024 + d.val, by omega⟩)

/-- All hidden entries of a block of normalized rows. -/
def mid (B : Vec Ideal S1024x1024 .bf16) (w : Vec Ideal S1x1024x5632 .bf16) : Vec Ideal S1024x2816 .bf16 :=
  fun y => hid (fun d => B (ix2 (y 0) d)) (fun d f => w (ix3 0 d f)) (y 1)

/-- One chunk's payload, of the columns from `o` and those from `2816 + o`, is those hidden entries. -/
theorem chunk (B : Vec Ideal S1024x1024 .bf16) (w : Vec Ideal S1x1024x5632 .bf16) (o o' : Nat) (h : o + 256 ≤ 2816)
    (ho : o' = 2816 + o)
    (i : ∀ a, (![0, 0, o] : Fin 3 → Nat) a + S1x1024x256.size a ≤ S1x1024x5632.size a)
    (i' : ∀ a, (![0, 0, o'] : Fin 3 → Nat) a + S1x1024x256.size a ≤ S1x1024x5632.size a)
    (j : ∀ a, (![0, o] : Fin 2 → Nat) a + S1024x256.size a ≤ S1024x2816.size a) (x : S1024x256.Idx) :
    k0_pay7 B (View.ld w (Rect.unit ![0, 0, o] S1x1024x256.size i)) (View.ld w (Rect.unit ![0, 0, o'] S1x1024x256.size i')) x
      = mid B w ((Rect.unit (s := S1024x2816) ![0, o] S1024x256.size j).emb x) := by
  subst ho
  idx_vars x
  have e : (Rect.unit (s := S1024x2816) ![0, o] S1024x256.size j).emb (ix2 x0 x1) = ix2 x0 ⟨o + x1.val, by omega⟩ := by
    funext a
    refine Fin.ext ?_
    fin_cases a
    · show 0 + 1 * x0.val = x0.val
      omega
    · show o + 1 * x1.val = o + x1.val
      omega
  rw [e]
  pointwise [k0_pay7, mid, hid]
  simp only [zero_sub, Nat.add_assoc]

/-- What a grid point's run leaves in the output's staging buffer. -/
theorem out_eq (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1x1x1024 .f32) (harg9 : arg9.IsWhole) (arg10 : Memref sig .tc .vmem S1x1024x1024 .f32) (harg10 : arg10.IsWhole) (arg11 : Memref sig .tc .vmem S1024x2816 .bf16) (harg11 : arg11.IsWhole)
    (x0 : Vec Ideal S1x1024x1024 .f32) (x1 : Vec Ideal S1x1x1024 .f32) (x2 : Vec Ideal S1x1x1024 .f32) (x3 : Vec Ideal S1x1x1024 .f32) (x4 : Vec Ideal S1x1x1024 .f32) (x5 : Vec Ideal S1x1024x5632 .bf16) (x6 : Vec Ideal S1x2816x1024 .bf16) (x7 : Vec Ideal S1x1x1024 .f32) :
    out0_A_8 c i arg2 harg2 arg3 harg3 arg4 harg4 arg5 harg5 arg6 harg6 arg7 harg7 arg8 harg8 arg9 harg9 arg10 harg10 arg11 harg11 x0 x1 x2 x3 x4 x5 x6 x7 = k0_pay1 (k0_pay2 x0) (k0_pay25 (mid (k0_pay3 x0 x4 x1 x2) x5) x6) x3 x7 := by
  have hz : (![0, 0, 0] : Fin 3 → Nat) = fun _ => 0 := funext fun a => by fin_cases a <;> rfl
  have hz2 : (![0, 0] : Fin 2 → Nat) = fun _ => 0 := funext fun a => by fin_cases a <;> rfl
  unfold out0_A_8
  rw [View.read_writes_junk_eq_canon]
  unfold kernelRun0_A
  dsimp only
  rw [View.canon_unit_zero hz]
  sl_unfold_words
  simp only [View.readAt_eq_ld, harg2.read_unread, harg3.read_unread, harg4.read_unread, harg5.read_unread, harg6.read_unread, harg7.read_unread, harg8.read_unread, harg9.read_unread]
  rw [View.ld_unit_zero hz, View.ld_unit_zero hz, View.ld_unit_zero hz, View.ld_unit_zero hz, View.ld_unit_zero hz, View.ld_unit_zero hz, View.ld_unit_zero hz]
  congr 1
  congr 1
  rw [View.readCov_eq_canon_ld (Val := Elt Ideal) arg11.view _ _ (by
    intro y
    exact View.cover_of_tiledL (s := S1024x2816) _ ![1024, 256] (by sl_kernel_rfl) y)]
  rw [View.ld_unit_zero hz2]
  funext y
  refine View.canon_apply_of_pieces (mid (k0_pay3 x0 x4 x1 x2) x5) _ ?_ y (View.cover_of_tiledL (s := S1024x2816) _ ![1024, 256] (by sl_kernel_rfl) y)
  intro p hp x
  simp only [List.mem_cons, List.not_mem_nil, or_false] at hp
  rcases hp with rfl | rfl | rfl | rfl | rfl | rfl | rfl | rfl | rfl | rfl | rfl
  all_goals exact chunk _ x5 _ _ (by decide) (by decide) _ _ (by decide) x

/-- A block's normalized and modulated rows. -/
theorem norm_apply (x0 : Vec Ideal S1x1024x1024 .f32) (x1 x2 x4 : Vec Ideal S1x1x1024 .f32) (r k : Fin 1024) :
    k0_pay3 x0 x4 x1 x2 (ix2 r k) = rms (fun k => x0 (ix3 0 r k)) (fun k => x4 (ix3 0 0 k)) k
      * (1 + x2 (ix3 0 0 k)) + x1 (ix3 0 0 k) := by
  pointwise [k0_pay3, k0_pay2, rms]

/-- The hidden entries of a block's rows. -/
theorem mid_apply (x0 : Vec Ideal S1x1024x1024 .f32) (x1 x2 x4 : Vec Ideal S1x1x1024 .f32)
    (x5 : Vec Ideal S1x1024x5632 .bf16) (r : Fin 1024) (f : Fin 2816) :
    mid (k0_pay3 x0 x4 x1 x2) x5 (ix2 r f) = hid (fun k => rms (fun k => x0 (ix3 0 r k)) (fun k => x4 (ix3 0 0 k)) k
      * (1 + x2 (ix3 0 0 k)) + x1 (ix3 0 0 k)) (fun k f => x5 (ix3 0 k f)) f := by
  show hid (fun k => k0_pay3 x0 x4 x1 x2 (ix2 r k)) _ f = _
  simp only [norm_apply]

/-- So a block's entry is the sub-layer on its row. -/
theorem block_apply (x0 : Vec Ideal S1x1024x1024 .f32) (x1 x2 x3 x4 x7 : Vec Ideal S1x1x1024 .f32)
    (x5 : Vec Ideal S1x1024x5632 .bf16) (x6 : Vec Ideal S1x2816x1024 .bf16) (r d : Fin 1024) :
    k0_pay1 (k0_pay2 x0) (k0_pay25 (mid (k0_pay3 x0 x4 x1 x2) x5) x6) x3 x7 (ix3 0 r d)
      = rowOut (fun k => x0 (ix3 0 r k)) (fun k => x4 (ix3 0 0 k)) (fun k => x1 (ix3 0 0 k)) (fun k => x2 (ix3 0 0 k))
          (fun k => x3 (ix3 0 0 k)) (fun k => x7 (ix3 0 0 k)) (fun k f => x5 (ix3 0 k f)) (fun f k => x6 (ix3 0 f k)) d := by
  have hM := mid_apply x0 x1 x2 x4 x5 r
  generalize mid (k0_pay3 x0 x4 x1 x2) x5 = H at hM ⊢
  pointwise [k0_pay1, k0_pay2, k0_pay25, rowOut, mix, rms]
  simp only [hM, rms]

end Cert.Proof.FfnBlock

end
-- ==== Proof.FfnRun.lean ====
/- The feed-forward kernel's result array as one function of its arguments: each of the sixteen blocks is 1024 rows of it
   (`flushed_eq`), the blocks cover it, and every row is `rowOut` of its row (`G`). -/
module

public import proofs.«01_k».proof.Proof.FfnBlock
public import Idealize.ShloMosaic.Lib.StableHlo.ReadAt

@[expose] public section

noncomputable section

namespace Cert.Proof.FfnRun

open Cert.FfnIdeal Cert.FfnIdeal.Gen Cert.FfnIdeal.Value Idealize.ShloMosaic Idealize.ShloMosaic.TcCoe Idealize.SL.Sem
open Cert.Proof.FfnBlock

/-- The result array as one function of the six arguments. -/
def G (x0 : Vec Ideal S4x4096x1024 .f32) (x1 : Vec Ideal S16x1x9216 .f32) (x2 : Vec Ideal S2x3x1024 .f32)
    (x3 : Vec Ideal S2x2x1024x5632 .f32) (x4 : Vec Ideal S2x2x2816x1024 .f32) (x5 : Vec Ideal S1024 .f32) :
    Vec Ideal S4x4096x1024 .f32 := fun i =>
  rowOut (fun k => x0 (ix3 (i 0) (i 1) k)) (fun k => x2 (ix3 1 2 k)) (col x1 6 (i 0)) (col x1 7 (i 0)) (col x1 8 (i 0))
    (fun k => x5 (ix1 k)) (fun k f => x3 (ix4 1 1 k f)) (fun f k => x4 (ix4 1 1 f k)) (i 2)

variable (m : (ℓ : Loc nD τ sig) → Buf (Elt Ideal) ℓ) (ρ : Dev nD → PrngReg)

/-- Grid point `t`'s block indices. -/
theorem idx : ∀ t : Fin cfg0.N,
    (win0_0.index t (0 : Fin 3) = t.val / 4 ∧ win0_0.index t (1 : Fin 3) = t.val % 4 ∧ win0_0.index t (2 : Fin 3) = 0)
    ∧ (win0_1.index t (0 : Fin 3) = 8 + t.val / 4 ∧ win0_1.index t (1 : Fin 3) = 0 ∧ win0_1.index t (2 : Fin 3) = 6)
    ∧ (win0_2.index t (0 : Fin 3) = 8 + t.val / 4 ∧ win0_2.index t (1 : Fin 3) = 0 ∧ win0_2.index t (2 : Fin 3) = 7)
    ∧ (win0_3.index t (0 : Fin 3) = 8 + t.val / 4 ∧ win0_3.index t (1 : Fin 3) = 0 ∧ win0_3.index t (2 : Fin 3) = 8)
    ∧ (win0_4.index t (0 : Fin 3) = 5 ∧ win0_4.index t (1 : Fin 3) = 0 ∧ win0_4.index t (2 : Fin 3) = 0)
    ∧ (win0_5.index t (0 : Fin 3) = 3 ∧ win0_5.index t (1 : Fin 3) = 0 ∧ win0_5.index t (2 : Fin 3) = 0)
    ∧ (win0_6.index t (0 : Fin 3) = 3 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = t.val / 4 ∧ win0_8.index t (1 : Fin 3) = t.val % 4 ∧ win0_8.index t (2 : Fin 3) = 0) :=
  (by decide +kernel : ∀ t : Fin grid0.N, _)

theorem lt16 (t : Fin cfg0.N) : t.val < 16 := t.isLt

/-- The batch of a grid point, and the array row of row `r` of its block. -/
def bat (t : Fin cfg0.N) : Fin 4 := ⟨t.val / 4, by have := lt16 t; omega⟩
def row (t : Fin cfg0.N) (r : Fin 1024) : Fin 4096 := ⟨t.val % 4 * 1024 + r.val, by have := r.isLt; omega⟩

/-- The result array as a function of the arguments as launched. -/
def GG (c : Dev nD) : Vec Ideal S4x4096x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where the output window's block lies in the result array. -/
theorem emb8 (t : Fin cfg0.N) (j : S1x1024x1024.Idx) :
    ((cfg0.win 8).blk t).view.emb j = ix3 (bat t) (row t (j 1)) (j 2) := by
  obtain ⟨-, -, -, -, -, -, -, -, e0, e1, e2⟩ := idx t
  have h0 : (j 0).val < 1 := (j 0).isLt
  funext a
  refine Fin.ext ?_
  fin_cases a
  · show win0_8.index t (0 : Fin 3) * 1 + 1 * (j 0).val = t.val / 4
    omega
  · show win0_8.index t (1 : Fin 3) * 1024 + 1 * (j 1).val = t.val % 4 * 1024 + (j 1).val
    omega
  · show win0_8.index t (2 : Fin 3) * 1024 + 1 * (j 2).val = (j 2).val
    omega

/-! What the host operations leave in the weight arrays that the kernel reads. -/

theorem V0 (c : Dev nD) (k : Fin 1024) : V m c main_v0 (ix3 5 0 k) = m ((c : Thread nD τ).loc main_arg2) (ix3 1 2 k) := by
  unfold V
  after_reads_at

theorem V1 (c : Dev nD) (k : Fin 1024) : V m c main_v1 (ix3 0 0 k) = m ((c : Thread nD τ).loc main_arg5) (ix1 k) := by
  unfold V
  after_reads_at

theorem V3 (c : Dev nD) (k : Fin 1024) (f : Fin 5632) :
    V m c main_v3 (ix3 3 k f) = m ((c : Thread nD τ).loc main_arg3) (ix4 1 1 k f) := by
  unfold V
  after_reads_at

theorem V5 (c : Dev nD) (f : Fin 2816) (k : Fin 1024) :
    V m c main_v5 (ix3 3 f k) = m ((c : Thread nD τ).loc main_arg4) (ix4 1 1 f k) := by
  unfold V
  after_reads_at

/-! Each input window's block, read at an index, as an element of an argument. -/

theorem blk0 (c : Dev nD) (t : Fin cfg0.N) (r k : Fin 1024) :
    iblk m c 0 t (ix3 0 r k) = m ((c : Thread nD τ).loc main_arg0) (ix3 (bat t) (row t r) k) := by
  obtain ⟨⟨e0, e1, e2⟩, -⟩ := idx t
  have e : ((cfg0.win 0).blk t).view.emb (ix3 0 r k) = ix3 (bat t) (row t r) k := by
    funext a
    refine Fin.ext ?_
    fin_cases a
    · show win0_0.index t (0 : Fin 3) * 1 + 1 * (0) = t.val / 4
      omega
    · show win0_0.index t (1 : Fin 3) * 1024 + 1 * (r.val) = t.val % 4 * 1024 + r.val
      omega
    · show win0_0.index t (2 : Fin 3) * 1024 + 1 * (k.val) = k.val
      omega
  show V m c main_arg0 (((cfg0.win 0).blk t).view.emb (ix3 0 r k)) = _
  rw [e]
  exact congrFun (V_main_arg0 m c) _

theorem blk1 (c : Dev nD) (t : Fin cfg0.N) (k : Fin 1024) :
    iblk m c 1 t (ix3 0 0 k) = col (m ((c : Thread nD τ).loc main_arg1)) 6 (bat t) k := by
  obtain ⟨-, ⟨e0, e1, e2⟩, -⟩ := idx t
  have e : ((cfg0.win 1).blk t).view.emb (ix3 0 0 k) = ix3 ⟨8 + (bat t).val, by have := (bat t).isLt; omega⟩ 0 ⟨(6 : Fin 9).val * 1024 + k.val, by have := k.isLt; have : (6 : Fin 9).val = 6 := rfl; omega⟩ := by
    funext a
    refine Fin.ext ?_
    fin_cases a
    · show win0_1.index t (0 : Fin 3) * 1 + 1 * (0) = 8 + t.val / 4
      omega
    · show win0_1.index t (1 : Fin 3) * 1 + 1 * (0) = 0
      omega
    · show win0_1.index t (2 : Fin 3) * 1024 + 1 * (k.val) = 6 * 1024 + k.val
      omega
  show V m c main_arg1 (((cfg0.win 1).blk t).view.emb (ix3 0 0 k)) = _
  rw [e]
  exact congrFun (V_main_arg1 m c) _

theorem blk2 (c : Dev nD) (t : Fin cfg0.N) (k : Fin 1024) :
    iblk m c 2 t (ix3 0 0 k) = col (m ((c : Thread nD τ).loc main_arg1)) 7 (bat t) k := by
  obtain ⟨-, -, ⟨e0, e1, e2⟩, -⟩ := idx t
  have e : ((cfg0.win 2).blk t).view.emb (ix3 0 0 k) = ix3 ⟨8 + (bat t).val, by have := (bat t).isLt; omega⟩ 0 ⟨(7 : Fin 9).val * 1024 + k.val, by have := k.isLt; have : (7 : Fin 9).val = 7 := rfl; omega⟩ := by
    funext a
    refine Fin.ext ?_
    fin_cases a
    · show win0_2.index t (0 : Fin 3) * 1 + 1 * (0) = 8 + t.val / 4
      omega
    · show win0_2.index t (1 : Fin 3) * 1 + 1 * (0) = 0
      omega
    · show win0_2.index t (2 : Fin 3) * 1024 + 1 * (k.val) = 7 * 1024 + k.val
      omega
  show V m c main_arg1 (((cfg0.win 2).blk t).view.emb (ix3 0 0 k)) = _
  rw [e]
  exact congrFun (V_main_arg1 m c) _

theorem blk3 (c : Dev nD) (t : Fin cfg0.N) (k : Fin 1024) :
    iblk m c 3 t (ix3 0 0 k) = col (m ((c : Thread nD τ).loc main_arg1)) 8 (bat t) k := by
  obtain ⟨-, -, -, ⟨e0, e1, e2⟩, -⟩ := idx t
  have e : ((cfg0.win 3).blk t).view.emb (ix3 0 0 k) = ix3 ⟨8 + (bat t).val, by have := (bat t).isLt; omega⟩ 0 ⟨(8 : Fin 9).val * 1024 + k.val, by have := k.isLt; have : (8 : Fin 9).val = 8 := rfl; omega⟩ := by
    funext a
    refine Fin.ext ?_
    fin_cases a
    · show win0_3.index t (0 : Fin 3) * 1 + 1 * (0) = 8 + t.val / 4
      omega
    · show win0_3.index t (1 : Fin 3) * 1 + 1 * (0) = 0
      omega
    · show win0_3.index t (2 : Fin 3) * 1024 + 1 * (k.val) = 8 * 1024 + k.val
      omega
  show V m c main_arg1 (((cfg0.win 3).blk t).view.emb (ix3 0 0 k)) = _
  rw [e]
  exact congrFun (V_main_arg1 m c) _

theorem blk4 (c : Dev nD) (t : Fin cfg0.N) (k : Fin 1024) :
    iblk m c 4 t (ix3 0 0 k) = m ((c : Thread nD τ).loc main_arg2) (ix3 1 2 k) := by
  obtain ⟨-, -, -, -, ⟨e0, e1, e2⟩, -⟩ := idx t
  have e : ((cfg0.win 4).blk t).view.emb (ix3 0 0 k) = ix3 5 0 k := by
    funext a
    refine Fin.ext ?_
    fin_cases a
    · show win0_4.index t (0 : Fin 3) * 1 + 1 * (0) = 5
      omega
    · show win0_4.index t (1 : Fin 3) * 1 + 1 * (0) = 0
      omega
    · show win0_4.index t (2 : Fin 3) * 1024 + 1 * (k.val) = k.val
      omega
  show V m c main_v0 (((cfg0.win 4).blk t).view.emb (ix3 0 0 k)) = _
  rw [e]
  exact V0 m c k

theorem blk5 (c : Dev nD) (t : Fin cfg0.N) (k : Fin 1024) (f : Fin 5632) :
    iblk m c 5 t (ix3 0 k f) = m ((c : Thread nD τ).loc main_arg3) (ix4 1 1 k f) := by
  obtain ⟨-, -, -, -, -, ⟨e0, e1, e2⟩, -⟩ := idx t
  have e : ((cfg0.win 5).blk t).view.emb (ix3 0 k f) = ix3 3 k f := by
    funext a
    refine Fin.ext ?_
    fin_cases a
    · show win0_5.index t (0 : Fin 3) * 1 + 1 * (0) = 3
      omega
    · show win0_5.index t (1 : Fin 3) * 1024 + 1 * (k.val) = k.val
      omega
    · show win0_5.index t (2 : Fin 3) * 5632 + 1 * (f.val) = f.val
      omega
  show V m c main_v3 (((cfg0.win 5).blk t).view.emb (ix3 0 k f)) = _
  rw [e]
  exact V3 m c k f

theorem blk6 (c : Dev nD) (t : Fin cfg0.N) (f : Fin 2816) (k : Fin 1024) :
    iblk m c 6 t (ix3 0 f k) = m ((c : Thread nD τ).loc main_arg4) (ix4 1 1 f k) := by
  obtain ⟨-, -, -, -, -, -, ⟨e0, e1, e2⟩, -⟩ := idx t
  have e : ((cfg0.win 6).blk t).view.emb (ix3 0 f k) = ix3 3 f k := by
    funext a
    refine Fin.ext ?_
    fin_cases a
    · show win0_6.index t (0 : Fin 3) * 1 + 1 * (0) = 3
      omega
    · show win0_6.index t (1 : Fin 3) * 2816 + 1 * (f.val) = f.val
      omega
    · show win0_6.index t (2 : Fin 3) * 1024 + 1 * (k.val) = k.val
      omega
  show V m c main_v5 (((cfg0.win 6).blk t).view.emb (ix3 0 f k)) = _
  rw [e]
  exact V5 m c f k

theorem blk7 (c : Dev nD) (t : Fin cfg0.N) (k : Fin 1024) :
    iblk m c 7 t (ix3 0 0 k) = m ((c : Thread nD τ).loc main_arg5) (ix1 k) := by
  obtain ⟨-, -, -, -, -, -, -, ⟨e0, e1, e2⟩, -⟩ := idx t
  have e : ((cfg0.win 7).blk t).view.emb (ix3 0 0 k) = ix3 0 0 k := by
    funext a
    refine Fin.ext ?_
    fin_cases a
    · show win0_7.index t (0 : Fin 3) * 1 + 1 * (0) = 0
      omega
    · show win0_7.index t (1 : Fin 3) * 1 + 1 * (0) = 0
      omega
    · show win0_7.index t (2 : Fin 3) * 1024 + 1 * (k.val) = k.val
      omega
  show V m c main_v1 (((cfg0.win 7).blk t).view.emb (ix3 0 0 k)) = _
  rw [e]
  exact V1 m c k

/-- A block's contents, from the blocks of the arguments. -/
theorem block_eq (c : Dev nD) (t : Fin cfg0.N) (j : S1x1024x1024.Idx) :
    (k0_pay1 (k0_pay2 (iblk m c 0 t)) (k0_pay25 (mid (k0_pay3 (iblk m c 0 t) (iblk m c 4 t) (iblk m c 1 t) (iblk m c 2 t))
      (iblk m c 5 t)) (iblk m c 6 t)) (iblk m c 3 t) (iblk m c 7 t) : Vec Ideal S1x1024x1024 .f32) j
      = GG m c (ix3 (bat t) (row t (j 1)) (j 2)) := by
  obtain ⟨r, hr⟩ : ∃ r : Fin 1024, r = j 1 := ⟨_, rfl⟩
  obtain ⟨d, hd⟩ : ∃ d : Fin 1024, d = j 2 := ⟨_, rfl⟩
  have hj : j = ix3 0 r d := by
    subst hr hd
    funext a
    refine Fin.ext ?_
    fin_cases a
    · have := (j 0).isLt
      change (j 0).val < 1 at this
      show (j 0).val = 0
      omega
    · rfl
    · rfl
  rw [hj, block_apply]
  simp only [blk0, blk1, blk2, blk3, blk4, blk5, blk6, blk7]
  rfl

/-- What a grid point writes back is its block of `G`. -/
theorem flushed_eq (c : Dev nD) (t : Fin cfg0.N) :
    (dats m 0 c).flushed 8 t = ((cfg0.win 8).blk t).view.read (Elt Ideal) (GG m c) := by
  rw [flushed8_A, out_eq]
  funext j
  show _ = GG m c (((cfg0.win 8).blk t).view.emb j)
  rw [emb8]
  exact block_eq m c t j

/-- Every index of the result array is in the block of its batch and its 1024 rows. -/
theorem covered (i : S4x4096x1024.Idx) :
    ∃ t : Fin cfg0.N, (cfg0.win 8).flush t = true ∧ i ∈ ((cfg0.win 8).blk t).view.set := by
  have h0 : (i 0).val < 4 := (i 0).isLt
  have h1 : (i 1).val < 4096 := (i 1).isLt
  refine ⟨(⟨(i 0).val * 4 + (i 1).val / 1024, by show _ < 16; omega⟩ : Fin cfg0.N), flush0_8 _, ?_⟩
  have h := ((cfg0.win 8).blk (⟨(i 0).val * 4 + (i 1).val / 1024, by show _ < 16; omega⟩ : Fin cfg0.N)).view.emb_mem_set
    (ix3 0 ⟨(i 1).val % 1024, Nat.mod_lt _ (by decide)⟩ (i 2))
  rw [emb8] at h
  refine Eq.mpr (congrArg (· ∈ _) ?_) h
  funext a
  refine Fin.ext ?_
  fin_cases a
  · show (i 0).val = ((i 0).val * 4 + (i 1).val / 1024) / 4
    omega
  · show (i 1).val = ((i 0).val * 4 + (i 1).val / 1024) % 4 * 1024 + (i 1).val % 1024
    omega
  · rfl

/-- The result array after the run. -/
theorem final (c : Dev nD) : (dats m 0 c).arrAt 8 cfg0.N = GG m c :=
  (dats m 0 c).arrAt_eq_of_cover 8 (GG m c) (fun t _ => flushed_eq m c t) covered

/-- The run, with the result array at its function of the arguments. -/
theorem run : θ_run defs (onTc (τ := τ) (main (F := Ideal))) ⟨m, fun _ => 0, ρ⟩ fun r => ∀ c : Dev nD,
      r.2.mem ((c : Thread nD τ).loc main_v6) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Proof.FfnRun

end
-- ==== Proof.FfnRef.lean ====
/- The feed-forward reference, read at an index: every row of its result is `rowOut` of the row, the modulation columns
   and the weights. -/
module

public import proofs.«01_k».proof.Proof.Gen.FfnRefIdeal.Run
public import proofs.«01_k».proof.Proof.Gen.FfnRefIdeal.Read
public import proofs.«01_k».proof.Proof.FfnBlock

@[expose] public section

noncomputable section

namespace Cert.Proof.FfnRef

open Cert.FfnRefIdeal Cert.FfnRefIdeal.Gen Cert.FfnRefIdeal.Read Idealize.ShloMosaic Idealize.ShloMosaic.TcCoe Idealize.SL.Sem
open Cert.Proof.FfnBlock (rms rowOut hid mix col)

variable (x0 : Vec Ideal S4x4096x1024 .f32) (x1 : Vec Ideal S16x1x9216 .f32) (x2 : Vec Ideal S2x3x1024 .f32)
  (x3 : Vec Ideal S2x2x1024x5632 .f32) (x4 : Vec Ideal S2x2x2816x1024 .f32) (x5 : Vec Ideal S1024 .f32)

/-- The modulation columns. -/
theorem mod_apply (k : Fin 9) (b : Fin 4) (d : Fin 1024) : val_main_v3 (F := Ideal) x1 (ix4 b k 0 d) = col x1 k b d := by
  pointwise [val_main_v0, val_main_v1, val_main_v2, val_main_v3, col]

/-- The normalized and modulated row. -/
theorem norm_apply (b : Fin 4) (r : Fin 4096) (d : Fin 1024) :
    val_main_v30 (F := Ideal) x0 x1 x2 (ix3 b r d)
      = rms (fun k => x0 (ix3 b r k)) (fun k => x2 (ix3 1 2 k)) d * (1 + col x1 7 b d) + col x1 6 b d := by
  have h7 := mod_apply x1 7 b d
  have h6 := mod_apply x1 6 b d
  pointwise [val_main_v4, val_main_v5, val_main_v6, val_main_v7, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, rms]
  simp only [h6, h7]

/-- The hidden entries. -/
theorem hid_apply (b : Fin 4) (r : Fin 4096) (f : Fin 2816) :
    val_main_v37 (F := Ideal) x0 x1 x2 x3 (ix3 b r f)
      = hid (fun k => rms (fun k => x0 (ix3 b r k)) (fun k => x2 (ix3 1 2 k)) k * (1 + col x1 7 b k) + col x1 6 b k)
          (fun k f => x3 (ix4 1 1 k f)) f := by
  have h := norm_apply x0 x1 x2 b r
  pointwise [val_main_v31, val_main_v32, val_main_v33, val_main_v34, val_main_v35, val_main_v36, val_main_v37, val_main_call0_v0, val_main_call0_v1, val_main_call0_v2, val_main_call0_v3, val_main_call0_v4, val_main_call0_v5, val_main_call0_cst, val_main_call0_cst_0, hid]
  simp only [h]

/-- The entries before the last normalization. -/
theorem mix_apply (b : Fin 4) (r : Fin 4096) (d : Fin 1024) :
    val_main_v45 (F := Ideal) x0 x1 x2 x3 x4 (ix3 b r d)
      = mix (fun k => x0 (ix3 b r k)) (fun k => x2 (ix3 1 2 k)) (col x1 6 b) (col x1 7 b) (col x1 8 b)
          (fun k f => x3 (ix4 1 1 k f)) (fun f k => x4 (ix4 1 1 f k)) d := by
  have h := hid_apply x0 x1 x2 x3 b r
  have h8 := mod_apply x1 8 b
  pointwise [val_main_v8, val_main_v9, val_main_v38, val_main_v39, val_main_v40, val_main_v41, val_main_v42, val_main_v43, val_main_v44, val_main_v45, val_main_cst_3, mix]
  simp only [h, h8]

/-- The result's entries. -/
theorem out_apply (b : Fin 4) (r : Fin 4096) (d : Fin 1024) :
    val_main_v58 (F := Ideal) x0 x1 x2 x3 x4 x5 (ix3 b r d)
      = rowOut (fun k => x0 (ix3 b r k)) (fun k => x2 (ix3 1 2 k)) (col x1 6 b) (col x1 7 b) (col x1 8 b)
          (fun k => x5 (ix1 k)) (fun k f => x3 (ix4 1 1 k f)) (fun f k => x4 (ix4 1 1 f k)) d := by
  have h := mix_apply x0 x1 x2 x3 x4 b r
  pointwise [val_main_v46, val_main_v47, val_main_v48, val_main_v49, val_main_v50, val_main_v51, val_main_v52, val_main_v53, val_main_v54, val_main_v55, val_main_v56, val_main_v57, val_main_v58, val_main_cst_4, val_main_cst_5, val_main_cst_6, rowOut, rms]
  simp only [h]

end Cert.Proof.FfnRef

end
-- ==== Proof.FfnClaim.lean ====
/- The feed-forward claims: the kernel's run and the reference's run end with the same result array, and the reference's
   frame. -/
module

public import proofs.«01_k».proof.Defs
public import proofs.«01_k».proof.Proof.FfnRun
public import proofs.«01_k».proof.Proof.FfnRef
public import Idealize.ShloMosaic.Adequacy

@[expose] public section

noncomputable section

namespace Cert.Proof.FfnClaim

open Idealize.ShloMosaic Idealize.ShloMosaic.TcCoe Idealize.SL.Sem

/-- The reference's result is `G` of its arguments. -/
theorem ref_eq (x0 : Vec Ideal Cert.FfnIdeal.S4x4096x1024 .f32) (x1 : Vec Ideal Cert.FfnIdeal.S16x1x9216 .f32)
    (x2 : Vec Ideal Cert.FfnIdeal.S2x3x1024 .f32) (x3 : Vec Ideal Cert.FfnIdeal.S2x2x1024x5632 .f32)
    (x4 : Vec Ideal Cert.FfnIdeal.S2x2x2816x1024 .f32) (x5 : Vec Ideal Cert.FfnIdeal.S1024 .f32) :
    Cert.FfnRefIdeal.Read.val_main_v58 (F := Ideal) x0 x1 x2 x3 x4 x5 = FfnRun.G x0 x1 x2 x3 x4 x5 := by
  funext i
  idx_vars i
  exact FfnRef.out_apply x0 x1 x2 x3 x4 x5 _ _ _

theorem ref_frame : Cert.quiescent_FfnRefIdeal := fun m ρ _ =>
  (θ_run _ _ _).mono (fun r h => ⟨fun c => (h c).2, sem_eq_zero_of_no_sems (by decide) r.2⟩) (Cert.FfnRefIdeal.Value.run m ρ)

theorem algebraic : Cert.algebraic_FfnIdeal_FfnRefIdeal := by
  intro m g m' g' _ hm
  refine ⟨fun c => FfnRun.GG m c, FfnRun.run m g, ?_⟩
  refine (θ_run _ _ _).mono (fun r h c => ⟨(h c).1.trans ?_, (h c).2⟩) (Cert.FfnRefIdeal.Value.run m' g')
  obtain ⟨h0, h1, h2, h3, h4, h5⟩ := hm c
  rw [Cert.FfnRefIdeal.Read.val_main_v58_eq, ref_eq, h0, h1, h2, h3, h4, h5]
  rfl

end Cert.Proof.FfnClaim

end
-- ==== Proof.FfnMidBlock.lean ====
/- What one block of the feed-forward sub-layer without the final norm computes: the row function `mix` of its row
   (`block_apply`). Its hidden entries are those of `FfnBlock`. -/
module

public import proofs.«01_k».proof.Proof.Gen.FfnMidIdeal.Value
public import proofs.«01_k».proof.Proof.FfnBlock

@[expose] public section

set_option maxRecDepth 16384

noncomputable section

namespace Cert.Proof.FfnMidBlock

open Cert.FfnMidIdeal Cert.FfnMidIdeal.Gen Cert.FfnMidIdeal.Value Idealize.ShloMosaic Idealize.ShloMosaic.TcCoe Idealize.SL.Sem
open Idealize.ShloMosaic.Tactic
open Cert.Proof.FfnBlock (mid mix chunk mid_apply)

/-- What a grid point's run leaves in the output's staging buffer. -/
theorem out_eq (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1x1x1024 .f32) (harg9 : arg9.IsWhole) (arg10 : Memref sig .tc .vmem S1x1024x1024 .f32) (harg10 : arg10.IsWhole) (arg11 : Memref sig .tc .vmem S1024x2816 .bf16) (harg11 : arg11.IsWhole)
    (x0 : Vec Ideal S1x1024x1024 .f32) (x1 : Vec Ideal S1x1x1024 .f32) (x2 : Vec Ideal S1x1x1024 .f32) (x3 : Vec Ideal S1x1x1024 .f32) (x4 : Vec Ideal S1x1x1024 .f32) (x5 : Vec Ideal S1x1024x5632 .bf16) (x6 : Vec Ideal S1x2816x1024 .bf16) (x7 : Vec Ideal S1x1x1024 .f32) :
    out0_A_8 c i arg2 harg2 arg3 harg3 arg4 harg4 arg5 harg5 arg6 harg6 arg7 harg7 arg8 harg8 arg9 harg9 arg10 harg10 arg11 harg11 x0 x1 x2 x3 x4 x5 x6 x7 = k0_pay1 (k0_pay2 x0) (k0_pay25 (mid (k0_pay3 x0 x4 x1 x2) x5) x6) x3 := by
  have hz : (![0, 0, 0] : Fin 3 → Nat) = fun _ => 0 := funext fun a => by fin_cases a <;> rfl
  have hz2 : (![0, 0] : Fin 2 → Nat) = fun _ => 0 := funext fun a => by fin_cases a <;> rfl
  unfold out0_A_8
  rw [View.read_writes_junk_eq_canon]
  unfold kernelRun0_A
  dsimp only
  rw [View.canon_unit_zero hz]
  sl_unfold_words
  simp only [View.readAt_eq_ld, harg2.read_unread, harg3.read_unread, harg4.read_unread, harg5.read_unread, harg6.read_unread, harg7.read_unread, harg8.read_unread, harg9.read_unread]
  rw [View.ld_unit_zero hz, View.ld_unit_zero hz, View.ld_unit_zero hz, View.ld_unit_zero hz, View.ld_unit_zero hz, View.ld_unit_zero hz]
  congr 1
  congr 1
  rw [View.readCov_eq_canon_ld (Val := Elt Ideal) arg11.view _ _ (by
    intro y
    exact View.cover_of_tiledL (s := S1024x2816) _ ![1024, 256] (by sl_kernel_rfl) y)]
  rw [View.ld_unit_zero hz2]
  funext y
  refine View.canon_apply_of_pieces (mid (k0_pay3 x0 x4 x1 x2) x5) _ ?_ y (View.cover_of_tiledL (s := S1024x2816) _ ![1024, 256] (by sl_kernel_rfl) y)
  intro p hp x
  simp only [List.mem_cons, List.not_mem_nil, or_false] at hp
  rcases hp with rfl | rfl | rfl | rfl | rfl | rfl | rfl | rfl | rfl | rfl | rfl
  all_goals exact chunk _ x5 _ _ (by decide) (by decide) _ _ (by decide) x

/-- A block's entry is the sub-layer on its row. -/
theorem block_apply (x0 : Vec Ideal S1x1024x1024 .f32) (x1 x2 x3 x4 : Vec Ideal S1x1x1024 .f32)
    (x5 : Vec Ideal S1x1024x5632 .bf16) (x6 : Vec Ideal S1x2816x1024 .bf16) (r d : Fin 1024) :
    k0_pay1 (k0_pay2 x0) (k0_pay25 (mid (k0_pay3 x0 x4 x1 x2) x5) x6) x3 (ix3 0 r d)
      = mix (fun k => x0 (ix3 0 r k)) (fun k => x4 (ix3 0 0 k)) (fun k => x1 (ix3 0 0 k)) (fun k => x2 (ix3 0 0 k))
          (fun k => x3 (ix3 0 0 k)) (fun k f => x5 (ix3 0 k f)) (fun f k => x6 (ix3 0 f k)) d := by
  have hM := mid_apply x0 x1 x2 x4 x5 r
  change ∀ f, mid (k0_pay3 x0 x4 x1 x2) x5 (ix2 r f) = _ at hM
  generalize mid (k0_pay3 x0 x4 x1 x2) x5 = H at hM ⊢
  pointwise [k0_pay1, k0_pay2, k0_pay25, mix]
  simp only [hM]

end Cert.Proof.FfnMidBlock

end
-- ==== Proof.FfnMidRef.lean ====
/- The reference of the feed-forward without the final norm, read at an index: every row of its result is `mix` of the row, the modulation columns
   and the weights. -/
module

public import proofs.«01_k».proof.Proof.Gen.FfnMidRefIdeal.Run
public import proofs.«01_k».proof.Proof.Gen.FfnMidRefIdeal.Read
public import proofs.«01_k».proof.Proof.FfnBlock

@[expose] public section

noncomputable section

namespace Cert.Proof.FfnMidRef

open Cert.FfnMidRefIdeal Cert.FfnMidRefIdeal.Gen Cert.FfnMidRefIdeal.Read Idealize.ShloMosaic Idealize.ShloMosaic.TcCoe Idealize.SL.Sem
open Cert.Proof.FfnBlock (rms hid mix)

/-- Column `k` of the first layer's modulation of batch `b`. -/
def col0 (x1 : Vec Ideal S16x1x9216 .f32) (k : Fin 9) (b : Fin 4) (d : Fin 1024) : EReal :=
  x1 (ix3 ⟨b.val, by omega⟩ 0 ⟨k.val * 1024 + d.val, by omega⟩)

variable (x0 : Vec Ideal S4x4096x1024 .f32) (x1 : Vec Ideal S16x1x9216 .f32) (x2 : Vec Ideal S2x3x1024 .f32)
  (x3 : Vec Ideal S2x2x1024x5632 .f32) (x4 : Vec Ideal S2x2x2816x1024 .f32) (x5 : Vec Ideal S1024 .f32)

/-- The modulation columns. -/
theorem mod_apply (k : Fin 9) (b : Fin 4) (d : Fin 1024) : val_main_v3 (F := Ideal) x1 (ix4 b k 0 d) = col0 x1 k b d := by
  pointwise [val_main_v0, val_main_v1, val_main_v2, val_main_v3, col0]

/-- The normalized and modulated row. -/
theorem norm_apply (b : Fin 4) (r : Fin 4096) (d : Fin 1024) :
    val_main_v30 (F := Ideal) x0 x1 x2 (ix3 b r d)
      = rms (fun k => x0 (ix3 b r k)) (fun k => x2 (ix3 0 0 k)) d * (1 + col0 x1 1 b d) + col0 x1 0 b d := by
  have h7 := mod_apply x1 1 b d
  have h6 := mod_apply x1 0 b d
  pointwise [val_main_v4, val_main_v5, val_main_v6, val_main_v7, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, rms]
  simp only [h6, h7]

/-- The hidden entries. -/
theorem hid_apply (b : Fin 4) (r : Fin 4096) (f : Fin 2816) :
    val_main_v37 (F := Ideal) x0 x1 x2 x3 (ix3 b r f)
      = hid (fun k => rms (fun k => x0 (ix3 b r k)) (fun k => x2 (ix3 0 0 k)) k * (1 + col0 x1 1 b k) + col0 x1 0 b k)
          (fun k f => x3 (ix4 0 0 k f)) f := by
  have h := norm_apply x0 x1 x2 b r
  pointwise [val_main_v31, val_main_v32, val_main_v33, val_main_v34, val_main_v35, val_main_v36, val_main_v37, val_main_call0_v0, val_main_call0_v1, val_main_call0_v2, val_main_call0_v3, val_main_call0_v4, val_main_call0_v5, val_main_call0_cst, val_main_call0_cst_0, hid]
  simp only [h]

/-- The result's entries. -/
theorem mix_apply (b : Fin 4) (r : Fin 4096) (d : Fin 1024) :
    val_main_v45 (F := Ideal) x0 x1 x2 x3 x4 (ix3 b r d)
      = mix (fun k => x0 (ix3 b r k)) (fun k => x2 (ix3 0 0 k)) (col0 x1 0 b) (col0 x1 1 b) (col0 x1 2 b)
          (fun k f => x3 (ix4 0 0 k f)) (fun f k => x4 (ix4 0 0 f k)) d := by
  have h := hid_apply x0 x1 x2 x3 b r
  have h8 := mod_apply x1 2 b
  pointwise [val_main_v8, val_main_v9, val_main_v38, val_main_v39, val_main_v40, val_main_v41, val_main_v42, val_main_v43, val_main_v44, val_main_v45, val_main_cst_3, mix]
  simp only [h, h8]

end Cert.Proof.FfnMidRef

end
-- ==== Proof.FfnMidRun.lean ====
/- The result array of the feed-forward without the final norm as one function of its arguments: each of the sixteen
   blocks is 1024 rows of it (`flushed_eq`), the blocks cover it, and every row is `mix` of its row (`G`). -/
module

public import proofs.«01_k».proof.Proof.FfnMidBlock
public import proofs.«01_k».proof.Proof.FfnMidRef
public import Idealize.ShloMosaic.Lib.StableHlo.ReadAt

@[expose] public section

noncomputable section

namespace Cert.Proof.FfnMidRun

open Cert.FfnMidIdeal Cert.FfnMidIdeal.Gen Cert.FfnMidIdeal.Value Idealize.ShloMosaic Idealize.ShloMosaic.TcCoe Idealize.SL.Sem
open Cert.Proof.FfnBlock (mid mix)
open Cert.Proof.FfnMidBlock
open Cert.Proof.FfnMidRef (col0)

/-- The result array as one function of the first five arguments. -/
def G (x0 : Vec Ideal S4x4096x1024 .f32) (x1 : Vec Ideal S16x1x9216 .f32) (x2 : Vec Ideal S2x3x1024 .f32)
    (x3 : Vec Ideal S2x2x1024x5632 .f32) (x4 : Vec Ideal S2x2x2816x1024 .f32) : Vec Ideal S4x4096x1024 .f32 := fun i =>
  mix (fun k => x0 (ix3 (i 0) (i 1) k)) (fun k => x2 (ix3 0 0 k)) (col0 x1 0 (i 0)) (col0 x1 1 (i 0)) (col0 x1 2 (i 0))
    (fun k f => x3 (ix4 0 0 k f)) (fun f k => x4 (ix4 0 0 f k)) (i 2)

variable (m : (ℓ : Loc nD τ sig) → Buf (Elt Ideal) ℓ) (ρ : Dev nD → PrngReg)

/-- Two indices of a three-axis array with the same coordinates are one. -/
theorem ext3 {s : Fin 3 → Nat} {x y : ∀ a, Fin (s a)} (h0 : (x 0).val = (y 0).val) (h1 : (x 1).val = (y 1).val)
    (h2 : (x 2).val = (y 2).val) : x = y := by
  funext a
  refine Fin.ext ?_
  fin_cases a
  · exact h0
  · exact h1
  · exact h2

/-- Grid point `t`'s block indices: batch `t / 4`, rows `t % 4`; the modulation columns 0, 1 and 2; first weights. -/
theorem idx : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 1)
    ∧ (win0_3.index t (0 : Fin 3) = t.val / 4 ∧ win0_3.index t (1 : Fin 3) = 0 ∧ win0_3.index t (2 : Fin 3) = 2)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_8.index t (0 : Fin 3) = t.val / 4 ∧ win0_8.index t (1 : Fin 3) = t.val % 4 ∧ win0_8.index t (2 : Fin 3) = 0) :=
  (by decide +kernel : ∀ t : Fin grid0.N, _)

theorem lt16 (t : Fin cfg0.N) : t.val < 16 := t.isLt

/-- The batch of a grid point, and the array row of row `r` of its block. -/
def bat (t : Fin cfg0.N) : Fin 4 := ⟨t.val / 4, by have := lt16 t; omega⟩
def row (t : Fin cfg0.N) (r : Fin 1024) : Fin 4096 := ⟨t.val % 4 * 1024 + r.val, by have := r.isLt; omega⟩

/-- The result array as a function of the arguments as launched. -/
def GG (c : Dev nD) : Vec Ideal S4x4096x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- Where the output window's block lies in the result array. -/
theorem emb8 (t : Fin cfg0.N) (j : S1x1024x1024.Idx) :
    ((cfg0.win 8).blk t).view.emb j = ix3 (bat t) (row t (j 1)) (j 2) := by
  obtain ⟨-, -, -, -, -, -, -, e0, e1, e2⟩ := idx t
  have h0 : (j 0).val < 1 := (j 0).isLt
  refine ext3 ?_ ?_ ?_
  · show win0_8.index t (0 : Fin 3) * 1 + 1 * (j 0).val = t.val / 4
    omega
  · show win0_8.index t (1 : Fin 3) * 1024 + 1 * (j 1).val = t.val % 4 * 1024 + (j 1).val
    omega
  · show win0_8.index t (2 : Fin 3) * 1024 + 1 * (j 2).val = (j 2).val
    omega

/-! What the host operations leave in the weight arrays that the kernel reads. -/

theorem V0 (c : Dev nD) (k : Fin 1024) : V m c main_v0 (ix3 0 0 k) = m ((c : Thread nD τ).loc main_arg2) (ix3 0 0 k) := by
  unfold V
  after_reads_at

theorem V3 (c : Dev nD) (k : Fin 1024) (f : Fin 5632) :
    V m c main_v3 (ix3 0 k f) = m ((c : Thread nD τ).loc main_arg3) (ix4 0 0 k f) := by
  unfold V
  after_reads_at

theorem V5 (c : Dev nD) (f : Fin 2816) (k : Fin 1024) :
    V m c main_v5 (ix3 0 f k) = m ((c : Thread nD τ).loc main_arg4) (ix4 0 0 f k) := by
  unfold V
  after_reads_at

/-! Each input window's block, read at an index, as an element of an argument. -/

theorem blk0 (c : Dev nD) (t : Fin cfg0.N) (r k : Fin 1024) :
    iblk m c 0 t (ix3 0 r k) = m ((c : Thread nD τ).loc main_arg0) (ix3 (bat t) (row t r) k) := by
  obtain ⟨⟨e0, e1, e2⟩, -⟩ := idx t
  have e : ((cfg0.win 0).blk t).view.emb (ix3 0 r k) = ix3 (bat t) (row t r) k := by
    refine ext3 ?_ ?_ ?_
    · show win0_0.index t (0 : Fin 3) * 1 + 1 * (0) = t.val / 4
      omega
    · show win0_0.index t (1 : Fin 3) * 1024 + 1 * (r.val) = t.val % 4 * 1024 + r.val
      omega
    · show win0_0.index t (2 : Fin 3) * 1024 + 1 * (k.val) = k.val
      omega
  show V m c main_arg0 (((cfg0.win 0).blk t).view.emb (ix3 0 r k)) = _
  rw [e]
  exact congrFun (V_main_arg0 m c) _

theorem blk1 (c : Dev nD) (t : Fin cfg0.N) (k : Fin 1024) :
    iblk m c 1 t (ix3 0 0 k) = col0 (m ((c : Thread nD τ).loc main_arg1)) 0 (bat t) k := by
  obtain ⟨-, ⟨e0, e1, e2⟩, -⟩ := idx t
  have e : ((cfg0.win 1).blk t).view.emb (ix3 0 0 k) = ix3 ⟨(bat t).val, by have := (bat t).isLt; omega⟩ 0 ⟨(0 : Fin 9).val * 1024 + k.val, by have := k.isLt; have : (0 : Fin 9).val = 0 := rfl; omega⟩ := by
    refine ext3 ?_ ?_ ?_
    · show win0_1.index t (0 : Fin 3) * 1 + 1 * (0) = t.val / 4
      omega
    · show win0_1.index t (1 : Fin 3) * 1 + 1 * (0) = 0
      omega
    · show win0_1.index t (2 : Fin 3) * 1024 + 1 * (k.val) = 0 * 1024 + k.val
      omega
  show V m c main_arg1 (((cfg0.win 1).blk t).view.emb (ix3 0 0 k)) = _
  rw [e]
  exact congrFun (V_main_arg1 m c) _

theorem blk2 (c : Dev nD) (t : Fin cfg0.N) (k : Fin 1024) :
    iblk m c 2 t (ix3 0 0 k) = col0 (m ((c : Thread nD τ).loc main_arg1)) 1 (bat t) k := by
  obtain ⟨-, -, ⟨e0, e1, e2⟩, -⟩ := idx t
  have e : ((cfg0.win 2).blk t).view.emb (ix3 0 0 k) = ix3 ⟨(bat t).val, by have := (bat t).isLt; omega⟩ 0 ⟨(1 : Fin 9).val * 1024 + k.val, by have := k.isLt; have : (1 : Fin 9).val = 1 := rfl; omega⟩ := by
    refine ext3 ?_ ?_ ?_
    · show win0_2.index t (0 : Fin 3) * 1 + 1 * (0) = t.val / 4
      omega
    · show win0_2.index t (1 : Fin 3) * 1 + 1 * (0) = 0
      omega
    · show win0_2.index t (2 : Fin 3) * 1024 + 1 * (k.val) = 1 * 1024 + k.val
      omega
  show V m c main_arg1 (((cfg0.win 2).blk t).view.emb (ix3 0 0 k)) = _
  rw [e]
  exact congrFun (V_main_arg1 m c) _

theorem blk3 (c : Dev nD) (t : Fin cfg0.N) (k : Fin 1024) :
    iblk m c 3 t (ix3 0 0 k) = col0 (m ((c : Thread nD τ).loc main_arg1)) 2 (bat t) k := by
  obtain ⟨-, -, -, ⟨e0, e1, e2⟩, -⟩ := idx t
  have e : ((cfg0.win 3).blk t).view.emb (ix3 0 0 k) = ix3 ⟨(bat t).val, by have := (bat t).isLt; omega⟩ 0 ⟨(2 : Fin 9).val * 1024 + k.val, by have := k.isLt; have : (2 : Fin 9).val = 2 := rfl; omega⟩ := by
    refine ext3 ?_ ?_ ?_
    · show win0_3.index t (0 : Fin 3) * 1 + 1 * (0) = t.val / 4
      omega
    · show win0_3.index t (1 : Fin 3) * 1 + 1 * (0) = 0
      omega
    · show win0_3.index t (2 : Fin 3) * 1024 + 1 * (k.val) = 2 * 1024 + k.val
      omega
  show V m c main_arg1 (((cfg0.win 3).blk t).view.emb (ix3 0 0 k)) = _
  rw [e]
  exact congrFun (V_main_arg1 m c) _

theorem blk4 (c : Dev nD) (t : Fin cfg0.N) (k : Fin 1024) :
    iblk m c 4 t (ix3 0 0 k) = m ((c : Thread nD τ).loc main_arg2) (ix3 0 0 k) := by
  obtain ⟨-, -, -, -, ⟨e0, e1, e2⟩, -⟩ := idx t
  have e : ((cfg0.win 4).blk t).view.emb (ix3 0 0 k) = ix3 0 0 k := by
    refine ext3 ?_ ?_ ?_
    · show win0_4.index t (0 : Fin 3) * 1 + 1 * (0) = 0
      omega
    · show win0_4.index t (1 : Fin 3) * 1 + 1 * (0) = 0
      omega
    · show win0_4.index t (2 : Fin 3) * 1024 + 1 * (k.val) = k.val
      omega
  show V m c main_v0 (((cfg0.win 4).blk t).view.emb (ix3 0 0 k)) = _
  rw [e]
  exact V0 m c k

theorem blk5 (c : Dev nD) (t : Fin cfg0.N) (k : Fin 1024) (f : Fin 5632) :
    iblk m c 5 t (ix3 0 k f) = m ((c : Thread nD τ).loc main_arg3) (ix4 0 0 k f) := by
  obtain ⟨-, -, -, -, -, ⟨e0, e1, e2⟩, -⟩ := idx t
  have e : ((cfg0.win 5).blk t).view.emb (ix3 0 k f) = ix3 0 k f := by
    refine ext3 ?_ ?_ ?_
    · show win0_5.index t (0 : Fin 3) * 1 + 1 * (0) = 0
      omega
    · show win0_5.index t (1 : Fin 3) * 1024 + 1 * (k.val) = k.val
      omega
    · show win0_5.index t (2 : Fin 3) * 5632 + 1 * (f.val) = f.val
      omega
  show V m c main_v3 (((cfg0.win 5).blk t).view.emb (ix3 0 k f)) = _
  rw [e]
  exact V3 m c k f

theorem blk6 (c : Dev nD) (t : Fin cfg0.N) (f : Fin 2816) (k : Fin 1024) :
    iblk m c 6 t (ix3 0 f k) = m ((c : Thread nD τ).loc main_arg4) (ix4 0 0 f k) := by
  obtain ⟨-, -, -, -, -, -, ⟨e0, e1, e2⟩, -⟩ := idx t
  have e : ((cfg0.win 6).blk t).view.emb (ix3 0 f k) = ix3 0 f k := by
    refine ext3 ?_ ?_ ?_
    · show win0_6.index t (0 : Fin 3) * 1 + 1 * (0) = 0
      omega
    · show win0_6.index t (1 : Fin 3) * 2816 + 1 * (f.val) = f.val
      omega
    · show win0_6.index t (2 : Fin 3) * 1024 + 1 * (k.val) = k.val
      omega
  show V m c main_v5 (((cfg0.win 6).blk t).view.emb (ix3 0 f k)) = _
  rw [e]
  exact V5 m c f k

/-- A block's contents, from the blocks of the arguments. -/
theorem block_eq (c : Dev nD) (t : Fin cfg0.N) (j : S1x1024x1024.Idx) :
    (k0_pay1 (k0_pay2 (iblk m c 0 t)) (k0_pay25 (mid (k0_pay3 (iblk m c 0 t) (iblk m c 4 t) (iblk m c 1 t) (iblk m c 2 t))
      (iblk m c 5 t)) (iblk m c 6 t)) (iblk m c 3 t) : Vec Ideal S1x1024x1024 .f32) j
      = GG m c (ix3 (bat t) (row t (j 1)) (j 2)) := by
  obtain ⟨r, hr⟩ : ∃ r : Fin 1024, r = j 1 := ⟨_, rfl⟩
  obtain ⟨d, hd⟩ : ∃ d : Fin 1024, d = j 2 := ⟨_, rfl⟩
  have hj : j = ix3 0 r d := by
    subst hr hd
    funext a
    refine Fin.ext ?_
    fin_cases a
    · have := (j 0).isLt
      change (j 0).val < 1 at this
      show (j 0).val = 0
      omega
    · rfl
    · rfl
  rw [hj, block_apply]
  simp only [blk0, blk1, blk2, blk3, blk4, blk5, blk6]
  rfl

/-- What a grid point writes back is its block of `G`. -/
theorem flushed_eq (c : Dev nD) (t : Fin cfg0.N) :
    (dats m 0 c).flushed 8 t = ((cfg0.win 8).blk t).view.read (Elt Ideal) (GG m c) := by
  rw [flushed8_A, out_eq]
  funext j
  show _ = GG m c (((cfg0.win 8).blk t).view.emb j)
  rw [emb8]
  exact block_eq m c t j

/-- Every index of the result array is in the block of its batch and its 1024 rows. -/
theorem covered (i : S4x4096x1024.Idx) :
    ∃ t : Fin cfg0.N, (cfg0.win 8).flush t = true ∧ i ∈ ((cfg0.win 8).blk t).view.set := by
  have h0 : (i 0).val < 4 := (i 0).isLt
  have h1 : (i 1).val < 4096 := (i 1).isLt
  refine ⟨(⟨(i 0).val * 4 + (i 1).val / 1024, by show _ < 16; omega⟩ : Fin cfg0.N), flush0_8 _, ?_⟩
  have h := ((cfg0.win 8).blk (⟨(i 0).val * 4 + (i 1).val / 1024, by show _ < 16; omega⟩ : Fin cfg0.N)).view.emb_mem_set
    (ix3 0 ⟨(i 1).val % 1024, Nat.mod_lt _ (by decide)⟩ (i 2))
  rw [emb8] at h
  refine Eq.mpr (congrArg (· ∈ _) ?_) h
  funext a
  refine Fin.ext ?_
  fin_cases a
  · show (i 0).val = ((i 0).val * 4 + (i 1).val / 1024) / 4
    omega
  · show (i 1).val = ((i 0).val * 4 + (i 1).val / 1024) % 4 * 1024 + (i 1).val % 1024
    omega
  · rfl

/-- The result array after the run. -/
theorem final (c : Dev nD) : (dats m 0 c).arrAt 8 cfg0.N = GG m c :=
  (dats m 0 c).arrAt_eq_of_cover 8 (GG m c) (fun t _ => flushed_eq m c t) covered

/-- The run, with the result array at its function of the arguments. -/
theorem run : θ_run defs (onTc (τ := τ) (main (F := Ideal))) ⟨m, fun _ => 0, ρ⟩ fun r => ∀ c : Dev nD,
      r.2.mem ((c : Thread nD τ).loc main_v6) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Proof.FfnMidRun

end
-- ==== Proof.FfnMidClaim.lean ====
/- The claims of the feed-forward without the final norm: the kernel's run and the reference's run end with the same result array, and the reference's
   frame. -/
module

public import proofs.«01_k».proof.Defs
public import proofs.«01_k».proof.Proof.FfnMidRun
public import proofs.«01_k».proof.Proof.FfnMidRef
public import Idealize.ShloMosaic.Adequacy

@[expose] public section

noncomputable section

namespace Cert.Proof.FfnMidClaim

open Idealize.ShloMosaic Idealize.ShloMosaic.TcCoe Idealize.SL.Sem

/-- The reference's result is `G` of its arguments. -/
theorem ref_eq (x0 : Vec Ideal Cert.FfnMidIdeal.S4x4096x1024 .f32) (x1 : Vec Ideal Cert.FfnMidIdeal.S16x1x9216 .f32)
    (x2 : Vec Ideal Cert.FfnMidIdeal.S2x3x1024 .f32) (x3 : Vec Ideal Cert.FfnMidIdeal.S2x2x1024x5632 .f32)
    (x4 : Vec Ideal Cert.FfnMidIdeal.S2x2x2816x1024 .f32) :
    Cert.FfnMidRefIdeal.Read.val_main_v45 (F := Ideal) x0 x1 x2 x3 x4 = FfnMidRun.G x0 x1 x2 x3 x4 := by
  funext i
  idx_vars i
  exact FfnMidRef.mix_apply x0 x1 x2 x3 x4 _ _ _

theorem ref_frame : Cert.quiescent_FfnMidRefIdeal := fun m ρ _ =>
  (θ_run _ _ _).mono (fun r h => ⟨fun c => (h c).2, sem_eq_zero_of_no_sems (by decide) r.2⟩) (Cert.FfnMidRefIdeal.Value.run m ρ)

theorem algebraic : Cert.algebraic_FfnMidIdeal_FfnMidRefIdeal := by
  intro m g m' g' _ hm
  refine ⟨fun c => FfnMidRun.GG m c, FfnMidRun.run m g, ?_⟩
  refine (θ_run _ _ _).mono (fun r h c => ⟨(h c).1.trans ?_, (h c).2⟩) (Cert.FfnMidRefIdeal.Value.run m' g')
  obtain ⟨h0, h1, h2, h3, h4, -⟩ := hm c
  rw [Cert.FfnMidRefIdeal.Read.val_main_v45_eq, ref_eq, h0, h1, h2, h3, h4]
  rfl

end Cert.Proof.FfnMidClaim

end
-- ==== Proof.ProjRun.lean ====
/- The mixer's input projection: the kernel's blocks and the reference, both read at an index as `proj` — the normalized and
   modulated row times a column of the weights; the first 1024 columns are one result, the other 1536 the second. -/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import proofs.«01_k».proof.Proof.FfnMidRun
public import Idealize.ShloMosaic.Adequacy

@[expose] public section

set_option maxRecDepth 16384

noncomputable section

namespace Cert.Proof.Proj

open Idealize.ShloMosaic Idealize.ShloMosaic.TcCoe Idealize.SL.Sem
open Cert.ProjIdeal Cert.ProjIdeal.Gen Cert.ProjIdeal.Value
open Cert.Proof.FfnBlock (rms)
open Cert.Proof.FfnMidRef (col0)
open Cert.Proof.FfnMidRun (ext3)

/-- A row divided by its root mean square, weighted by `g`, scaled and shifted. -/
def hn (x g sh sc : Fin 1024 → EReal) (k : Fin 1024) : EReal := rms x g k * (1 + sc k) + sh k

/-- Entry `f` of row `r` of batch `b`, projected. -/
def proj (x0 : Vec Ideal S4x4096x1024 .f32) (x1 : Vec Ideal S16x1x9216 .f32) (x2 : Vec Ideal S2x3x1024 .f32)
    (x3 : Vec Ideal S1x1024x2560 .f32) (b : Fin 4) (r : Fin 4096) (f : Fin 2560) : EReal :=
  ∑ k : Fin 1024, hn (fun k => x0 (ix3 b r k)) (fun k => x2 (ix3 0 1 k)) (col0 x1 3 b) (col0 x1 4 b) k * x3 (ix3 0 k f)

/-- The two result arrays as functions of the arguments. -/
def Gu (x0 : Vec Ideal S4x4096x1024 .f32) (x1 : Vec Ideal S16x1x9216 .f32) (x2 : Vec Ideal S2x3x1024 .f32)
    (x3 : Vec Ideal S1x1024x2560 .f32) : Vec Ideal S4x4096x1024 .f32 := fun i =>
  proj x0 x1 x2 x3 (i 0) (i 1) ⟨(i 2).val, Nat.lt_trans (i 2).isLt (by decide)⟩

def Gq (x0 : Vec Ideal S4x4096x1024 .f32) (x1 : Vec Ideal S16x1x9216 .f32) (x2 : Vec Ideal S2x3x1024 .f32)
    (x3 : Vec Ideal S1x1024x2560 .f32) : Vec Ideal S4x4096x1536 .bf16 := fun i =>
  proj x0 x1 x2 x3 (i 0) (i 1) ⟨1024 + (i 2).val, by have : (i 2).val < 1536 := (i 2).isLt; omega⟩

section Reference
open Cert.ProjRefIdeal.Read

variable (x0 : Vec Ideal S4x4096x1024 .f32) (x1 : Vec Ideal S16x1x9216 .f32) (x2 : Vec Ideal S2x3x1024 .f32)
  (x3 : Vec Ideal S1x1024x2560 .f32)

theorem mod_apply (k : Fin 9) (b : Fin 4) (d : Fin 1024) : val_main_v3 (F := Ideal) x1 (ix4 b k 0 d) = col0 x1 k b d := by
  pointwise [val_main_v0, val_main_v1, val_main_v2, val_main_v3, col0]

theorem norm_apply (b : Fin 4) (r : Fin 4096) (d : Fin 1024) :
    val_main_v28 (F := Ideal) x0 x1 x2 (ix3 b r d)
      = hn (fun k => x0 (ix3 b r k)) (fun k => x2 (ix3 0 1 k)) (col0 x1 3 b) (col0 x1 4 b) d := by
  have h3 := mod_apply x1 3 b d
  have h4 := mod_apply x1 4 b d
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, hn, rms]
  simp only [h3, h4]

theorem dot_apply (b : Fin 4) (r : Fin 4096) (f : Fin 2560) :
    val_main_v30 (F := Ideal) x0 x1 x2 x3 (ix3 b r f) = proj x0 x1 x2 x3 b r f := by
  have h := norm_apply x0 x1 x2 b r
  pointwise [val_main_v30, val_main_v29, proj]
  simp only [h]

/-- The reference's results. -/
theorem ref_u : val_main_v31 (F := Ideal) x0 x1 x2 x3 = Gu x0 x1 x2 x3 := by
  funext i
  idx_vars i
  have h := dot_apply x0 x1 x2 x3
  pointwise [val_main_v31, Gu]
  simp only [h]

theorem ref_q : val_main_v33 (F := Ideal) x0 x1 x2 x3 = Gq x0 x1 x2 x3 := by
  funext i
  idx_vars i
  have h := dot_apply x0 x1 x2 x3
  pointwise [val_main_v33, val_main_v32, Gq]
  simp only [h]

end Reference

/-- A block's normalized and modulated rows. -/
theorem rows_apply (x0 : Vec Ideal S1x1024x1024 .f32) (x1 x2 x3 : Vec Ideal S1x1x1024 .f32) (r k : Fin 1024) :
    k0_pay2 x0 x3 x1 x2 (ix2 r k)
      = hn (fun k => x0 (ix3 0 r k)) (fun k => x3 (ix3 0 0 k)) (fun k => x1 (ix3 0 0 k)) (fun k => x2 (ix3 0 0 k)) k := by
  pointwise [k0_pay2, hn, rms]

/-- A block's entries. -/
theorem u_apply (x0 : Vec Ideal S1x1024x1024 .f32) (x1 x2 x3 : Vec Ideal S1x1x1024 .f32) (x4 : Vec Ideal S1024x2560 .bf16) (r d : Fin 1024) :
    out0_5 x0 x1 x2 x3 x4 (ix3 0 r d)
      = ∑ k : Fin 1024, hn (fun k => x0 (ix3 0 r k)) (fun k => x3 (ix3 0 0 k)) (fun k => x1 (ix3 0 0 k)) (fun k => x2 (ix3 0 0 k)) k
          * x4 (ix2 k ⟨d.val, by omega⟩) := by
  have hz : (![0, 0, 0] : Fin 3 → Nat) = fun _ => 0 := funext fun a => by fin_cases a <;> rfl
  have h := rows_apply x0 x1 x2 x3 r
  unfold out0_5
  rw [View.canon_unit_zero hz, View.ld_unit_zero hz, View.ld_unit_zero hz, View.ld_unit_zero hz, View.ld_unit_zero hz]
  unfold k0_pay3
  pointwise []
  simp only [h]

theorem q_apply (x0 : Vec Ideal S1x1024x1024 .f32) (x1 x2 x3 : Vec Ideal S1x1x1024 .f32) (x4 : Vec Ideal S1024x2560 .bf16) (r : Fin 1024) (d : Fin 1536) :
    out0_6 x0 x1 x2 x3 x4 (ix3 0 r d)
      = ∑ k : Fin 1024, hn (fun k => x0 (ix3 0 r k)) (fun k => x3 (ix3 0 0 k)) (fun k => x1 (ix3 0 0 k)) (fun k => x2 (ix3 0 0 k)) k
          * x4 (ix2 k ⟨1024 + d.val, by omega⟩) := by
  have hz : (![0, 0, 0] : Fin 3 → Nat) = fun _ => 0 := funext fun a => by fin_cases a <;> rfl
  have h := rows_apply x0 x1 x2 x3 r
  unfold out0_6
  rw [View.canon_unit_zero hz, View.ld_unit_zero hz, View.ld_unit_zero hz, View.ld_unit_zero hz, View.ld_unit_zero hz]
  pointwise [k0_pay1]
  simp only [h]

variable (m : (ℓ : Loc nD τ sig) → Buf (Elt Ideal) ℓ) (ρ : Dev nD → PrngReg)

/-- Grid point `t`'s block indices: batch `t / 4`, rows `t % 4`; the modulation's columns 3 and 4; the second norm's weights. -/
theorem idx : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 3)
    ∧ (win0_2.index t (0 : Fin 3) = t.val / 4 ∧ win0_2.index t (1 : Fin 3) = 0 ∧ win0_2.index t (2 : Fin 3) = 4)
    ∧ (win0_3.index t (0 : Fin 3) = 1 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0) :=
  (by decide +kernel : ∀ t : Fin grid0.N, _)

theorem lt16 (t : Fin cfg0.N) : t.val < 16 := t.isLt

/-- The batch of a grid point, and the array row of row `r` of its block. -/
def bat (t : Fin cfg0.N) : Fin 4 := ⟨t.val / 4, by have := lt16 t; omega⟩
def row (t : Fin cfg0.N) (r : Fin 1024) : Fin 4096 := ⟨t.val % 4 * 1024 + r.val, by have := r.isLt; omega⟩

/-- The result arrays as functions of the arguments as launched. -/
def GGu (c : Dev nD) : Vec Ideal S4x4096x1024 .f32 :=
  Gu (m ((c : Thread nD τ).loc main_arg0)) (m ((c : Thread nD τ).loc main_arg1)) (m ((c : Thread nD τ).loc main_arg2))
    (m ((c : Thread nD τ).loc main_arg3))
def GGq (c : Dev nD) : Vec Ideal S4x4096x1536 .bf16 :=
  Gq (m ((c : Thread nD τ).loc main_arg0)) (m ((c : Thread nD τ).loc main_arg1)) (m ((c : Thread nD τ).loc main_arg2))
    (m ((c : Thread nD τ).loc main_arg3))

/-- Where the output windows' blocks lie in the result arrays. -/
theorem emb5 (t : Fin cfg0.N) (j : S1x1024x1024.Idx) :
    ((cfg0.win 5).blk t).view.emb j = ix3 (bat t) (row t (j 1)) (j 2) := by
  obtain ⟨-, -, -, -, -, ⟨e0, e1, e2⟩, -⟩ := idx t
  have h0 : (j 0).val < 1 := (j 0).isLt
  refine ext3 ?_ ?_ ?_
  · show win0_5.index t (0 : Fin 3) * 1 + 1 * (j 0).val = t.val / 4
    omega
  · show win0_5.index t (1 : Fin 3) * 1024 + 1 * (j 1).val = t.val % 4 * 1024 + (j 1).val
    omega
  · show win0_5.index t (2 : Fin 3) * 1024 + 1 * (j 2).val = (j 2).val
    omega

theorem emb6 (t : Fin cfg0.N) (j : S1x1024x1536.Idx) :
    ((cfg0.win 6).blk t).view.emb j = ix3 (bat t) (row t (j 1)) (j 2) := by
  obtain ⟨-, -, -, -, -, -, e0, e1, e2⟩ := idx t
  have h0 : (j 0).val < 1 := (j 0).isLt
  refine ext3 ?_ ?_ ?_
  · show win0_6.index t (0 : Fin 3) * 1 + 1 * (j 0).val = t.val / 4
    omega
  · show win0_6.index t (1 : Fin 3) * 1024 + 1 * (j 1).val = t.val % 4 * 1024 + (j 1).val
    omega
  · show win0_6.index t (2 : Fin 3) * 1536 + 1 * (j 2).val = (j 2).val
    omega

/-! What the host operations leave in the arrays that the kernel reads. -/

theorem gains (c : Dev nD) (k : Fin 1024) : V m c main_v0 (ix3 1 0 k) = m ((c : Thread nD τ).loc main_arg2) (ix3 0 1 k) := by
  unfold V
  after_reads_at

theorem weights (c : Dev nD) (k : Fin 1024) (f : Fin 2560) : V m c main_v2 (ix2 k f) = m ((c : Thread nD τ).loc main_arg3) (ix3 0 k f) := by
  unfold V
  after_reads_at

/-! Each input window's block, read at an index, as an element of an argument. -/

theorem blk0 (c : Dev nD) (t : Fin cfg0.N) (r k : Fin 1024) :
    iblk m c 0 t (ix3 0 r k) = m ((c : Thread nD τ).loc main_arg0) (ix3 (bat t) (row t r) k) := by
  obtain ⟨⟨e0, e1, e2⟩, -⟩ := idx t
  have e : ((cfg0.win 0).blk t).view.emb (ix3 0 r k) = ix3 (bat t) (row t r) k := by
    refine ext3 ?_ ?_ ?_
    · show win0_0.index t (0 : Fin 3) * 1 + 1 * (0) = t.val / 4
      omega
    · show win0_0.index t (1 : Fin 3) * 1024 + 1 * (r.val) = t.val % 4 * 1024 + r.val
      omega
    · show win0_0.index t (2 : Fin 3) * 1024 + 1 * (k.val) = k.val
      omega
  show V m c main_arg0 (((cfg0.win 0).blk t).view.emb (ix3 0 r k)) = _
  rw [e]
  exact congrFun (V_main_arg0 m c) _

theorem blk1 (c : Dev nD) (t : Fin cfg0.N) (k : Fin 1024) :
    iblk m c 1 t (ix3 0 0 k) = col0 (m ((c : Thread nD τ).loc main_arg1)) 3 (bat t) k := by
  obtain ⟨-, ⟨e0, e1, e2⟩, -⟩ := idx t
  have e : ((cfg0.win 1).blk t).view.emb (ix3 0 0 k) = ix3 ⟨(bat t).val, by have := (bat t).isLt; omega⟩ 0 ⟨(3 : Fin 9).val * 1024 + k.val, by have := k.isLt; have : (3 : Fin 9).val = 3 := rfl; omega⟩ := by
    refine ext3 ?_ ?_ ?_
    · show win0_1.index t (0 : Fin 3) * 1 + 1 * (0) = t.val / 4
      omega
    · show win0_1.index t (1 : Fin 3) * 1 + 1 * (0) = 0
      omega
    · show win0_1.index t (2 : Fin 3) * 1024 + 1 * (k.val) = 3 * 1024 + k.val
      omega
  show V m c main_arg1 (((cfg0.win 1).blk t).view.emb (ix3 0 0 k)) = _
  rw [e]
  exact congrFun (V_main_arg1 m c) _

theorem blk2 (c : Dev nD) (t : Fin cfg0.N) (k : Fin 1024) :
    iblk m c 2 t (ix3 0 0 k) = col0 (m ((c : Thread nD τ).loc main_arg1)) 4 (bat t) k := by
  obtain ⟨-, -, ⟨e0, e1, e2⟩, -⟩ := idx t
  have e : ((cfg0.win 2).blk t).view.emb (ix3 0 0 k) = ix3 ⟨(bat t).val, by have := (bat t).isLt; omega⟩ 0 ⟨(4 : Fin 9).val * 1024 + k.val, by have := k.isLt; have : (4 : Fin 9).val = 4 := rfl; omega⟩ := by
    refine ext3 ?_ ?_ ?_
    · show win0_2.index t (0 : Fin 3) * 1 + 1 * (0) = t.val / 4
      omega
    · show win0_2.index t (1 : Fin 3) * 1 + 1 * (0) = 0
      omega
    · show win0_2.index t (2 : Fin 3) * 1024 + 1 * (k.val) = 4 * 1024 + k.val
      omega
  show V m c main_arg1 (((cfg0.win 2).blk t).view.emb (ix3 0 0 k)) = _
  rw [e]
  exact congrFun (V_main_arg1 m c) _

theorem blk3 (c : Dev nD) (t : Fin cfg0.N) (k : Fin 1024) :
    iblk m c 3 t (ix3 0 0 k) = m ((c : Thread nD τ).loc main_arg2) (ix3 0 1 k) := by
  obtain ⟨-, -, -, ⟨e0, e1, e2⟩, -⟩ := idx t
  have e : ((cfg0.win 3).blk t).view.emb (ix3 0 0 k) = ix3 1 0 k := by
    refine ext3 ?_ ?_ ?_
    · show win0_3.index t (0 : Fin 3) * 1 + 1 * (0) = 1
      omega
    · show win0_3.index t (1 : Fin 3) * 1 + 1 * (0) = 0
      omega
    · show win0_3.index t (2 : Fin 3) * 1024 + 1 * (k.val) = k.val
      omega
  show V m c main_v0 (((cfg0.win 3).blk t).view.emb (ix3 0 0 k)) = _
  rw [e]
  exact gains m c k

theorem blk4 (c : Dev nD) (t : Fin cfg0.N) (k : Fin 1024) (f : Fin 2560) :
    iblk m c 4 t (ix2 k f) = m ((c : Thread nD τ).loc main_arg3) (ix3 0 k f) := by
  obtain ⟨-, -, -, -, ⟨e0, e1⟩, -⟩ := idx t
  have e : ((cfg0.win 4).blk t).view.emb (ix2 k f) = ix2 k f := by
    funext a
    refine Fin.ext ?_
    fin_cases a
    · show win0_4.index t (0 : Fin 2) * 1024 + 1 * (k.val) = k.val
      omega
    · show win0_4.index t (1 : Fin 2) * 2560 + 1 * (f.val) = f.val
      omega
  show V m c main_v2 (((cfg0.win 4).blk t).view.emb (ix2 k f)) = _
  rw [e]
  exact weights m c k f

/-- A block's contents, from the blocks of the arguments. -/
theorem block5_eq (c : Dev nD) (t : Fin cfg0.N) (j : S1x1024x1024.Idx) :
    out0_5 (iblk m c 0 t) (iblk m c 1 t) (iblk m c 2 t) (iblk m c 3 t) (iblk m c 4 t) j
      = GGu m c (ix3 (bat t) (row t (j 1)) (j 2)) := by
  obtain ⟨r, hr⟩ : ∃ r : Fin 1024, r = j 1 := ⟨_, rfl⟩
  obtain ⟨d, hd⟩ : ∃ d : Fin 1024, d = j 2 := ⟨_, rfl⟩
  have hj : j = ix3 0 r d := by
    subst hr hd
    refine ext3 ?_ rfl rfl
    have := (j 0).isLt
    change (j 0).val < 1 at this
    show (j 0).val = 0
    omega
  rw [hj, u_apply]
  simp only [blk0, blk1, blk2, blk3, blk4]
  rfl

/-- What a grid point writes back is its block of the first result. -/
theorem flushed5_eq (c : Dev nD) (t : Fin cfg0.N) :
    (dats m 0 c).flushed 5 t = ((cfg0.win 5).blk t).view.read (Elt Ideal) (GGu m c) := by
  rw [flushed5]
  funext j
  show out0_5 _ _ _ _ _ j = GGu m c (((cfg0.win 5).blk t).view.emb j)
  rw [emb5]
  exact block5_eq m c t j

/-- Every index of the first result is in the block of its batch and its 1024 rows. -/
theorem covered5 (i : S4x4096x1024.Idx) :
    ∃ t : Fin cfg0.N, (cfg0.win 5).flush t = true ∧ i ∈ ((cfg0.win 5).blk t).view.set := by
  have h0 : (i 0).val < 4 := (i 0).isLt
  have h1 : (i 1).val < 4096 := (i 1).isLt
  refine ⟨(⟨(i 0).val * 4 + (i 1).val / 1024, by show _ < 16; omega⟩ : Fin cfg0.N), flush0_5 _, ?_⟩
  have h := ((cfg0.win 5).blk (⟨(i 0).val * 4 + (i 1).val / 1024, by show _ < 16; omega⟩ : Fin cfg0.N)).view.emb_mem_set
    (ix3 0 ⟨(i 1).val % 1024, Nat.mod_lt _ (by decide)⟩ (i 2))
  rw [emb5] at h
  refine Eq.mpr (congrArg (· ∈ _) ?_) h
  refine ext3 ?_ ?_ rfl
  · show (i 0).val = ((i 0).val * 4 + (i 1).val / 1024) / 4
    omega
  · show (i 1).val = ((i 0).val * 4 + (i 1).val / 1024) % 4 * 1024 + (i 1).val % 1024
    omega

/-- The first result after the run. -/
theorem final5 (c : Dev nD) : (dats m 0 c).arrAt 5 cfg0.N = GGu m c :=
  (dats m 0 c).arrAt_eq_of_cover 5 (GGu m c) (fun t _ => flushed5_eq m c t) covered5

/-- A block's contents, from the blocks of the arguments. -/
theorem block6_eq (c : Dev nD) (t : Fin cfg0.N) (j : S1x1024x1536.Idx) :
    out0_6 (iblk m c 0 t) (iblk m c 1 t) (iblk m c 2 t) (iblk m c 3 t) (iblk m c 4 t) j
      = GGq m c (ix3 (bat t) (row t (j 1)) (j 2)) := by
  obtain ⟨r, hr⟩ : ∃ r : Fin 1024, r = j 1 := ⟨_, rfl⟩
  obtain ⟨d, hd⟩ : ∃ d : Fin 1536, d = j 2 := ⟨_, rfl⟩
  have hj : j = ix3 0 r d := by
    subst hr hd
    refine ext3 ?_ rfl rfl
    have := (j 0).isLt
    change (j 0).val < 1 at this
    show (j 0).val = 0
    omega
  rw [hj, q_apply]
  simp only [blk0, blk1, blk2, blk3, blk4]
  rfl

/-- What a grid point writes back is its block of the second result. -/
theorem flushed6_eq (c : Dev nD) (t : Fin cfg0.N) :
    (dats m 0 c).flushed 6 t = ((cfg0.win 6).blk t).view.read (Elt Ideal) (GGq m c) := by
  rw [flushed6]
  funext j
  show out0_6 _ _ _ _ _ j = GGq m c (((cfg0.win 6).blk t).view.emb j)
  rw [emb6]
  exact block6_eq m c t j

/-- Every index of the second result is in the block of its batch and its 1024 rows. -/
theorem covered6 (i : S4x4096x1536.Idx) :
    ∃ t : Fin cfg0.N, (cfg0.win 6).flush t = true ∧ i ∈ ((cfg0.win 6).blk t).view.set := by
  have h0 : (i 0).val < 4 := (i 0).isLt
  have h1 : (i 1).val < 4096 := (i 1).isLt
  refine ⟨(⟨(i 0).val * 4 + (i 1).val / 1024, by show _ < 16; omega⟩ : Fin cfg0.N), flush0_6 _, ?_⟩
  have h := ((cfg0.win 6).blk (⟨(i 0).val * 4 + (i 1).val / 1024, by show _ < 16; omega⟩ : Fin cfg0.N)).view.emb_mem_set
    (ix3 0 ⟨(i 1).val % 1024, Nat.mod_lt _ (by decide)⟩ (i 2))
  rw [emb6] at h
  refine Eq.mpr (congrArg (· ∈ _) ?_) h
  refine ext3 ?_ ?_ rfl
  · show (i 0).val = ((i 0).val * 4 + (i 1).val / 1024) / 4
    omega
  · show (i 1).val = ((i 0).val * 4 + (i 1).val / 1024) % 4 * 1024 + (i 1).val % 1024
    omega

/-- The second result after the run. -/
theorem final6 (c : Dev nD) : (dats m 0 c).arrAt 6 cfg0.N = GGq m c :=
  (dats m 0 c).arrAt_eq_of_cover 6 (GGq m c) (fun t _ => flushed6_eq m c t) covered6

theorem ref_frame : Cert.quiescent_ProjRefIdeal := fun m ρ _ =>
  (θ_run _ _ _).mono (fun r h => ⟨fun c => (h c).2.2, sem_eq_zero_of_no_sems (by decide) r.2⟩) (Cert.ProjRefIdeal.Value.run m ρ)

theorem algebraic : Cert.algebraic_ProjIdeal_ProjRefIdeal := by
  intro m g m' g' _ hm
  refine ⟨fun c => GGu m c, fun c => GGq m c,
    (θ_run defs _ _).mono (fun r h c => ⟨(h c).1.trans (final5 m c), (h c).2.1.trans (final6 m c), (h c).2.2⟩) (run_blocks m g), ?_⟩
  refine (θ_run _ _ _).mono (fun r h c => ⟨(h c).1.trans ?_, (h c).2.1.trans ?_, (h c).2.2⟩) (Cert.ProjRefIdeal.Value.run m' g')
  all_goals obtain ⟨h0, h1, h2, h3⟩ := hm c
  · rw [Cert.ProjRefIdeal.Read.val_main_v31_eq, ref_u, h0, h1, h2, h3]
    rfl
  · rw [Cert.ProjRefIdeal.Read.val_main_v33_eq, ref_q, h0, h1, h2, h3]
    rfl

end Cert.Proof.Proj

end
-- ==== Proof.OutProjRun.lean ====
/- The mixer's output projection: the kernel's blocks and the reference, both read at an index as `G` — the stream's entry plus its
   gate times the product of the two head groups' rows with the weights. -/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.FfnMidRun
public import proofs.«01_k».proof.Proof.NattenMath
public import Idealize.ShloMosaic.Adequacy

@[expose] public section

set_option maxRecDepth 16384

noncomputable section

namespace Cert.Proof.OutProj

open Idealize.ShloMosaic Idealize.ShloMosaic.TcCoe Idealize.SL.Sem
open Cert.OutProjIdeal Cert.OutProjIdeal.Gen Cert.OutProjIdeal.Value
open Cert.Proof.FfnMidRef (col0)
open Cert.Proof.FfnMidRun (ext3)

/-- A row of the conv group's heads and one of the attention's, through one column of the weights. -/
def both (u a : Fin 512 → EReal) (w : Fin 1024 → EReal) : EReal :=
  ∑ k : Fin 512, u k * w ⟨k.val, by omega⟩ + ∑ k : Fin 512, a k * w ⟨512 + k.val, by omega⟩

/-- The result array as one function of the arguments. -/
def G (x0 : Vec Ideal S4x4096x1024 .f32) (x1 x2 : Vec Ideal S4x4096x512 .bf16) (x3 : Vec Ideal S16x1x9216 .f32)
    (x4 : Vec Ideal S1x1024x1024 .f32) : Vec Ideal S4x4096x1024 .f32 := fun i =>
  x0 (ix3 (i 0) (i 1) (i 2)) + col0 x3 5 (i 0) (i 2)
    * both (fun k => x1 (ix3 (i 0) (i 1) k)) (fun k => x2 (ix3 (i 0) (i 1) k)) (fun k => x4 (ix3 0 k (i 2)))

section Reference
open Cert.OutProjRefIdeal.Read

variable (x0 : Vec Ideal S4x4096x1024 .f32) (x1 x2 : Vec Ideal S4x4096x512 .bf16) (x3 : Vec Ideal S16x1x9216 .f32)
  (x4 : Vec Ideal S1x1024x1024 .f32)

theorem mod_apply (k : Fin 9) (b : Fin 4) (d : Fin 1024) : val_main_v3 (F := Ideal) x3 (ix4 b k 0 d) = col0 x3 k b d := by
  pointwise [val_main_v0, val_main_v1, val_main_v2, val_main_v3, col0]

theorem cat_left (b : Fin 4) (r : Fin 4096) (k : Fin 512) :
    val_main_v6 (F := Ideal) x1 x2 (ix3 b r ⟨k.val, by omega⟩) = x1 (ix3 b r k) := by
  pointwise [val_main_v6, val_main_v4, val_main_v5]

theorem cat_right (b : Fin 4) (r : Fin 4096) (k : Fin 512) :
    val_main_v6 (F := Ideal) x1 x2 (ix3 b r ⟨512 + k.val, by omega⟩) = x2 (ix3 b r k) := by
  pointwise [val_main_v6, val_main_v4, val_main_v5]

theorem dot_apply (b : Fin 4) (r : Fin 4096) (d : Fin 1024) :
    val_main_v10 (F := Ideal) x1 x2 x4 (ix3 b r d)
      = both (fun k => x1 (ix3 b r k)) (fun k => x2 (ix3 b r k)) (fun k => x4 (ix3 0 k d)) := by
  have h1 := cat_left x1 x2 b r
  have h2 := cat_right x1 x2 b r
  generalize hy : val_main_v6 (F := Ideal) x1 x2 = y at h1 h2
  unfold val_main_v10
  rw [hy]
  pointwise [val_main_v9, both]
  rw [NattenMath.sum_split (show 1024 = 512 + 512 from rfl)]
  simp only [h1, h2]

/-- The reference's result is `G` of its arguments. -/
theorem ref_eq : val_main_v13 (F := Ideal) x0 x1 x2 x3 x4 = G x0 x1 x2 x3 x4 := by
  funext i
  idx_vars i
  have h := dot_apply x1 x2 x4
  have hg := mod_apply x3 5
  pointwise [val_main_v13, val_main_v12, val_main_v11, val_main_v8, val_main_v7, G]
  simp only [h, hg]

end Reference

/-- A block's entry. -/
theorem out_apply (x0 : Vec Ideal S1x1024x1024 .f32) (x1 x2 : Vec Ideal S1x1024x512 .bf16) (x3 : Vec Ideal S1x1x1024 .f32)
    (x4 : Vec Ideal S1024x1024 .bf16) (r d : Fin 1024) :
    out0_5 x0 x1 x2 x3 x4 (ix3 0 r d) = x0 (ix3 0 r d) + x3 (ix3 0 0 d)
      * both (fun k => x1 (ix3 0 r k)) (fun k => x2 (ix3 0 r k)) (fun k => x4 (ix2 k d)) := by
  have hz : (![0, 0, 0] : Fin 3 → Nat) = fun _ => 0 := funext fun a => by fin_cases a <;> rfl
  unfold out0_5
  rw [View.canon_unit_zero hz, View.ld_unit_zero hz, View.ld_unit_zero hz, View.ld_unit_zero hz, View.ld_unit_zero hz]
  pointwise [k0_pay1, both]

variable (m : (ℓ : Loc nD τ sig) → Buf (Elt Ideal) ℓ) (ρ : Dev nD → PrngReg)

/-- Grid point `t`'s block indices: batch `t / 4`, rows `t % 4`; the modulation's column 5. -/
theorem idx : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = 0 ∧ win0_3.index t (2 : Fin 3) = 5)
    ∧ (win0_4.index t (0 : Fin 2) = 0 ∧ win0_4.index t (1 : Fin 2) = 0)
    ∧ (win0_5.index t (0 : Fin 3) = t.val / 4 ∧ win0_5.index t (1 : Fin 3) = t.val % 4 ∧ win0_5.index t (2 : Fin 3) = 0) :=
  (by decide +kernel : ∀ t : Fin grid0.N, _)

theorem lt16 (t : Fin cfg0.N) : t.val < 16 := t.isLt

/-- The batch of a grid point, and the array row of row `r` of its block. -/
def bat (t : Fin cfg0.N) : Fin 4 := ⟨t.val / 4, by have := lt16 t; omega⟩
def row (t : Fin cfg0.N) (r : Fin 1024) : Fin 4096 := ⟨t.val % 4 * 1024 + r.val, by have := r.isLt; omega⟩

/-- The result array as a function of the arguments as launched. -/
def GG (c : Dev nD) : Vec Ideal S4x4096x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- Where the output window's block lies in the result array. -/
theorem emb5 (t : Fin cfg0.N) (j : S1x1024x1024.Idx) :
    ((cfg0.win 5).blk t).view.emb j = ix3 (bat t) (row t (j 1)) (j 2) := by
  obtain ⟨-, -, -, -, -, e0, e1, e2⟩ := idx t
  have h0 : (j 0).val < 1 := (j 0).isLt
  refine ext3 ?_ ?_ ?_
  · show win0_5.index t (0 : Fin 3) * 1 + 1 * (j 0).val = t.val / 4
    omega
  · show win0_5.index t (1 : Fin 3) * 1024 + 1 * (j 1).val = t.val % 4 * 1024 + (j 1).val
    omega
  · show win0_5.index t (2 : Fin 3) * 1024 + 1 * (j 2).val = (j 2).val
    omega

/-- The weights as the kernel reads them. -/
theorem weights (c : Dev nD) (k d : Fin 1024) : V m c main_v1 (ix2 k d) = m ((c : Thread nD τ).loc main_arg4) (ix3 0 k d) := by
  unfold V
  after_reads_at

/-! Each input window's block, read at an index, as an element of an argument. -/

theorem blk0 (c : Dev nD) (t : Fin cfg0.N) (r k : Fin 1024) :
    iblk m c 0 t (ix3 0 r k) = m ((c : Thread nD τ).loc main_arg0) (ix3 (bat t) (row t r) k) := by
  obtain ⟨⟨e0, e1, e2⟩, -⟩ := idx t
  have e : ((cfg0.win 0).blk t).view.emb (ix3 0 r k) = ix3 (bat t) (row t r) k := by
    refine ext3 ?_ ?_ ?_
    · show win0_0.index t (0 : Fin 3) * 1 + 1 * (0) = t.val / 4
      omega
    · show win0_0.index t (1 : Fin 3) * 1024 + 1 * (r.val) = t.val % 4 * 1024 + r.val
      omega
    · show win0_0.index t (2 : Fin 3) * 1024 + 1 * (k.val) = k.val
      omega
  show V m c main_arg0 (((cfg0.win 0).blk t).view.emb (ix3 0 r k)) = _
  rw [e]
  exact congrFun (V_main_arg0 m c) _

theorem blk1 (c : Dev nD) (t : Fin cfg0.N) (r : Fin 1024) (k : Fin 512) :
    iblk m c 1 t (ix3 0 r k) = m ((c : Thread nD τ).loc main_arg1) (ix3 (bat t) (row t r) k) := by
  obtain ⟨-, ⟨e0, e1, e2⟩, -⟩ := idx t
  have e : ((cfg0.win 1).blk t).view.emb (ix3 0 r k) = ix3 (bat t) (row t r) k := by
    refine ext3 ?_ ?_ ?_
    · show win0_1.index t (0 : Fin 3) * 1 + 1 * (0) = t.val / 4
      omega
    · show win0_1.index t (1 : Fin 3) * 1024 + 1 * (r.val) = t.val % 4 * 1024 + r.val
      omega
    · show win0_1.index t (2 : Fin 3) * 512 + 1 * (k.val) = k.val
      omega
  show V m c main_arg1 (((cfg0.win 1).blk t).view.emb (ix3 0 r k)) = _
  rw [e]
  exact congrFun (V_main_arg1 m c) _

theorem blk2 (c : Dev nD) (t : Fin cfg0.N) (r : Fin 1024) (k : Fin 512) :
    iblk m c 2 t (ix3 0 r k) = m ((c : Thread nD τ).loc main_arg2) (ix3 (bat t) (row t r) k) := by
  obtain ⟨-, -, ⟨e0, e1, e2⟩, -⟩ := idx t
  have e : ((cfg0.win 2).blk t).view.emb (ix3 0 r k) = ix3 (bat t) (row t r) k := by
    refine ext3 ?_ ?_ ?_
    · show win0_2.index t (0 : Fin 3) * 1 + 1 * (0) = t.val / 4
      omega
    · show win0_2.index t (1 : Fin 3) * 1024 + 1 * (r.val) = t.val % 4 * 1024 + r.val
      omega
    · show win0_2.index t (2 : Fin 3) * 512 + 1 * (k.val) = k.val
      omega
  show V m c main_arg2 (((cfg0.win 2).blk t).view.emb (ix3 0 r k)) = _
  rw [e]
  exact congrFun (V_main_arg2 m c) _

theorem blk3 (c : Dev nD) (t : Fin cfg0.N) (k : Fin 1024) :
    iblk m c 3 t (ix3 0 0 k) = col0 (m ((c : Thread nD τ).loc main_arg3)) 5 (bat t) k := by
  obtain ⟨-, -, -, ⟨e0, e1, e2⟩, -⟩ := idx t
  have e : ((cfg0.win 3).blk t).view.emb (ix3 0 0 k) = ix3 ⟨(bat t).val, by have := (bat t).isLt; omega⟩ 0 ⟨(5 : Fin 9).val * 1024 + k.val, by have := k.isLt; have : (5 : Fin 9).val = 5 := rfl; omega⟩ := by
    refine ext3 ?_ ?_ ?_
    · show win0_3.index t (0 : Fin 3) * 1 + 1 * (0) = t.val / 4
      omega
    · show win0_3.index t (1 : Fin 3) * 1 + 1 * (0) = 0
      omega
    · show win0_3.index t (2 : Fin 3) * 1024 + 1 * (k.val) = 5 * 1024 + k.val
      omega
  show V m c main_arg3 (((cfg0.win 3).blk t).view.emb (ix3 0 0 k)) = _
  rw [e]
  exact congrFun (V_main_arg3 m c) _

theorem blk4 (c : Dev nD) (t : Fin cfg0.N) (k d : Fin 1024) :
    iblk m c 4 t (ix2 k d) = m ((c : Thread nD τ).loc main_arg4) (ix3 0 k d) := by
  obtain ⟨-, -, -, -, ⟨e0, e1⟩, -⟩ := idx t
  have e : ((cfg0.win 4).blk t).view.emb (ix2 k d) = ix2 k d := by
    funext a
    refine Fin.ext ?_
    fin_cases a
    · show win0_4.index t (0 : Fin 2) * 1024 + 1 * (k.val) = k.val
      omega
    · show win0_4.index t (1 : Fin 2) * 1024 + 1 * (d.val) = d.val
      omega
  show V m c main_v1 (((cfg0.win 4).blk t).view.emb (ix2 k d)) = _
  rw [e]
  exact weights m c k d

/-- A block's contents, from the blocks of the arguments. -/
theorem block_eq (c : Dev nD) (t : Fin cfg0.N) (j : S1x1024x1024.Idx) :
    out0_5 (iblk m c 0 t) (iblk m c 1 t) (iblk m c 2 t) (iblk m c 3 t) (iblk m c 4 t) j
      = GG m c (ix3 (bat t) (row t (j 1)) (j 2)) := by
  obtain ⟨r, hr⟩ : ∃ r : Fin 1024, r = j 1 := ⟨_, rfl⟩
  obtain ⟨d, hd⟩ : ∃ d : Fin 1024, d = j 2 := ⟨_, rfl⟩
  have hj : j = ix3 0 r d := by
    subst hr hd
    refine ext3 ?_ rfl rfl
    have := (j 0).isLt
    change (j 0).val < 1 at this
    show (j 0).val = 0
    omega
  rw [hj, out_apply]
  simp only [blk0, blk1, blk2, blk3, blk4]
  rfl

/-- What a grid point writes back is its block of `G`. -/
theorem flushed_eq (c : Dev nD) (t : Fin cfg0.N) :
    (dats m 0 c).flushed 5 t = ((cfg0.win 5).blk t).view.read (Elt Ideal) (GG m c) := by
  rw [flushed5]
  funext j
  show out0_5 _ _ _ _ _ j = GG m c (((cfg0.win 5).blk t).view.emb j)
  rw [emb5]
  exact block_eq m c t j

/-- Every index of the result array is in the block of its batch and its 1024 rows. -/
theorem covered (i : S4x4096x1024.Idx) :
    ∃ t : Fin cfg0.N, (cfg0.win 5).flush t = true ∧ i ∈ ((cfg0.win 5).blk t).view.set := by
  have h0 : (i 0).val < 4 := (i 0).isLt
  have h1 : (i 1).val < 4096 := (i 1).isLt
  refine ⟨(⟨(i 0).val * 4 + (i 1).val / 1024, by show _ < 16; omega⟩ : Fin cfg0.N), flush0_5 _, ?_⟩
  have h := ((cfg0.win 5).blk (⟨(i 0).val * 4 + (i 1).val / 1024, by show _ < 16; omega⟩ : Fin cfg0.N)).view.emb_mem_set
    (ix3 0 ⟨(i 1).val % 1024, Nat.mod_lt _ (by decide)⟩ (i 2))
  rw [emb5] at h
  refine Eq.mpr (congrArg (· ∈ _) ?_) h
  refine ext3 ?_ ?_ rfl
  · show (i 0).val = ((i 0).val * 4 + (i 1).val / 1024) / 4
    omega
  · show (i 1).val = ((i 0).val * 4 + (i 1).val / 1024) % 4 * 1024 + (i 1).val % 1024
    omega

/-- The result array after the run. -/
theorem final (c : Dev nD) : (dats m 0 c).arrAt 5 cfg0.N = GG m c :=
  (dats m 0 c).arrAt_eq_of_cover 5 (GG m c) (fun t _ => flushed_eq m c t) covered

theorem ref_frame : Cert.quiescent_OutProjRefIdeal := fun m ρ _ =>
  (θ_run _ _ _).mono (fun r h => ⟨fun c => (h c).2, sem_eq_zero_of_no_sems (by decide) r.2⟩) (Cert.OutProjRefIdeal.Value.run m ρ)

theorem algebraic : Cert.algebraic_OutProjIdeal_OutProjRefIdeal := by
  intro m g m' g' _ hm
  refine ⟨fun c => GG m c, (θ_run defs _ _).mono (fun r h c => ⟨(h c).1.trans (final m c), (h c).2⟩) (run_blocks m g), ?_⟩
  refine (θ_run _ _ _).mono (fun r h c => ⟨(h c).1.trans ?_, (h c).2⟩) (Cert.OutProjRefIdeal.Value.run m' g')
  obtain ⟨h0, h1, h2, h3, h4⟩ := hm c
  rw [Cert.OutProjRefIdeal.Read.val_main_v13_eq, ref_eq, h0, h1, h2, h3, h4]
  rfl

end Cert.Proof.OutProj

end
-- ==== Proof.Turn.lean ====
/- The angles of a discrete Fourier transform as the programs compute them, and the factors that normalize it. -/
module

public import proofs.«01_k».proof.Proof.NattenMath
public import Idealize.ShloMosaic.Adequacy

@[expose] public section

noncomputable section

namespace Cert.Proof.Turn

open Idealize.ShloMosaic Idealize.ShloMosaic.TcCoe

/-- The angle 2π·(i·j mod N)/N, as the programs compute it: `N` the number of points, `w` the word of it as a float. -/
def ang (N w : BitVec 32) (i j : Nat) : EReal :=
  Ideal.div (FloatOps.sitofp (F := Ideal) .f32 (IntOp.remsi ArithUnit.host (IntOp.muli (BitVec.ofNat 32 i) (BitVec.ofNat 32 j)) N)
    * Ideal.ofBits .f32 0x40C90FDB#32) (Ideal.ofBits .f32 w)

theorem ang_symm (N w : BitVec 32) (i j : Nat) : ang N w i j = ang N w j i := by
  unfold ang IntOp.muli
  rw [BitVec.mul_comm]

theorem inv64 : Ideal.ofBits .f32 0x3C800000#32 = ((1 / 64 : ℝ) : EReal) := by
  simp [Ideal.ofBits, Ideal.ieee]
  rw [← EReal.coe_mul]
  norm_num

theorem inv16 : Ideal.ofBits .f32 0x3D800000#32 = ((1 / 16 : ℝ) : EReal) := by
  simp [Ideal.ofBits, Ideal.ieee]
  rw [← EReal.coe_mul]
  norm_num

/-- Division by 64, and by 16, is multiplication by the word that the kernel scales its table with. -/
theorem div64 (x : EReal) : Ideal.div x (Ideal.ofBits .f32 0x42800000#32) = x * Ideal.ofBits .f32 0x3C800000#32 := by
  have h : Ideal.ofBits .f32 0x42800000#32 = ((64 : ℝ) : EReal) := by
    simp [Ideal.ofBits, Ideal.ieee]
    rw [← EReal.coe_mul]
    norm_num
  rw [h, inv64, Ideal.div_coe (by norm_num)]

theorem div16 (x : EReal) : Ideal.div x (Ideal.ofBits .f32 0x41800000#32) = x * Ideal.ofBits .f32 0x3D800000#32 := by
  have h : Ideal.ofBits .f32 0x41800000#32 = ((16 : ℝ) : EReal) := by
    simp [Ideal.ofBits, Ideal.ieee]
    rw [← EReal.coe_mul]
    norm_num
  rw [h, inv16, Ideal.div_coe (by norm_num)]

/-- The real part of a transform over positions: the factor of the tables is the factor of the sum. -/
theorem scaled64 {n : Nat} (c s a b : Fin n → EReal) :
    ∑ k, c k * Ideal.ofBits .f32 0x3C800000#32 * a k + ∑ k, s k * Ideal.ofBits .f32 0x3C800000#32 * b k
      = Ideal.div (∑ k, (c k * a k + s k * b k)) (Ideal.ofBits .f32 0x42800000#32) := by
  rw [div64, inv64, NattenMath.sum_mul_real _ _ (by norm_num) (EReal.coe_ne_top _), ← Finset.sum_add_distrib]
  refine Finset.sum_congr rfl fun k _ => ?_
  rw [EReal.right_distrib_of_nonneg_of_ne_top (by norm_num) (EReal.coe_ne_top _), mul_right_comm, mul_right_comm (s k)]

/-- One part of a transform over channels, the row on the left. -/
theorem scaled16 {n : Nat} (x t : Fin n → EReal) :
    ∑ k, x k * (t k * Ideal.ofBits .f32 0x3D800000#32) = Ideal.div (∑ k, x k * t k) (Ideal.ofBits .f32 0x41800000#32) := by
  rw [div16, inv16, NattenMath.sum_mul_real _ _ (by norm_num) (EReal.coe_ne_top _)]
  exact Finset.sum_congr rfl fun k _ => (mul_assoc _ _ _).symm

end Cert.Proof.Turn

end
-- ==== Proof.ChannelsRun.lean ====
/- The transform over each group's channels: the kernel's blocks and the reference, both read at an index as `G` — one part (the
   cosines', or the negated sines') of the transform of the group's part of the normalized and modulated row. -/
module

public import proofs.«01_k».proof.Defs
public import proofs.«01_k».proof.Proof.Gen.ChannelsIdeal.Value
public import proofs.«01_k».proof.Proof.Gen.ChannelsRefIdeal.Run
public import proofs.«01_k».proof.Proof.Gen.ChannelsRefIdeal.Read
public import proofs.«01_k».proof.Proof.ProjRun
public import proofs.«01_k».proof.Proof.Turn
public import Idealize.ShloMosaic.Adequacy

@[expose] public section

set_option maxRecDepth 16384

noncomputable section

namespace Cert.Proof.Channels

open Idealize.ShloMosaic Idealize.ShloMosaic.TcCoe Idealize.SL.Sem
open Cert.ChannelsIdeal Cert.ChannelsIdeal.Gen Cert.ChannelsIdeal.Value
open Cert.Proof.FfnBlock (rms col)
open Cert.Proof.FfnMidRun (ext3)
open Cert.Proof.Proj (hn)
open Cert.Proof.Turn (ang ang_symm scaled16)

/-- The cosine, and the negated sine, of the angle of channels `c` and `k` of a group. -/
def cosine (c k : Nat) : EReal := Ideal.cos (ang 256#32 0x43800000#32 c k)
def sine (c k : Nat) : EReal := -Ideal.sin (ang 256#32 0x43800000#32 c k)

/-- The normalized and modulated row `r` of batch `b`. -/
def rowOf (x0 : Vec Ideal S4x4096x1024 .f32) (x1 : Vec Ideal S16x1x9216 .f32) (x2 : Vec Ideal S2x3x1024 .f32)
    (b : Fin 4) (r : Fin 4096) : Fin 1024 → EReal :=
  hn (fun k => x0 (ix3 b r k)) (fun k => x2 (ix3 1 1 k)) (col x1 3 b) (col x1 4 b)

/-- The place of channel `k` of the group of channel `d`. -/
def place (d : Fin 1024) (k : Fin 256) : Fin 1024 := ⟨d.val / 256 * 256 + k.val, by omega⟩

/-- A result array as a function of the arguments: `t` is the cosine or the negated sine. -/
def G (t : Nat → Nat → EReal) (x0 : Vec Ideal S4x4096x1024 .f32) (x1 : Vec Ideal S16x1x9216 .f32) (x2 : Vec Ideal S2x3x1024 .f32) :
    Vec Ideal S4x4096x1024 .bf16 := fun i =>
  Ideal.div (∑ k : Fin 256, rowOf x0 x1 x2 (i 0) (i 1) (place (i 2) k) * t ((i 2).val % 256) k.val) (Ideal.ofBits .f32 0x41800000#32)

section Reference
open Cert.ChannelsRefIdeal.Read

variable (x0 : Vec Ideal S4x4096x1024 .f32) (x1 : Vec Ideal S16x1x9216 .f32) (x2 : Vec Ideal S2x3x1024 .f32)

theorem mod_apply (k : Fin 9) (b : Fin 4) (d : Fin 1024) : val_main_v3 (F := Ideal) x1 (ix4 b k 0 d) = col x1 k b d := by
  pointwise [val_main_v0, val_main_v1, val_main_v2, val_main_v3, col]

theorem norm_apply (b : Fin 4) (r : Fin 4096) (d : Fin 1024) :
    val_main_v28 (F := Ideal) x0 x1 x2 (ix3 b r d) = rowOf x0 x1 x2 b r d := by
  have h3 := mod_apply x1 3 b d
  have h4 := mod_apply x1 4 b d
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, rowOf, hn, rms]
  simp only [h3, h4]

theorem ang_apply (c k : Fin 256) : val_main_v39 (F := Ideal) (ix2 c k) = ang 256#32 0x43800000#32 c.val k.val := by
  pointwise [val_main_v30, val_main_v31, val_main_v32, val_main_c, val_main_v33, val_main_v34, val_main_v35, val_main_cst_3, val_main_v36, val_main_v37, val_main_cst_4, val_main_v38, val_main_v39, ang]

/-- The reference's results. -/
theorem ref_re : val_main_v58 (F := Ideal) x0 x1 x2 = G cosine x0 x1 x2 := by
  funext i
  idx_vars i
  have h := norm_apply x0 x1 x2
  have ha := ang_apply
  pointwise [val_main_v58, val_main_v57, val_main_v48, val_main_v47, val_main_cst_6, val_main_v46, val_main_cst_5, val_main_v45, val_main_v44, val_main_v43, val_main_v42, val_main_v40, val_main_v29, G, cosine, place]
  simp only [h, ha]

theorem ref_im : val_main_v60 (F := Ideal) x0 x1 x2 = G sine x0 x1 x2 := by
  funext i
  idx_vars i
  have h := norm_apply x0 x1 x2
  have ha := ang_apply
  pointwise [val_main_v60, val_main_v59, val_main_v56, val_main_v55, val_main_cst_8, val_main_v54, val_main_cst_7, val_main_v53, val_main_v52, val_main_v51, val_main_v50, val_main_v49, val_main_v41, val_main_v29, G, sine, place]
  simp only [h, ha]

end Reference

/-! A block: four pieces of 256 lanes, each a group's part of the rows times one half of the table. -/

/-- The rows of the block of `B` times the half of the table `T` from `o` on, group by group. -/
def half (B : Vec Ideal S1024x1024 .bf16) (T : Vec Ideal S256x512 .bf16) (o : Fin 257) : Vec Ideal S1x1024x1024 .bf16 := fun y =>
  ∑ k : Fin 256, B (ix2 (y 1) (place (y 2) k)) * T (ix2 k ⟨o.val + (y 2).val % 256, by omega⟩)

theorem half_at (B : Vec Ideal S1024x1024 .bf16) (T : Vec Ideal S256x512 .bf16) (o : Fin 257) (y : S1x1024x1024.Idx) (r : Fin 1024)
    (g : Fin 4) (e : Fin 256) (h1 : (y 1).val = r.val) (h2 : (y 2).val = g.val * 256 + e.val) :
    half B T o y = ∑ k : Fin 256, B (ix2 r ⟨g.val * 256 + k.val, by omega⟩) * T (ix2 k ⟨o.val + e.val, by omega⟩) := by
  have e1 : y 1 = r := Fin.ext h1
  have e2 : ∀ k, place (y 2) k = ⟨g.val * 256 + k.val, by omega⟩ := fun k => Fin.ext (by
    show (y 2).val / 256 * 256 + k.val = g.val * 256 + k.val
    omega)
  have e3 : (⟨o.val + (y 2).val % 256, by omega⟩ : Fin 512) = ⟨o.val + e.val, by omega⟩ := Fin.ext (by
    show o.val + (y 2).val % 256 = o.val + e.val
    omega)
  show ∑ k : Fin 256, B (ix2 (y 1) (place (y 2) k)) * T (ix2 k ⟨o.val + (y 2).val % 256, by omega⟩) = _
  simp only [e1, e2, e3]

theorem re3 (B : Vec Ideal S1024x1024 .bf16) (T : Vec Ideal S256x512 .bf16) (x : S1x1024x256.Idx) :
    k0_pay2 B T x = half B T 0 (r0_6.idx x) := by
  idx_vars x
  rw [half_at B T 0 _ x1 3 x2 (by show 0 + 1 * x1.val = x1.val; omega) (by show 768 + 1 * x2.val = 3 * 256 + x2.val; omega)]
  pointwise [k0_pay2, k0_pay1]

theorem re2 (B : Vec Ideal S1024x1024 .bf16) (T : Vec Ideal S256x512 .bf16) (x : S1x1024x256.Idx) :
    k0_pay12 B T x = half B T 0 (r0_5.idx x) := by
  idx_vars x
  rw [half_at B T 0 _ x1 2 x2 (by show 0 + 1 * x1.val = x1.val; omega) (by show 512 + 1 * x2.val = 2 * 256 + x2.val; omega)]
  pointwise [k0_pay12, k0_pay11]

theorem re1 (B : Vec Ideal S1024x1024 .bf16) (T : Vec Ideal S256x512 .bf16) (x : S1x1024x256.Idx) :
    k0_pay9 B T x = half B T 0 (r0_4.idx x) := by
  idx_vars x
  rw [half_at B T 0 _ x1 1 x2 (by show 0 + 1 * x1.val = x1.val; omega) (by show 256 + 1 * x2.val = 1 * 256 + x2.val; omega)]
  pointwise [k0_pay9, k0_pay8]

theorem im3 (B : Vec Ideal S1024x1024 .bf16) (T : Vec Ideal S256x512 .bf16) (x : S1x1024x256.Idx) :
    k0_pay3 B T x = half B T 256 (r0_6.idx x) := by
  idx_vars x
  rw [half_at B T 256 _ x1 3 x2 (by show 0 + 1 * x1.val = x1.val; omega) (by show 768 + 1 * x2.val = 3 * 256 + x2.val; omega)]
  pointwise [k0_pay3, k0_pay1]

theorem im2 (B : Vec Ideal S1024x1024 .bf16) (T : Vec Ideal S256x512 .bf16) (x : S1x1024x256.Idx) :
    k0_pay13 B T x = half B T 256 (r0_5.idx x) := by
  idx_vars x
  rw [half_at B T 256 _ x1 2 x2 (by show 0 + 1 * x1.val = x1.val; omega) (by show 512 + 1 * x2.val = 2 * 256 + x2.val; omega)]
  pointwise [k0_pay13, k0_pay11]

theorem im1 (B : Vec Ideal S1024x1024 .bf16) (T : Vec Ideal S256x512 .bf16) (x : S1x1024x256.Idx) :
    k0_pay10 B T x = half B T 256 (r0_4.idx x) := by
  idx_vars x
  rw [half_at B T 256 _ x1 1 x2 (by show 0 + 1 * x1.val = x1.val; omega) (by show 256 + 1 * x2.val = 1 * 256 + x2.val; omega)]
  pointwise [k0_pay10, k0_pay8]

/-- A block's normalized and modulated rows. -/
theorem rows_apply (x0 : Vec Ideal S1x1024x1024 .f32) (x1 x2 x3 : Vec Ideal S1x1x1024 .f32) (r k : Fin 1024) :
    k0_pay4 x0 x3 x1 x2 (ix2 r k)
      = hn (fun k => x0 (ix3 0 r k)) (fun k => x3 (ix3 0 0 k)) (fun k => x1 (ix3 0 0 k)) (fun k => x2 (ix3 0 0 k)) k := by
  pointwise [k0_pay4, hn, rms]

theorem first (x0 : Vec Ideal S1x1024x1024 .f32) (x1 x2 x3 : Vec Ideal S1x1x1024 .f32) (T : Vec Ideal S256x512 .bf16) (x : S1x1024x256.Idx) :
    k0_pay6 x0 x3 x1 x2 T x = half (k0_pay4 x0 x3 x1 x2) T 0 (r0_3.idx x)
      ∧ k0_pay7 (k0_pay5 x0 x3 x1 x2 T) x = half (k0_pay4 x0 x3 x1 x2) T 256 (r0_3.idx x) := by
  idx_vars x
  rw [half_at _ T 0 _ x1 0 x2 (by show 0 + 1 * x1.val = x1.val; omega) (by show 0 + 1 * x2.val = 0 * 256 + x2.val; omega),
    half_at _ T 256 _ x1 0 x2 (by show 0 + 1 * x1.val = x1.val; omega) (by show 0 + 1 * x2.val = 0 * 256 + x2.val; omega)]
  unfold k0_pay6 k0_pay7 k0_pay5
  generalize k0_pay4 x0 x3 x1 x2 = B
  constructor
  · pointwise []
  · pointwise []

theorem out5_eq (x0 : Vec Ideal S1x1024x1024 .f32) (x1 x2 x3 : Vec Ideal S1x1x1024 .f32) (x4 : Vec Ideal S256x512 .bf16) (y : S1x1024x1024.Idx) :
    out0_5 x0 x1 x2 x3 x4 y = half (k0_pay4 x0 x3 x1 x2) x4 0 y := by
  have hz : (![0, 0, 0] : Fin 3 → Nat) = fun _ => 0 := funext fun a => by fin_cases a <;> rfl
  have hz2 : (![0, 0] : Fin 2 → Nat) = fun _ => 0 := funext fun a => by fin_cases a <;> rfl
  unfold out0_5 k0_pay14
  rw [View.ld_unit_zero hz, View.ld_unit_zero hz, View.ld_unit_zero hz, View.ld_unit_zero hz, View.ld_unit_zero hz2]
  refine View.canon_apply_of_pieces (half (k0_pay4 x0 x3 x1 x2) x4 0) _ ?_ y (cover0_5 _ _ _ _ y)
  intro pc hpc
  rcases List.mem_cons.mp hpc with rfl | hpc
  · exact fun x => re3 _ _ x
  rcases List.mem_cons.mp hpc with rfl | hpc
  · exact fun x => re2 _ _ x
  rcases List.mem_cons.mp hpc with rfl | hpc
  · exact fun x => re1 _ _ x
  rcases List.mem_cons.mp hpc with rfl | hpc
  · exact fun x => (first x0 x1 x2 x3 x4 x).1
  nomatch hpc

theorem out6_eq (x0 : Vec Ideal S1x1024x1024 .f32) (x1 x2 x3 : Vec Ideal S1x1x1024 .f32) (x4 : Vec Ideal S256x512 .bf16) (y : S1x1024x1024.Idx) :
    out0_6 x0 x1 x2 x3 x4 y = half (k0_pay4 x0 x3 x1 x2) x4 256 y := by
  have hz : (![0, 0, 0] : Fin 3 → Nat) = fun _ => 0 := funext fun a => by fin_cases a <;> rfl
  have hz2 : (![0, 0] : Fin 2 → Nat) = fun _ => 0 := funext fun a => by fin_cases a <;> rfl
  unfold out0_6 k0_pay14
  rw [View.ld_unit_zero hz, View.ld_unit_zero hz, View.ld_unit_zero hz, View.ld_unit_zero hz, View.ld_unit_zero hz2]
  refine View.canon_apply_of_pieces (half (k0_pay4 x0 x3 x1 x2) x4 256) _ ?_ y (cover0_6 _ _ _ _ y)
  intro pc hpc
  rcases List.mem_cons.mp hpc with rfl | hpc
  · exact fun x => im3 _ _ x
  rcases List.mem_cons.mp hpc with rfl | hpc
  · exact fun x => im2 _ _ x
  rcases List.mem_cons.mp hpc with rfl | hpc
  · exact fun x => im1 _ _ x
  rcases List.mem_cons.mp hpc with rfl | hpc
  · exact fun x => (first x0 x1 x2 x3 x4 x).2
  nomatch hpc

variable (m : (ℓ : Loc nD τ sig) → Buf (Elt Ideal) ℓ) (ρ : Dev nD → PrngReg)

/-- Grid point `t`'s block indices: batch `t / 4`, rows `t % 4`; the modulation's columns 3 and 4 of layer 1; the second norm's weights. -/
theorem idx : ∀ t : Fin cfg0.N,
    (win0_0.index t (0 : Fin 3) = t.val / 4 ∧ win0_0.index t (1 : Fin 3) = t.val % 4 ∧ win0_0.index t (2 : Fin 3) = 0)
    ∧ (win0_1.index t (0 : Fin 3) = 8 + t.val / 4 ∧ win0_1.index t (1 : Fin 3) = 0 ∧ win0_1.index t (2 : Fin 3) = 3)
    ∧ (win0_2.index t (0 : Fin 3) = 8 + t.val / 4 ∧ win0_2.index t (1 : Fin 3) = 0 ∧ win0_2.index t (2 : Fin 3) = 4)
    ∧ (win0_3.index t (0 : Fin 3) = 4 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0) :=
  (by decide +kernel : ∀ t : Fin grid0.N, _)

theorem lt16 (t : Fin cfg0.N) : t.val < 16 := t.isLt

/-- The batch of a grid point, and the array row of row `r` of its block. -/
def bat (t : Fin cfg0.N) : Fin 4 := ⟨t.val / 4, by have := lt16 t; omega⟩
def row (t : Fin cfg0.N) (r : Fin 1024) : Fin 4096 := ⟨t.val % 4 * 1024 + r.val, by have := r.isLt; omega⟩

/-- A result array as a function of the arguments as launched. -/
def GG (f : Nat → Nat → EReal) (c : Dev nD) : Vec Ideal S4x4096x1024 .bf16 :=
  G f (m ((c : Thread nD τ).loc main_arg0)) (m ((c : Thread nD τ).loc main_arg1)) (m ((c : Thread nD τ).loc main_arg2))

/-- Where the output windows' blocks lie in the result arrays. -/
theorem emb5 (t : Fin cfg0.N) (j : S1x1024x1024.Idx) :
    ((cfg0.win 5).blk t).view.emb j = ix3 (bat t) (row t (j 1)) (j 2) := by
  obtain ⟨-, -, -, -, -, ⟨e0, e1, e2⟩, -⟩ := idx t
  have h0 : (j 0).val < 1 := (j 0).isLt
  refine ext3 ?_ ?_ ?_
  · show win0_5.index t (0 : Fin 3) * 1 + 1 * (j 0).val = t.val / 4
    omega
  · show win0_5.index t (1 : Fin 3) * 1024 + 1 * (j 1).val = t.val % 4 * 1024 + (j 1).val
    omega
  · show win0_5.index t (2 : Fin 3) * 1024 + 1 * (j 2).val = (j 2).val
    omega

theorem emb6 (t : Fin cfg0.N) (j : S1x1024x1024.Idx) :
    ((cfg0.win 6).blk t).view.emb j = ix3 (bat t) (row t (j 1)) (j 2) := by
  obtain ⟨-, -, -, -, -, -, e0, e1, e2⟩ := idx t
  have h0 : (j 0).val < 1 := (j 0).isLt
  refine ext3 ?_ ?_ ?_
  · show win0_6.index t (0 : Fin 3) * 1 + 1 * (j 0).val = t.val / 4
    omega
  · show win0_6.index t (1 : Fin 3) * 1024 + 1 * (j 1).val = t.val % 4 * 1024 + (j 1).val
    omega
  · show win0_6.index t (2 : Fin 3) * 1024 + 1 * (j 2).val = (j 2).val
    omega

/-! What the host operations leave in the arrays that the kernel reads. -/

theorem gains (c : Dev nD) (k : Fin 1024) : V m c main_v0 (ix3 4 0 k) = m ((c : Thread nD τ).loc main_arg2) (ix3 1 1 k) := by
  unfold V
  after_reads_at

theorem cosines (c : Dev nD) (k d : Fin 256) : V m c main_v22 (ix2 k ⟨d.val, by omega⟩)
    = cosine d.val k.val * Ideal.ofBits .f32 0x3D800000#32 := by
  unfold cosine
  rw [ang_symm]
  unfold V ang
  rw [mul_comm (FloatOps.sitofp (F := Ideal) .f32 _)]
  after_reads_at
  after_reads_at

theorem sines (c : Dev nD) (k d : Fin 256) : V m c main_v22 (ix2 k ⟨256 + d.val, by omega⟩)
    = sine d.val k.val * Ideal.ofBits .f32 0x3D800000#32 := by
  unfold sine
  rw [ang_symm, EReal.neg_mul]
  unfold V ang
  rw [mul_comm (FloatOps.sitofp (F := Ideal) .f32 _)]
  after_reads_at
  after_reads_at

/-! Each input window's block, read at an index, as an element of an argument. -/

theorem blk0 (c : Dev nD) (t : Fin cfg0.N) (r k : Fin 1024) :
    iblk m c 0 t (ix3 0 r k) = m ((c : Thread nD τ).loc main_arg0) (ix3 (bat t) (row t r) k) := by
  obtain ⟨⟨e0, e1, e2⟩, -⟩ := idx t
  have e : ((cfg0.win 0).blk t).view.emb (ix3 0 r k) = ix3 (bat t) (row t r) k := by
    refine ext3 ?_ ?_ ?_
    · show win0_0.index t (0 : Fin 3) * 1 + 1 * (0) = t.val / 4
      omega
    · show win0_0.index t (1 : Fin 3) * 1024 + 1 * (r.val) = t.val % 4 * 1024 + r.val
      omega
    · show win0_0.index t (2 : Fin 3) * 1024 + 1 * (k.val) = k.val
      omega
  show V m c main_arg0 (((cfg0.win 0).blk t).view.emb (ix3 0 r k)) = _
  rw [e]
  exact congrFun (V_main_arg0 m c) _

theorem blk1 (c : Dev nD) (t : Fin cfg0.N) (k : Fin 1024) :
    iblk m c 1 t (ix3 0 0 k) = col (m ((c : Thread nD τ).loc main_arg1)) 3 (bat t) k := by
  obtain ⟨-, ⟨e0, e1, e2⟩, -⟩ := idx t
  have e : ((cfg0.win 1).blk t).view.emb (ix3 0 0 k) = ix3 ⟨8 + (bat t).val, by have := (bat t).isLt; omega⟩ 0 ⟨(3 : Fin 9).val * 1024 + k.val, by have := k.isLt; have : (3 : Fin 9).val = 3 := rfl; omega⟩ := by
    refine ext3 ?_ ?_ ?_
    · show win0_1.index t (0 : Fin 3) * 1 + 1 * (0) = 8 + t.val / 4
      omega
    · show win0_1.index t (1 : Fin 3) * 1 + 1 * (0) = 0
      omega
    · show win0_1.index t (2 : Fin 3) * 1024 + 1 * (k.val) = 3 * 1024 + k.val
      omega
  show V m c main_arg1 (((cfg0.win 1).blk t).view.emb (ix3 0 0 k)) = _
  rw [e]
  exact congrFun (V_main_arg1 m c) _

theorem blk2 (c : Dev nD) (t : Fin cfg0.N) (k : Fin 1024) :
    iblk m c 2 t (ix3 0 0 k) = col (m ((c : Thread nD τ).loc main_arg1)) 4 (bat t) k := by
  obtain ⟨-, -, ⟨e0, e1, e2⟩, -⟩ := idx t
  have e : ((cfg0.win 2).blk t).view.emb (ix3 0 0 k) = ix3 ⟨8 + (bat t).val, by have := (bat t).isLt; omega⟩ 0 ⟨(4 : Fin 9).val * 1024 + k.val, by have := k.isLt; have : (4 : Fin 9).val = 4 := rfl; omega⟩ := by
    refine ext3 ?_ ?_ ?_
    · show win0_2.index t (0 : Fin 3) * 1 + 1 * (0) = 8 + t.val / 4
      omega
    · show win0_2.index t (1 : Fin 3) * 1 + 1 * (0) = 0
      omega
    · show win0_2.index t (2 : Fin 3) * 1024 + 1 * (k.val) = 4 * 1024 + k.val
      omega
  show V m c main_arg1 (((cfg0.win 2).blk t).view.emb (ix3 0 0 k)) = _
  rw [e]
  exact congrFun (V_main_arg1 m c) _

theorem blk3 (c : Dev nD) (t : Fin cfg0.N) (k : Fin 1024) :
    iblk m c 3 t (ix3 0 0 k) = m ((c : Thread nD τ).loc main_arg2) (ix3 1 1 k) := by
  obtain ⟨-, -, -, ⟨e0, e1, e2⟩, -⟩ := idx t
  have e : ((cfg0.win 3).blk t).view.emb (ix3 0 0 k) = ix3 4 0 k := by
    refine ext3 ?_ ?_ ?_
    · show win0_3.index t (0 : Fin 3) * 1 + 1 * (0) = 4
      omega
    · show win0_3.index t (1 : Fin 3) * 1 + 1 * (0) = 0
      omega
    · show win0_3.index t (2 : Fin 3) * 1024 + 1 * (k.val) = k.val
      omega
  show V m c main_v0 (((cfg0.win 3).blk t).view.emb (ix3 0 0 k)) = _
  rw [e]
  exact gains m c k

theorem blk4 (c : Dev nD) (t : Fin cfg0.N) (k : Fin 256) (f : Fin 512) : iblk m c 4 t (ix2 k f) = V m c main_v22 (ix2 k f) := by
  obtain ⟨-, -, -, -, ⟨e0, e1⟩, -⟩ := idx t
  have e : ((cfg0.win 4).blk t).view.emb (ix2 k f) = ix2 k f := by
    funext a
    refine Fin.ext ?_
    fin_cases a
    · show win0_4.index t (0 : Fin 2) * 256 + 1 * (k.val) = k.val
      omega
    · show win0_4.index t (1 : Fin 2) * 512 + 1 * (f.val) = f.val
      omega
  show V m c main_v22 (((cfg0.win 4).blk t).view.emb (ix2 k f)) = _
  rw [e]

/-- A half of a block's contents, from the blocks of the arguments. -/
theorem half_eq (f : Nat → Nat → EReal) (o : Fin 257) (c : Dev nD) (t : Fin cfg0.N) (j : S1x1024x1024.Idx)
    (hf : ∀ k d : Fin 256, V m c main_v22 (ix2 k ⟨o.val + d.val, by omega⟩) = f d.val k.val * Ideal.ofBits .f32 0x3D800000#32) :
    half (k0_pay4 (iblk m c 0 t) (iblk m c 3 t) (iblk m c 1 t) (iblk m c 2 t)) (iblk m c 4 t) o j = GG m f c (ix3 (bat t) (row t (j 1)) (j 2)) := by
  have h : ∀ k : Fin 256, iblk m c 4 t (ix2 k ⟨o.val + (j 2).val % 256, by omega⟩) = f ((j 2).val % 256) k.val * Ideal.ofBits .f32 0x3D800000#32 :=
    fun k => (blk4 m c t k _).trans (hf k ⟨(j 2).val % 256, Nat.mod_lt _ (by decide)⟩)
  have hr : ∀ d : Fin 1024, k0_pay4 (iblk m c 0 t) (iblk m c 3 t) (iblk m c 1 t) (iblk m c 2 t) (ix2 (j 1) d)
      = rowOf (m ((c : Thread nD τ).loc main_arg0)) (m ((c : Thread nD τ).loc main_arg1)) (m ((c : Thread nD τ).loc main_arg2))
          (bat t) (row t (j 1)) d := fun d => by
    refine (rows_apply _ _ _ _ _ _).trans ?_
    unfold rowOf
    rw [funext (blk0 m c t (j 1)), funext (blk1 m c t), funext (blk2 m c t), funext (blk3 m c t)]
  exact (Finset.sum_congr rfl fun k _ => congrArg₂ (· * ·) (hr (place (j 2) k)) (h k)).trans (scaled16 _ _)

/-- What a grid point writes back is its block of the result. -/
theorem flushed5_eq (c : Dev nD) (t : Fin cfg0.N) :
    (dats m 0 c).flushed 5 t = ((cfg0.win 5).blk t).view.read (Elt Ideal) (GG m cosine c) := by
  rw [flushed5]
  funext j
  show out0_5 _ _ _ _ _ j = GG m cosine c (((cfg0.win 5).blk t).view.emb j)
  rw [emb5, out5_eq]
  exact half_eq m cosine 0 c t j fun k d => (congrArg (fun x => V m c main_v22 (ix2 k x)) (Fin.ext (Nat.zero_add _))).trans (cosines m c k d)

/-- Every index of the first result is in the block of its batch and its 1024 rows. -/
theorem covered5 (i : S4x4096x1024.Idx) :
    ∃ t : Fin cfg0.N, (cfg0.win 5).flush t = true ∧ i ∈ ((cfg0.win 5).blk t).view.set := by
  have h0 : (i 0).val < 4 := (i 0).isLt
  have h1 : (i 1).val < 4096 := (i 1).isLt
  refine ⟨(⟨(i 0).val * 4 + (i 1).val / 1024, by show _ < 16; omega⟩ : Fin cfg0.N), flush0_5 _, ?_⟩
  have h := ((cfg0.win 5).blk (⟨(i 0).val * 4 + (i 1).val / 1024, by show _ < 16; omega⟩ : Fin cfg0.N)).view.emb_mem_set
    (ix3 0 ⟨(i 1).val % 1024, Nat.mod_lt _ (by decide)⟩ (i 2))
  rw [emb5] at h
  refine Eq.mpr (congrArg (· ∈ _) ?_) h
  refine ext3 ?_ ?_ rfl
  · show (i 0).val = ((i 0).val * 4 + (i 1).val / 1024) / 4
    omega
  · show (i 1).val = ((i 0).val * 4 + (i 1).val / 1024) % 4 * 1024 + (i 1).val % 1024
    omega

/-- The result after the run. -/
theorem final5 (c : Dev nD) : (dats m 0 c).arrAt 5 cfg0.N = GG m cosine c :=
  (dats m 0 c).arrAt_eq_of_cover 5 (GG m cosine c) (fun t _ => flushed5_eq m c t) covered5

/-- What a grid point writes back is its block of the result. -/
theorem flushed6_eq (c : Dev nD) (t : Fin cfg0.N) :
    (dats m 0 c).flushed 6 t = ((cfg0.win 6).blk t).view.read (Elt Ideal) (GG m sine c) := by
  rw [flushed6]
  funext j
  show out0_6 _ _ _ _ _ j = GG m sine c (((cfg0.win 6).blk t).view.emb j)
  rw [emb6, out6_eq]
  exact half_eq m sine 256 c t j fun k d => sines m c k d

/-- Every index of the second result is in the block of its batch and its 1024 rows. -/
theorem covered6 (i : S4x4096x1024.Idx) :
    ∃ t : Fin cfg0.N, (cfg0.win 6).flush t = true ∧ i ∈ ((cfg0.win 6).blk t).view.set := by
  have h0 : (i 0).val < 4 := (i 0).isLt
  have h1 : (i 1).val < 4096 := (i 1).isLt
  refine ⟨(⟨(i 0).val * 4 + (i 1).val / 1024, by show _ < 16; omega⟩ : Fin cfg0.N), flush0_6 _, ?_⟩
  have h := ((cfg0.win 6).blk (⟨(i 0).val * 4 + (i 1).val / 1024, by show _ < 16; omega⟩ : Fin cfg0.N)).view.emb_mem_set
    (ix3 0 ⟨(i 1).val % 1024, Nat.mod_lt _ (by decide)⟩ (i 2))
  rw [emb6] at h
  refine Eq.mpr (congrArg (· ∈ _) ?_) h
  refine ext3 ?_ ?_ rfl
  · show (i 0).val = ((i 0).val * 4 + (i 1).val / 1024) / 4
    omega
  · show (i 1).val = ((i 0).val * 4 + (i 1).val / 1024) % 4 * 1024 + (i 1).val % 1024
    omega

/-- The result after the run. -/
theorem final6 (c : Dev nD) : (dats m 0 c).arrAt 6 cfg0.N = GG m sine c :=
  (dats m 0 c).arrAt_eq_of_cover 6 (GG m sine c) (fun t _ => flushed6_eq m c t) covered6

theorem ref_frame : Cert.quiescent_ChannelsRefIdeal := fun m ρ _ =>
  (θ_run _ _ _).mono (fun r h => ⟨fun c => (h c).2.2, sem_eq_zero_of_no_sems (by decide) r.2⟩) (Cert.ChannelsRefIdeal.Value.run m ρ)

theorem algebraic : Cert.algebraic_ChannelsIdeal_ChannelsRefIdeal := by
  intro m g m' g' _ hm
  refine ⟨fun c => GG m cosine c, fun c => GG m sine c,
    (θ_run defs _ _).mono (fun r h c => ⟨(h c).1.trans (final5 m c), (h c).2.1.trans (final6 m c), (h c).2.2⟩) (run_blocks m g), ?_⟩
  refine (θ_run _ _ _).mono (fun r h c => ⟨(h c).1.trans ?_, (h c).2.1.trans ?_, (h c).2.2⟩) (Cert.ChannelsRefIdeal.Value.run m' g')
  all_goals obtain ⟨h0, h1, h2⟩ := hm c
  · rw [Cert.ChannelsRefIdeal.Read.val_main_v58_eq, ref_re, h0, h1, h2]
    rfl
  · rw [Cert.ChannelsRefIdeal.Read.val_main_v60_eq, ref_im, h0, h1, h2]
    rfl

end Cert.Proof.Channels

end
-- ==== Proof.PositionsRun.lean ====
/- The transform over positions with the linear map after it: the kernel's blocks and the reference, both read at an index as `G` —
   the stream's entry plus its gate times the linear map of the real part of the transform. -/
module

public import proofs.«01_k».proof.Defs
public import proofs.«01_k».proof.Proof.Gen.PositionsIdeal.Value
public import proofs.«01_k».proof.Proof.Gen.PositionsRefIdeal.Run
public import proofs.«01_k».proof.Proof.Gen.PositionsRefIdeal.Read
public import proofs.«01_k».proof.Proof.FfnMidRun
public import proofs.«01_k».proof.Proof.Turn
public import Idealize.ShloMosaic.Adequacy

@[expose] public section

set_option maxRecDepth 16384

noncomputable section

namespace Cert.Proof.Positions

open Idealize.ShloMosaic Idealize.ShloMosaic.TcCoe Idealize.SL.Sem
open Cert.PositionsIdeal Cert.PositionsIdeal.Gen Cert.PositionsIdeal.Value
open Cert.Proof.FfnBlock (col)
open Cert.Proof.FfnMidRun (ext3)
open Cert.Proof.Turn (ang scaled64)

/-- One entry of the real part of the transform of the columns `a` and `b` (real and imaginary). -/
def re (n : Nat) (a b : Fin 4096 → EReal) : EReal :=
  Ideal.div (∑ k : Fin 4096, (Ideal.cos (ang 4096#32 0x45800000#32 n k.val) * a k + Ideal.sin (ang 4096#32 0x45800000#32 n k.val) * b k))
    (Ideal.ofBits .f32 0x42800000#32)

/-- The result array as one function of the arguments. -/
def G (x0 : Vec Ideal S4x4096x1024 .f32) (x1 x2 : Vec Ideal S4x4096x1024 .bf16) (x3 : Vec Ideal S16x1x9216 .f32)
    (x4 : Vec Ideal S1x1024x1024 .f32) (x5 : Vec Ideal S1x1024 .f32) : Vec Ideal S4x4096x1024 .f32 := fun i =>
  x0 (ix3 (i 0) (i 1) (i 2)) + col x3 5 (i 0) (i 2)
    * (∑ d : Fin 1024, re (i 1).val (fun k => x1 (ix3 (i 0) k d)) (fun k => x2 (ix3 (i 0) k d)) * x4 (ix3 0 d (i 2))
        + x5 (ix2 0 (i 2)))

section Reference
open Cert.PositionsRefIdeal.Read

variable (x0 : Vec Ideal S4x4096x1024 .f32) (x1 x2 : Vec Ideal S4x4096x1024 .bf16) (x3 : Vec Ideal S16x1x9216 .f32)
  (x4 : Vec Ideal S1x1024x1024 .f32) (x5 : Vec Ideal S1x1024 .f32)

theorem mod_apply (k : Fin 9) (b : Fin 4) (d : Fin 1024) : val_main_v3 (F := Ideal) x3 (ix4 b k 0 d) = col x3 k b d := by
  pointwise [val_main_v0, val_main_v1, val_main_v2, val_main_v3, col]

theorem ang_apply (n k : Fin 4096) : val_main_v13 (F := Ideal) (ix2 n k) = ang 4096#32 0x45800000#32 n.val k.val := by
  pointwise [val_main_v4, val_main_v5, val_main_v6, val_main_v7, val_main_c, val_main_v8, val_main_v9, val_main_cst, val_main_v10, val_main_v11, val_main_cst_0, val_main_v12, val_main_v13, ang]

theorem re_apply (b : Fin 4) (n : Fin 4096) (d : Fin 1024) :
    val_main_v33 (F := Ideal) x1 x2 (ix3 b n d) = re n.val (fun k => x1 (ix3 b k d)) (fun k => x2 (ix3 b k d)) := by
  have h := ang_apply n
  pointwise [val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_cst_2, re]
  simp only [h]

/-- The reference's result is `G` of its arguments. -/
theorem ref_eq : val_main_v44 (F := Ideal) x0 x1 x2 x3 x4 x5 = G x0 x1 x2 x3 x4 x5 := by
  funext i
  idx_vars i
  have h := re_apply x1 x2
  have hg := mod_apply x3 5
  pointwise [val_main_v44, val_main_v43, val_main_v42, val_main_v41, val_main_v40, val_main_v39, val_main_v38, val_main_v37, val_main_v36, val_main_v35, val_main_v34, G]
  simp only [h, hg]

end Reference

/-- A block's entry. -/
theorem out_apply (x0 : Vec Ideal S1x512x1024 .f32) (x1 x2 : Vec Ideal S1x4096x1024 .bf16) (x3 x4 : Vec Ideal S512x4096 .bf16)
    (x5 : Vec Ideal S1x1x1024 .f32) (x6 : Vec Ideal S1024x1024 .bf16) (x7 : Vec Ideal S1x1024 .f32) (r : Fin 512) (d : Fin 1024) :
    out0_8 x0 x1 x2 x3 x4 x5 x6 x7 (ix3 0 r d) = x0 (ix3 0 r d) + x5 (ix3 0 0 d)
      * (∑ e : Fin 1024, (∑ k : Fin 4096, x3 (ix2 r k) * x1 (ix3 0 k e) + ∑ k : Fin 4096, x4 (ix2 r k) * x2 (ix3 0 k e)) * x6 (ix2 e d)
          + x7 (ix2 0 d)) := by
  have hz : (![0, 0, 0] : Fin 3 → Nat) = fun _ => 0 := funext fun a => by fin_cases a <;> rfl
  have hz2 : (![0, 0] : Fin 2 → Nat) = fun _ => 0 := funext fun a => by fin_cases a <;> rfl
  unfold out0_8
  rw [View.canon_unit_zero hz, View.ld_unit_zero hz2, View.ld_unit_zero hz, View.ld_unit_zero hz2, View.ld_unit_zero hz,
    View.ld_unit_zero hz2, View.ld_unit_zero hz2, View.ld_unit_zero hz, View.ld_unit_zero hz]
  pointwise [k0_pay1]

variable (m : (ℓ : Loc nD τ sig) → Buf (Elt Ideal) ℓ) (ρ : Dev nD → PrngReg)

/-- Grid point `t`'s block indices: batch `t / 8`, rows `t % 8`; the modulation's column 5 of layer 1. -/
theorem idx : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 2) = t.val % 8 ∧ win0_3.index t (1 : Fin 2) = 0)
    ∧ (win0_4.index t (0 : Fin 2) = t.val % 8 ∧ win0_4.index t (1 : Fin 2) = 0)
    ∧ (win0_5.index t (0 : Fin 3) = 8 + t.val / 8 ∧ win0_5.index t (1 : Fin 3) = 0 ∧ win0_5.index t (2 : Fin 3) = 5)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val / 8 ∧ win0_8.index t (1 : Fin 3) = t.val % 8 ∧ win0_8.index t (2 : Fin 3) = 0) :=
  (by decide +kernel : ∀ t : Fin grid0.N, _)

theorem lt32 (t : Fin cfg0.N) : t.val < 32 := t.isLt

/-- The batch of a grid point, and the array row of row `r` of its block. -/
def bat (t : Fin cfg0.N) : Fin 4 := ⟨t.val / 8, by have := lt32 t; omega⟩
def row (t : Fin cfg0.N) (r : Fin 512) : Fin 4096 := ⟨t.val % 8 * 512 + r.val, by have := r.isLt; omega⟩

/-- The result array as a function of the arguments as launched. -/
def GG (c : Dev nD) : Vec Ideal S4x4096x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where the output window's block lies in the result array. -/
theorem emb8 (t : Fin cfg0.N) (j : S1x512x1024.Idx) :
    ((cfg0.win 8).blk t).view.emb j = ix3 (bat t) (row t (j 1)) (j 2) := by
  obtain ⟨-, -, -, -, -, -, -, -, e0, e1, e2⟩ := idx t
  have h0 : (j 0).val < 1 := (j 0).isLt
  refine ext3 ?_ ?_ ?_
  · show win0_8.index t (0 : Fin 3) * 1 + 1 * (j 0).val = t.val / 8
    omega
  · show win0_8.index t (1 : Fin 3) * 512 + 1 * (j 1).val = t.val % 8 * 512 + (j 1).val
    omega
  · show win0_8.index t (2 : Fin 3) * 1024 + 1 * (j 2).val = (j 2).val
    omega

/-! What the host operations leave in the arrays that the kernel reads. -/

theorem cosines (c : Dev nD) (n k : Fin 4096) : V m c main_v19 (ix2 n k)
    = Ideal.cos (ang 4096#32 0x45800000#32 n.val k.val) * Ideal.ofBits .f32 0x3C800000#32 := by
  unfold V ang
  rw [mul_comm (FloatOps.sitofp (F := Ideal) .f32 _)]
  after_reads_at

theorem sines (c : Dev nD) (n k : Fin 4096) : V m c main_v20 (ix2 n k)
    = Ideal.sin (ang 4096#32 0x45800000#32 n.val k.val) * Ideal.ofBits .f32 0x3C800000#32 := by
  unfold V ang
  rw [mul_comm (FloatOps.sitofp (F := Ideal) .f32 _)]
  after_reads_at

theorem weights (c : Dev nD) (k d : Fin 1024) : V m c main_v22 (ix2 k d) = m ((c : Thread nD τ).loc main_arg4) (ix3 0 k d) := by
  unfold V
  after_reads_at

theorem bias (c : Dev nD) (d : Fin 1024) : V m c main_v24 (ix2 0 d) = m ((c : Thread nD τ).loc main_arg5) (ix2 0 d) := by
  unfold V
  after_reads_at

/-! Each input window's block, read at an index, as an element of an argument. -/

theorem blk0 (c : Dev nD) (t : Fin cfg0.N) (r : Fin 512) (k : Fin 1024) :
    iblk m c 0 t (ix3 0 r k) = m ((c : Thread nD τ).loc main_arg0) (ix3 (bat t) (row t r) k) := by
  obtain ⟨⟨e0, e1, e2⟩, -⟩ := idx t
  have e : ((cfg0.win 0).blk t).view.emb (ix3 0 r k) = ix3 (bat t) (row t r) k := by
    refine ext3 ?_ ?_ ?_
    · show win0_0.index t (0 : Fin 3) * 1 + 1 * (0) = t.val / 8
      omega
    · show win0_0.index t (1 : Fin 3) * 512 + 1 * (r.val) = t.val % 8 * 512 + r.val
      omega
    · show win0_0.index t (2 : Fin 3) * 1024 + 1 * (k.val) = k.val
      omega
  show V m c main_arg0 (((cfg0.win 0).blk t).view.emb (ix3 0 r k)) = _
  rw [e]
  exact congrFun (V_main_arg0 m c) _

theorem blk1 (c : Dev nD) (t : Fin cfg0.N) (r : Fin 4096) (k : Fin 1024) :
    iblk m c 1 t (ix3 0 r k) = m ((c : Thread nD τ).loc main_arg1) (ix3 (bat t) r k) := by
  obtain ⟨-, ⟨e0, e1, e2⟩, -⟩ := idx t
  have e : ((cfg0.win 1).blk t).view.emb (ix3 0 r k) = ix3 (bat t) r k := by
    refine ext3 ?_ ?_ ?_
    · show win0_1.index t (0 : Fin 3) * 1 + 1 * (0) = t.val / 8
      omega
    · show win0_1.index t (1 : Fin 3) * 4096 + 1 * (r.val) = r.val
      omega
    · show win0_1.index t (2 : Fin 3) * 1024 + 1 * (k.val) = k.val
      omega
  show V m c main_arg1 (((cfg0.win 1).blk t).view.emb (ix3 0 r k)) = _
  rw [e]
  exact congrFun (V_main_arg1 m c) _

theorem blk2 (c : Dev nD) (t : Fin cfg0.N) (r : Fin 4096) (k : Fin 1024) :
    iblk m c 2 t (ix3 0 r k) = m ((c : Thread nD τ).loc main_arg2) (ix3 (bat t) r k) := by
  obtain ⟨-, -, ⟨e0, e1, e2⟩, -⟩ := idx t
  have e : ((cfg0.win 2).blk t).view.emb (ix3 0 r k) = ix3 (bat t) r k := by
    refine ext3 ?_ ?_ ?_
    · show win0_2.index t (0 : Fin 3) * 1 + 1 * (0) = t.val / 8
      omega
    · show win0_2.index t (1 : Fin 3) * 4096 + 1 * (r.val) = r.val
      omega
    · show win0_2.index t (2 : Fin 3) * 1024 + 1 * (k.val) = k.val
      omega
  show V m c main_arg2 (((cfg0.win 2).blk t).view.emb (ix3 0 r k)) = _
  rw [e]
  exact congrFun (V_main_arg2 m c) _

theorem blk3 (c : Dev nD) (t : Fin cfg0.N) (r : Fin 512) (k : Fin 4096) :
    iblk m c 3 t (ix2 r k) = Ideal.cos (ang 4096#32 0x45800000#32 (row t r).val k.val) * Ideal.ofBits .f32 0x3C800000#32 := by
  obtain ⟨-, -, -, ⟨e0, e1⟩, -⟩ := idx t
  have e : ((cfg0.win 3).blk t).view.emb (ix2 r k) = ix2 (row t r) k := by
    funext a
    refine Fin.ext ?_
    fin_cases a
    · show win0_3.index t (0 : Fin 2) * 512 + 1 * (r.val) = t.val % 8 * 512 + r.val
      omega
    · show win0_3.index t (1 : Fin 2) * 4096 + 1 * (k.val) = k.val
      omega
  show V m c main_v19 (((cfg0.win 3).blk t).view.emb (ix2 r k)) = _
  rw [e]
  exact cosines m c _ _

theorem blk4 (c : Dev nD) (t : Fin cfg0.N) (r : Fin 512) (k : Fin 4096) :
    iblk m c 4 t (ix2 r k) = Ideal.sin (ang 4096#32 0x45800000#32 (row t r).val k.val) * Ideal.ofBits .f32 0x3C800000#32 := by
  obtain ⟨-, -, -, -, ⟨e0, e1⟩, -⟩ := idx t
  have e : ((cfg0.win 4).blk t).view.emb (ix2 r k) = ix2 (row t r) k := by
    funext a
    refine Fin.ext ?_
    fin_cases a
    · show win0_4.index t (0 : Fin 2) * 512 + 1 * (r.val) = t.val % 8 * 512 + r.val
      omega
    · show win0_4.index t (1 : Fin 2) * 4096 + 1 * (k.val) = k.val
      omega
  show V m c main_v20 (((cfg0.win 4).blk t).view.emb (ix2 r k)) = _
  rw [e]
  exact sines m c _ _

theorem blk5 (c : Dev nD) (t : Fin cfg0.N) (k : Fin 1024) :
    iblk m c 5 t (ix3 0 0 k) = col (m ((c : Thread nD τ).loc main_arg3)) 5 (bat t) k := by
  obtain ⟨-, -, -, -, -, ⟨e0, e1, e2⟩, -⟩ := idx t
  have e : ((cfg0.win 5).blk t).view.emb (ix3 0 0 k) = ix3 ⟨8 + (bat t).val, by have := (bat t).isLt; omega⟩ 0 ⟨(5 : Fin 9).val * 1024 + k.val, by have := k.isLt; have : (5 : Fin 9).val = 5 := rfl; omega⟩ := by
    refine ext3 ?_ ?_ ?_
    · show win0_5.index t (0 : Fin 3) * 1 + 1 * (0) = 8 + t.val / 8
      omega
    · show win0_5.index t (1 : Fin 3) * 1 + 1 * (0) = 0
      omega
    · show win0_5.index t (2 : Fin 3) * 1024 + 1 * (k.val) = 5 * 1024 + k.val
      omega
  show V m c main_arg3 (((cfg0.win 5).blk t).view.emb (ix3 0 0 k)) = _
  rw [e]
  exact congrFun (V_main_arg3 m c) _

theorem blk6 (c : Dev nD) (t : Fin cfg0.N) (k d : Fin 1024) :
    iblk m c 6 t (ix2 k d) = m ((c : Thread nD τ).loc main_arg4) (ix3 0 k d) := by
  obtain ⟨-, -, -, -, -, -, ⟨e0, e1⟩, -⟩ := idx t
  have e : ((cfg0.win 6).blk t).view.emb (ix2 k d) = ix2 k d := by
    funext a
    refine Fin.ext ?_
    fin_cases a
    · show win0_6.index t (0 : Fin 2) * 1024 + 1 * (k.val) = k.val
      omega
    · show win0_6.index t (1 : Fin 2) * 1024 + 1 * (d.val) = d.val
      omega
  show V m c main_v22 (((cfg0.win 6).blk t).view.emb (ix2 k d)) = _
  rw [e]
  exact weights m c k d

theorem blk7 (c : Dev nD) (t : Fin cfg0.N) (d : Fin 1024) :
    iblk m c 7 t (ix2 0 d) = m ((c : Thread nD τ).loc main_arg5) (ix2 0 d) := by
  obtain ⟨-, -, -, -, -, -, -, ⟨e0, e1⟩, -⟩ := idx t
  have e : ((cfg0.win 7).blk t).view.emb (ix2 0 d) = ix2 0 d := by
    funext a
    refine Fin.ext ?_
    fin_cases a
    · show win0_7.index t (0 : Fin 2) * 1 + 1 * (0) = 0
      omega
    · show win0_7.index t (1 : Fin 2) * 1024 + 1 * (d.val) = d.val
      omega
  show V m c main_v24 (((cfg0.win 7).blk t).view.emb (ix2 0 d)) = _
  rw [e]
  exact bias m c d

/-- A block's contents, from the blocks of the arguments. -/
theorem block_eq (c : Dev nD) (t : Fin cfg0.N) (j : S1x512x1024.Idx) :
    out0_8 (iblk m c 0 t) (iblk m c 1 t) (iblk m c 2 t) (iblk m c 3 t) (iblk m c 4 t) (iblk m c 5 t) (iblk m c 6 t) (iblk m c 7 t) j
      = GG m c (ix3 (bat t) (row t (j 1)) (j 2)) := by
  obtain ⟨r, hr⟩ : ∃ r : Fin 512, r = j 1 := ⟨_, rfl⟩
  obtain ⟨d, hd⟩ : ∃ d : Fin 1024, d = j 2 := ⟨_, rfl⟩
  have hj : j = ix3 0 r d := by
    subst hr hd
    refine ext3 ?_ rfl rfl
    have := (j 0).isLt
    change (j 0).val < 1 at this
    show (j 0).val = 0
    omega
  rw [hj, out_apply]
  simp only [blk0, blk1, blk2, blk3, blk4, blk5, blk6, blk7, scaled64]
  rfl

/-- What a grid point writes back is its block of `G`. -/
theorem flushed_eq (c : Dev nD) (t : Fin cfg0.N) :
    (dats m 0 c).flushed 8 t = ((cfg0.win 8).blk t).view.read (Elt Ideal) (GG m c) := by
  rw [flushed8]
  funext j
  show out0_8 _ _ _ _ _ _ _ _ j = GG m c (((cfg0.win 8).blk t).view.emb j)
  rw [emb8]
  exact block_eq m c t j

/-- Every index of the result array is in the block of its batch and its 512 rows. -/
theorem covered (i : S4x4096x1024.Idx) :
    ∃ t : Fin cfg0.N, (cfg0.win 8).flush t = true ∧ i ∈ ((cfg0.win 8).blk t).view.set := by
  have h0 : (i 0).val < 4 := (i 0).isLt
  have h1 : (i 1).val < 4096 := (i 1).isLt
  refine ⟨(⟨(i 0).val * 8 + (i 1).val / 512, by show _ < 32; omega⟩ : Fin cfg0.N), flush0_8 _, ?_⟩
  have h := ((cfg0.win 8).blk (⟨(i 0).val * 8 + (i 1).val / 512, by show _ < 32; omega⟩ : Fin cfg0.N)).view.emb_mem_set
    (ix3 0 ⟨(i 1).val % 512, Nat.mod_lt _ (by decide)⟩ (i 2))
  rw [emb8] at h
  refine Eq.mpr (congrArg (· ∈ _) ?_) h
  refine ext3 ?_ ?_ rfl
  · show (i 0).val = ((i 0).val * 8 + (i 1).val / 512) / 8
    omega
  · show (i 1).val = ((i 0).val * 8 + (i 1).val / 512) % 8 * 512 + (i 1).val % 512
    omega

/-- The result array after the run. -/
theorem final (c : Dev nD) : (dats m 0 c).arrAt 8 cfg0.N = GG m c :=
  (dats m 0 c).arrAt_eq_of_cover 8 (GG m c) (fun t _ => flushed_eq m c t) covered

theorem ref_frame : Cert.quiescent_PositionsRefIdeal := fun m ρ _ =>
  (θ_run _ _ _).mono (fun r h => ⟨fun c => (h c).2, sem_eq_zero_of_no_sems (by decide) r.2⟩) (Cert.PositionsRefIdeal.Value.run m ρ)

theorem algebraic : Cert.algebraic_PositionsIdeal_PositionsRefIdeal := by
  intro m g m' g' _ hm
  refine ⟨fun c => GG m c, (θ_run defs _ _).mono (fun r h c => ⟨(h c).1.trans (final m c), (h c).2⟩) (run_blocks m g), ?_⟩
  refine (θ_run _ _ _).mono (fun r h c => ⟨(h c).1.trans ?_, (h c).2⟩) (Cert.PositionsRefIdeal.Value.run m' g')
  obtain ⟨h0, h1, h2, h3, h4, h5⟩ := hm c
  rw [Cert.PositionsRefIdeal.Read.val_main_v44_eq, ref_eq, h0, h1, h2, h3, h4, h5]
  rfl

end Cert.Proof.Positions

end
-- ==== Proof.AdaRun.lean ====
/- The modulation vectors: the kernel's blocks and the reference, both read at an index as `G` — the bias plus the product of the
   conditioning's row through its sigmoid with the weights. -/
module

public import proofs.«01_k».proof.Defs
public import proofs.«01_k».proof.Proof.Gen.AdaIdeal.Value
public import proofs.«01_k».proof.Proof.Gen.AdaRefIdeal.Run
public import proofs.«01_k».proof.Proof.Gen.AdaRefIdeal.Read
public import proofs.«01_k».proof.Proof.FfnMidRun
public import Idealize.ShloMosaic.Adequacy

@[expose] public section

set_option maxRecDepth 16384

noncomputable section

namespace Cert.Proof.Ada

open Idealize.ShloMosaic Idealize.ShloMosaic.TcCoe Idealize.SL.Sem
open Cert.AdaIdeal Cert.AdaIdeal.Gen Cert.AdaIdeal.Value
open Cert.Proof.FfnMidRun (ext3)

/-- A value through its sigmoid. -/
def swish (x : EReal) : EReal := x * Ideal.div 1 (1 + Ideal.exp (-x))

/-- The rows of conditioning: the batch's, the context's, and zeros. -/
abbrev rows (x0 : Vec Ideal S4x1024 .f32) (x1 : Vec Ideal S1024 .f32) : Vec Ideal S8x1024 .f32 :=
  Cert.AdaRefIdeal.Read.val_main_v2 (F := Ideal) x0 x1

/-- The result array as one function of the arguments. -/
def G (x0 : Vec Ideal S4x1024 .f32) (x1 : Vec Ideal S1024 .f32) (x2 : Vec Ideal S2x1024x9216 .f32)
    (x3 : Vec Ideal S2x9216 .f32) : Vec Ideal S2x8x9216 .f32 := fun i =>
  ∑ k : Fin 1024, swish (rows x0 x1 (ix2 (i 1) k)) * x2 (ix3 (i 0) k (i 2)) + x3 (ix2 (i 0) (i 2))

section Reference
open Cert.AdaRefIdeal.Read

variable (x0 : Vec Ideal S4x1024 .f32) (x1 : Vec Ideal S1024 .f32) (x2 : Vec Ideal S2x1024x9216 .f32)
  (x3 : Vec Ideal S2x9216 .f32)

theorem swish_apply (r : Fin 8) (k : Fin 1024) :
    val_main_v3 (F := Ideal) x0 x1 (ix2 r k) = swish (rows x0 x1 (ix2 r k)) := by
  pointwise [val_main_v3, val_main_call0_v0, val_main_call0_v1, val_main_call0_v2, val_main_call0_v3, val_main_call0_v4, val_main_call0_v5, val_main_call0_cst, val_main_call0_cst_0, swish, rows]

/-- The reference's result is `G` of its arguments. -/
theorem ref_eq : val_main_v8 (F := Ideal) x0 x1 x2 x3 = G x0 x1 x2 x3 := by
  funext i
  idx_vars i
  have h := swish_apply x0 x1
  pointwise [val_main_v8, val_main_v7, val_main_v6, val_main_v5, val_main_v4, G]
  simp only [h, mul_comm]

end Reference

/-- A block's entry. -/
theorem out_apply (x0 : Vec Ideal S8x1024 .f32) (x1 : Vec Ideal S1x1024x1536 .f32) (x2 : Vec Ideal S1x1x1536 .f32)
    (r : Fin 8) (d : Fin 1536) :
    out0_3 x0 x1 x2 (ix3 0 r d) = ∑ k : Fin 1024, swish (x0 (ix2 r k)) * x1 (ix3 0 k d) + x2 (ix3 0 0 d) := by
  have hz : (![0, 0, 0] : Fin 3 → Nat) = fun _ => 0 := funext fun a => by fin_cases a <;> rfl
  have hz2 : (![0, 0] : Fin 2 → Nat) = fun _ => 0 := funext fun a => by fin_cases a <;> rfl
  unfold out0_3
  rw [View.canon_unit_zero hz, View.ld_unit_zero hz2, View.ld_unit_zero hz, View.ld_unit_zero hz]
  pointwise [k0_pay1, swish]
  simp only [zero_sub]

variable (m : (ℓ : Loc nD τ sig) → Buf (Elt Ideal) ℓ) (ρ : Dev nD → PrngReg)

/-- Grid point `t`'s block indices: layer `t / 6`, columns `t % 6`. -/
theorem idx : ∀ t : Fin cfg0.N,
    (win0_0.index t (0 : Fin 2) = 0 ∧ win0_0.index t (1 : Fin 2) = 0)
    ∧ (win0_1.index t (0 : Fin 3) = t.val / 6 ∧ win0_1.index t (1 : Fin 3) = 0 ∧ win0_1.index t (2 : Fin 3) = t.val % 6)
    ∧ (win0_2.index t (0 : Fin 3) = t.val / 6 ∧ win0_2.index t (1 : Fin 3) = 0 ∧ win0_2.index t (2 : Fin 3) = t.val % 6)
    ∧ (win0_3.index t (0 : Fin 3) = t.val / 6 ∧ win0_3.index t (1 : Fin 3) = 0 ∧ win0_3.index t (2 : Fin 3) = t.val % 6) :=
  (by decide +kernel : ∀ t : Fin grid0.N, _)

theorem lt12 (t : Fin cfg0.N) : t.val < 12 := t.isLt

/-- The layer of a grid point, and the array column of column `d` of its block. -/
def lay (t : Fin cfg0.N) : Fin 2 := ⟨t.val / 6, by have := lt12 t; omega⟩
def colm (t : Fin cfg0.N) (d : Fin 1536) : Fin 9216 := ⟨t.val % 6 * 1536 + d.val, by have := d.isLt; omega⟩

/-- The result array as a function of the arguments as launched. -/
def GG (c : Dev nD) : Vec Ideal S2x8x9216 .f32 :=
  G (m ((c : Thread nD τ).loc main_arg0)) (m ((c : Thread nD τ).loc main_arg1)) (m ((c : Thread nD τ).loc main_arg2))
    (m ((c : Thread nD τ).loc main_arg3))

/-- Where the output window's block lies in the result array. -/
theorem emb3 (t : Fin cfg0.N) (j : S1x8x1536.Idx) :
    ((cfg0.win 3).blk t).view.emb j = ix3 (lay t) (j 1) (colm t (j 2)) := by
  obtain ⟨-, -, -, e0, e1, e2⟩ := idx t
  have h0 : (j 0).val < 1 := (j 0).isLt
  refine ext3 ?_ ?_ ?_
  · show win0_3.index t (0 : Fin 3) * 1 + 1 * (j 0).val = t.val / 6
    omega
  · show win0_3.index t (1 : Fin 3) * 8 + 1 * (j 1).val = (j 1).val
    omega
  · show win0_3.index t (2 : Fin 3) * 1536 + 1 * (j 2).val = t.val % 6 * 1536 + (j 2).val
    omega

/-- The rows of conditioning as the kernel's region finds them. -/
theorem V_rows (c : Dev nD) :
    V m c main_v2 = rows (m ((c : Thread nD τ).loc main_arg0)) (m ((c : Thread nD τ).loc main_arg1)) := by
  unfold V
  after_reads_at
  rfl

/-- The bias as the kernel reads it. -/
theorem V_bias (c : Dev nD) (l : Fin 2) (d : Fin 9216) :
    V m c main_v3 (ix3 l 0 d) = m ((c : Thread nD τ).loc main_arg3) (ix2 l d) := by
  unfold V
  after_reads_at

/-! Each input window's block, read at an index, as an element of an argument. -/

theorem blk0 (c : Dev nD) (t : Fin cfg0.N) (r : Fin 8) (k : Fin 1024) :
    iblk m c 0 t (ix2 r k) = rows (m ((c : Thread nD τ).loc main_arg0)) (m ((c : Thread nD τ).loc main_arg1)) (ix2 r k) := by
  obtain ⟨⟨e0, e1⟩, -⟩ := idx t
  have e : ((cfg0.win 0).blk t).view.emb (ix2 r k) = ix2 r k := by
    funext a
    refine Fin.ext ?_
    fin_cases a
    · show win0_0.index t (0 : Fin 2) * 8 + 1 * (r.val) = r.val
      omega
    · show win0_0.index t (1 : Fin 2) * 1024 + 1 * (k.val) = k.val
      omega
  show V m c main_v2 (((cfg0.win 0).blk t).view.emb (ix2 r k)) = _
  rw [e]
  exact congrFun (V_rows m c) _

theorem blk1 (c : Dev nD) (t : Fin cfg0.N) (k : Fin 1024) (d : Fin 1536) :
    iblk m c 1 t (ix3 0 k d) = m ((c : Thread nD τ).loc main_arg2) (ix3 (lay t) k (colm t d)) := by
  obtain ⟨-, ⟨e0, e1, e2⟩, -⟩ := idx t
  have e : ((cfg0.win 1).blk t).view.emb (ix3 0 k d) = ix3 (lay t) k (colm t d) := by
    refine ext3 ?_ ?_ ?_
    · show win0_1.index t (0 : Fin 3) * 1 + 1 * (0) = t.val / 6
      omega
    · show win0_1.index t (1 : Fin 3) * 1024 + 1 * (k.val) = k.val
      omega
    · show win0_1.index t (2 : Fin 3) * 1536 + 1 * (d.val) = t.val % 6 * 1536 + d.val
      omega
  show V m c main_arg2 (((cfg0.win 1).blk t).view.emb (ix3 0 k d)) = _
  rw [e]
  exact congrFun (V_main_arg2 m c) _

theorem blk2 (c : Dev nD) (t : Fin cfg0.N) (d : Fin 1536) :
    iblk m c 2 t (ix3 0 0 d) = m ((c : Thread nD τ).loc main_arg3) (ix2 (lay t) (colm t d)) := by
  obtain ⟨-, -, ⟨e0, e1, e2⟩, -⟩ := idx t
  have e : ((cfg0.win 2).blk t).view.emb (ix3 0 0 d) = ix3 (lay t) 0 (colm t d) := by
    refine ext3 ?_ ?_ ?_
    · show win0_2.index t (0 : Fin 3) * 1 + 1 * (0) = t.val / 6
      omega
    · show win0_2.index t (1 : Fin 3) * 1 + 1 * (0) = 0
      omega
    · show win0_2.index t (2 : Fin 3) * 1536 + 1 * (d.val) = t.val % 6 * 1536 + d.val
      omega
  show V m c main_v3 (((cfg0.win 2).blk t).view.emb (ix3 0 0 d)) = _
  rw [e]
  exact V_bias m c _ _

/-- A block's contents, from the blocks of the arguments. -/
theorem block_eq (c : Dev nD) (t : Fin cfg0.N) (j : S1x8x1536.Idx) :
    out0_3 (iblk m c 0 t) (iblk m c 1 t) (iblk m c 2 t) j = GG m c (ix3 (lay t) (j 1) (colm t (j 2))) := by
  obtain ⟨r, hr⟩ : ∃ r : Fin 8, r = j 1 := ⟨_, rfl⟩
  obtain ⟨d, hd⟩ : ∃ d : Fin 1536, d = j 2 := ⟨_, rfl⟩
  have hj : j = ix3 0 r d := by
    subst hr hd
    refine ext3 ?_ rfl rfl
    have := (j 0).isLt
    change (j 0).val < 1 at this
    show (j 0).val = 0
    omega
  rw [hj, out_apply]
  simp only [blk0, blk1, blk2]
  rfl

/-- What a grid point writes back is its block of `G`. -/
theorem flushed_eq (c : Dev nD) (t : Fin cfg0.N) :
    (dats m 0 c).flushed 3 t = ((cfg0.win 3).blk t).view.read (Elt Ideal) (GG m c) := by
  rw [flushed3]
  funext j
  show out0_3 _ _ _ j = GG m c (((cfg0.win 3).blk t).view.emb j)
  rw [emb3]
  exact block_eq m c t j

/-- Every index of the result array is in the block of its layer and its 1536 columns. -/
theorem covered (i : S2x8x9216.Idx) :
    ∃ t : Fin cfg0.N, (cfg0.win 3).flush t = true ∧ i ∈ ((cfg0.win 3).blk t).view.set := by
  have h0 : (i 0).val < 2 := (i 0).isLt
  have h2 : (i 2).val < 9216 := (i 2).isLt
  refine ⟨(⟨(i 0).val * 6 + (i 2).val / 1536, by show _ < 12; omega⟩ : Fin cfg0.N), flush0_3 _, ?_⟩
  have h := ((cfg0.win 3).blk (⟨(i 0).val * 6 + (i 2).val / 1536, by show _ < 12; omega⟩ : Fin cfg0.N)).view.emb_mem_set
    (ix3 0 (i 1) ⟨(i 2).val % 1536, Nat.mod_lt _ (by decide)⟩)
  rw [emb3] at h
  refine Eq.mpr (congrArg (· ∈ _) ?_) h
  refine ext3 ?_ rfl ?_
  · show (i 0).val = ((i 0).val * 6 + (i 2).val / 1536) / 6
    omega
  · show (i 2).val = ((i 0).val * 6 + (i 2).val / 1536) % 6 * 1536 + (i 2).val % 1536
    omega

/-- The result array after the run. -/
theorem final (c : Dev nD) : (dats m 0 c).arrAt 3 cfg0.N = GG m c :=
  (dats m 0 c).arrAt_eq_of_cover 3 (GG m c) (fun t _ => flushed_eq m c t) covered

theorem ref_frame : Cert.quiescent_AdaRefIdeal := fun m ρ _ =>
  (θ_run _ _ _).mono (fun r h => ⟨fun c => (h c).2, sem_eq_zero_of_no_sems (by decide) r.2⟩) (Cert.AdaRefIdeal.Value.run m ρ)

theorem algebraic : Cert.algebraic_AdaIdeal_AdaRefIdeal := by
  intro m g m' g' _ hm
  refine ⟨fun c => GG m c, (θ_run defs _ _).mono (fun r h c => ⟨(h c).1.trans (final m c), (h c).2⟩) (run_blocks m g), ?_⟩
  refine (θ_run _ _ _).mono (fun r h c => ⟨(h c).1.trans ?_, (h c).2⟩) (Cert.AdaRefIdeal.Value.run m' g')
  obtain ⟨h0, h1, h2, h3⟩ := hm c
  rw [Cert.AdaRefIdeal.Read.val_main_v8_eq, ref_eq, h0, h1, h2, h3]
  rfl

end Cert.Proof.Ada

end
-- ==== Proof.lean ====
module

public import proofs.«01_k».proof.Defs
public import proofs.«01_k».proof.Proof.Gen.Natten
public import proofs.«01_k».proof.Proof.Gen.Natten.Frame
public import proofs.«01_k».proof.Proof.Gen.NattenIdeal
public import proofs.«01_k».proof.Proof.Gen.NattenIdeal.Frame
public import proofs.«01_k».proof.Proof.Gen.NattenRefIdeal
public import proofs.«01_k».proof.Proof.NattenClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.FfnClaim
public import proofs.«01_k».proof.Proof.Gen.FfnMid
public import proofs.«01_k».proof.Proof.Gen.FfnMid.Frame
public import proofs.«01_k».proof.Proof.Gen.FfnMidIdeal
public import proofs.«01_k».proof.Proof.Gen.FfnMidIdeal.Frame
public import proofs.«01_k».proof.Proof.Gen.FfnMidRefIdeal
public import proofs.«01_k».proof.Proof.FfnMidClaim
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.Channels
public import proofs.«01_k».proof.Proof.Gen.Channels.Frame
public import proofs.«01_k».proof.Proof.Gen.ChannelsIdeal
public import proofs.«01_k».proof.Proof.Gen.ChannelsIdeal.Frame
public import proofs.«01_k».proof.Proof.Gen.ChannelsRefIdeal
public import proofs.«01_k».proof.Proof.Gen.Positions
public import proofs.«01_k».proof.Proof.Gen.Positions.Frame
public import proofs.«01_k».proof.Proof.Gen.PositionsIdeal
public import proofs.«01_k».proof.Proof.Gen.PositionsIdeal.Frame
public import proofs.«01_k».proof.Proof.Gen.PositionsRefIdeal
public import proofs.«01_k».proof.Proof.ProjRun
public import proofs.«01_k».proof.Proof.OutProjRun
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.ChannelsRun
public import proofs.«01_k».proof.Proof.PositionsRun
public import proofs.«01_k».proof.Proof.AdaRun

@[expose] public section

noncomputable section

namespace Cert.Proof

open Idealize.ShloMosaic Idealize.SL.Sem

theorem claim : Cert.Claim :=
  ⟨Cert.Natten.Gen.facts, Cert.NattenIdeal.Gen.facts, Cert.NattenRefIdeal.Gen.facts, Cert.Ffn.Gen.facts, Cert.FfnIdeal.Gen.facts,
    Cert.FfnRefIdeal.Gen.facts, Cert.FfnMid.Gen.facts, Cert.FfnMidIdeal.Gen.facts, Cert.FfnMidRefIdeal.Gen.facts,
    Cert.Proj.Gen.facts, Cert.ProjIdeal.Gen.facts, Cert.ProjRefIdeal.Gen.facts,
    Cert.OutProj.Gen.facts, Cert.OutProjIdeal.Gen.facts, Cert.OutProjRefIdeal.Gen.facts,
    Cert.Channels.Gen.facts, Cert.ChannelsIdeal.Gen.facts, Cert.ChannelsRefIdeal.Gen.facts,
    Cert.Positions.Gen.facts, Cert.PositionsIdeal.Gen.facts, Cert.PositionsRefIdeal.Gen.facts,
    Cert.Ada.Gen.facts, Cert.AdaIdeal.Gen.facts, Cert.AdaRefIdeal.Gen.facts, NattenPre.facts,
    fun m ρ _ => Cert.Natten.Gen.frame m ρ, fun m ρ _ => Cert.NattenIdeal.Gen.frame m ρ, fun m ρ _ => Cert.NattenIdeal.Gen.frame m ρ,
    NattenClaim.ref_frame, fun m ρ _ => NattenClaim.ref_frame m ρ trivial,
    fun m ρ _ => Cert.Ffn.Gen.frame m ρ, fun m ρ _ => Cert.FfnIdeal.Gen.frame m ρ, FfnClaim.ref_frame,
    fun m ρ _ => Cert.FfnMid.Gen.frame m ρ, fun m ρ _ => Cert.FfnMidIdeal.Gen.frame m ρ, FfnMidClaim.ref_frame,
    fun m ρ _ => Cert.Proj.Gen.frame m ρ, fun m ρ _ => Cert.ProjIdeal.Gen.frame m ρ, Proj.ref_frame,
    fun m ρ _ => Cert.OutProj.Gen.frame m ρ, fun m ρ _ => Cert.OutProjIdeal.Gen.frame m ρ, OutProj.ref_frame,
    fun m ρ _ => Cert.Channels.Gen.frame m ρ, fun m ρ _ => Cert.ChannelsIdeal.Gen.frame m ρ, Channels.ref_frame,
    fun m ρ _ => Cert.Positions.Gen.frame m ρ, fun m ρ _ => Cert.PositionsIdeal.Gen.frame m ρ, Positions.ref_frame,
    fun m ρ _ => Cert.Ada.Gen.frame m ρ, fun m ρ _ => Cert.AdaIdeal.Gen.frame m ρ, Ada.ref_frame,
    IdealRules.named_const.statement Cert.NattenIdeal.κ "mask" .f32 0xF149F2CA#32 ⊥ rfl, NattenClaim.algebraic,
    trivial, FfnClaim.algebraic, trivial, FfnMidClaim.algebraic,
    trivial, Proj.algebraic, trivial, OutProj.algebraic, trivial, Channels.algebraic, trivial, Positions.algebraic,
    trivial, Ada.algebraic⟩

end Cert.Proof

end
